-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnReferenceIdeal (m : (ℓ : Loc Cert.AdalnReferenceIdeal.nD Cert.AdalnReferenceIdeal.τ Cert.AdalnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnReferenceIdeal [hAdalnReferenceIdeal : Cert.AdalnReferenceIdeal.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_weights [hKernelIdeal : Cert.KernelIdeal.Facts] [hReferenceIdeal : Cert.ReferenceIdeal.Facts] [hOn_weights : Cert.On_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 512, 2048]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v5) i = v0 c i)
          ∧ (∀ i : (⟨2, ![1024, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v4_1) i = v1 c i)
          ∧ (∀ i : (⟨2, ![1024, 2816]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v4_2) i = v2 c i)
          ∧ (∀ i : (⟨2, ![1024, 2816]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v4_3) i = v3 c i)
          ∧ (∀ i : (⟨2, ![2816, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 i = 1#1 → r.2.mem ((c.tc : Thread Cert.KernelIdeal.nD Cert.KernelIdeal.τ).loc Cert.KernelIdeal.main_v4_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 512, 2048]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v84) i = v0 c i)
          ∧ (∀ i : (⟨2, ![1024, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v87) i = v1 c i)
          ∧ (∀ i : (⟨2, ![1024, 2816]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v90) i = v2 c i)
          ∧ (∀ i : (⟨2, ![1024, 2816]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.ReferenceIdeal.nD Cert.ReferenceIdeal.τ).loc Cert.ReferenceIdeal.main_v93) i = v3 c i)
          ∧ (∀ i : (⟨2, ![2816, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 i = 1#1 → r.2.mem ((c.tc : Thread Cert.ReferenceIdeal.nD Cert.ReferenceIdeal.τ).loc Cert.ReferenceIdeal.main_v96) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v85) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10))

def preserves_Adaln_AdalnIdeal : Prop :=
  True

def algebraic_AdalnIdeal_AdalnReferenceIdeal [hAdalnIdeal : Cert.AdalnIdeal.Facts] [hAdalnReferenceIdeal : Cert.AdalnReferenceIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnReferenceIdeal.nD Cert.AdalnReferenceIdeal.τ Cert.AdalnReferenceIdeal.sig) → Buf (Elt Ideal) ℓ) (g' : Dev Cert.AdalnReferenceIdeal.nD → PrngReg), Pre_AdalnIdeal m →
    (∀ c : Dev Cert.AdalnIdeal.nD,
      m' ((c.tc : Thread Cert.AdalnReferenceIdeal.nD Cert.AdalnReferenceIdeal.τ).loc Cert.AdalnReferenceIdeal.main_arg0) = m ((c.tc : Thread Cert.AdalnIdeal.nD Cert.AdalnIdeal.τ).loc Cert.AdalnIdeal.main_arg0)
      ∧ m' ((c.tc : Thread Cert.AdalnReferenceIdeal.nD Cert.AdalnReferenceIdeal.τ).loc Cert.AdalnReferenceIdeal.main_arg1) = m ((c.tc : Thread Cert.AdalnIdeal.nD Cert.AdalnIdeal.τ).loc Cert.AdalnIdeal.main_arg1)
      ∧ m' ((c.tc : Thread Cert.AdalnReferenceIdeal.nD Cert.AdalnReferenceIdeal.τ).loc Cert.AdalnReferenceIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnReferenceIdeal.defs (F := Ideal)) (onTc (τ := Cert.AdalnReferenceIdeal.τ) (Cert.AdalnReferenceIdeal.main (F := Ideal))) ⟨m', fun _ => 0, g'⟩ (fun r => ∀ c : Dev Cert.AdalnReferenceIdeal.nD,
          r.2.mem ((c.tc : Thread Cert.AdalnReferenceIdeal.nD Cert.AdalnReferenceIdeal.τ).loc Cert.AdalnReferenceIdeal.main_v5) = v0 c
          ∧ r.2.mem ((c.tc : Thread Cert.AdalnReferenceIdeal.nD Cert.AdalnReferenceIdeal.τ).loc Cert.AdalnReferenceIdeal.main_arg0) = m' ((c.tc : Thread Cert.AdalnReferenceIdeal.nD Cert.AdalnReferenceIdeal.τ).loc Cert.AdalnReferenceIdeal.main_arg0)
          ∧ r.2.mem ((c.tc : Thread Cert.AdalnReferenceIdeal.nD Cert.AdalnReferenceIdeal.τ).loc Cert.AdalnReferenceIdeal.main_arg1) = m' ((c.tc : Thread Cert.AdalnReferenceIdeal.nD Cert.AdalnReferenceIdeal.τ).loc Cert.AdalnReferenceIdeal.main_arg1)
          ∧ r.2.mem ((c.tc : Thread Cert.AdalnReferenceIdeal.nD Cert.AdalnReferenceIdeal.τ).loc Cert.AdalnReferenceIdeal.main_arg2) = m' ((c.tc : Thread Cert.AdalnReferenceIdeal.nD Cert.AdalnReferenceIdeal.τ).loc Cert.AdalnReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hAdaln : Cert.Adaln.Facts) (hAdalnIdeal : Cert.AdalnIdeal.Facts) (hAdalnReferenceIdeal : Cert.AdalnReferenceIdeal.Facts) (hOn_weights : Cert.On_weights.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Adaln (hAdaln := hAdaln)
    ∧ quiescent_AdalnIdeal (hAdalnIdeal := hAdalnIdeal)
    ∧ quiescent_AdalnReferenceIdeal (hAdalnReferenceIdeal := hAdalnReferenceIdeal)
    ∧ preserves_Kernel_KernelIdeal
    ∧ algebraic_KernelIdeal_ReferenceIdeal_on_weights (hKernelIdeal := hKernelIdeal) (hReferenceIdeal := hReferenceIdeal) (hOn_weights := hOn_weights)
    ∧ preserves_Ffn_FfnIdeal
    ∧ algebraic_FfnIdeal_FfnReferenceIdeal (hFfnIdeal := hFfnIdeal) (hFfnReferenceIdeal := hFfnReferenceIdeal)
    ∧ preserves_Adaln_AdalnIdeal
    ∧ algebraic_AdalnIdeal_AdalnReferenceIdeal (hAdalnIdeal := hAdalnIdeal) (hAdalnReferenceIdeal := hAdalnReferenceIdeal)
-- ==== On_weights.lean ====
abbrev S8 : Shape := ⟨1, ![8]⟩
abbrev S8x16x1536x128 : Shape := ⟨4, ![8, 16, 1536, 128]⟩
abbrev S8x2048x384 : Shape := ⟨3, ![8, 2048, 384]⟩
abbrev S8x16x256x128 : Shape := ⟨4, ![8, 16, 256, 128]⟩
abbrev S8x16x8x128 : Shape := ⟨4, ![8, 16, 8, 128]⟩
abbrev S512 : Shape := ⟨1, ![512]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S_ : Shape := ⟨0, ![]⟩
abbrev S8x512x2048 : Shape := ⟨3, ![8, 512, 2048]⟩
abbrev S1024x1024 : Shape := ⟨2, ![1024, 1024]⟩
abbrev S1024x2816 : Shape := ⟨2, ![1024, 2816]⟩
abbrev S2816x1024 : Shape := ⟨2, ![2816, 1024]⟩

class Facts : Prop where
  bcast_S_S8x512x2048 : S_.BroadcastsInDim S8x512x2048 (![] : Fin 0 → Fin S8x512x2048.rank)
  bcast_S_S1024x1024 : S_.BroadcastsInDim S1024x1024 (![] : Fin 0 → Fin S1024x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8 .f32) (main_arg1 : FVec F S8x16x1536x128 .bf16) (main_arg2 : FVec F S8x2048x384 .bf16) (main_arg3 : FVec F S8x16x256x128 .bf16) (main_arg4 : FVec F S8x16x8x128 .f32) (main_arg5 : FVec F S512 .f32) (main_arg6 : FVec F S512 .f32) (main_arg7 : FVec F S2x1024x1024 .f32) (main_arg8 : FVec F S2x1024x2816 .f32) (main_arg9 : FVec F S2x1024x2816 .f32) (main_arg10 : FVec F S2x2816x1024 .f32) : IVec S8x512x2048 1 × IVec S1024x1024 1 × IVec S1024x2816 1 × IVec S1024x2816 1 × IVec S2816x1024 1 :=
  let main_c : IVec S_ 1 := constantI S_ 1 0#1
  let main_v0 : IVec S8x512x2048 1 := broadcastInDim S8x512x2048 ![] bcast_S_S8x512x2048 main_c
  let main_c_0 : IVec S_ 1 := constantI S_ 1 1#1
  let main_v1 : IVec S1024x1024 1 := broadcastInDim S1024x1024 ![] bcast_S_S1024x1024 main_c_0
  let main_c_1 : IVec S_ 1 := constantI S_ 1 1#1
  let main_v2 : IVec S1024x2816 1 := broadcastInDim S1024x2816 ![] bcast_S_S1024x2816 main_c_1
  let main_c_2 : IVec S_ 1 := constantI S_ 1 1#1
  let main_v3 : IVec S1024x2816 1 := broadcastInDim S1024x2816 ![] bcast_S_S1024x2816 main_c_2
  let main_c_3 : IVec S_ 1 := constantI S_ 1 1#1
  let main_v4 : IVec S2816x1024 1 := broadcastInDim S2816x1024 ![] bcast_S_S2816x1024 main_c_3
  (main_v0, main_v1, main_v2, main_v3, main_v4)
-- ==== Kernel.lean ====
abbrev S8 : Shape := ⟨1, ![8]⟩
abbrev S8x16x1536x128 : Shape := ⟨4, ![8, 16, 1536, 128]⟩
abbrev S8x2048x384 : Shape := ⟨3, ![8, 2048, 384]⟩
abbrev S8x16x256x128 : Shape := ⟨4, ![8, 16, 256, 128]⟩
abbrev S8x16x8x128 : Shape := ⟨4, ![8, 16, 8, 128]⟩
abbrev S512 : Shape := ⟨1, ![512]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S512x1 : Shape := ⟨2, ![512, 1]⟩
abbrev S512x128 : Shape := ⟨2, ![512, 128]⟩
abbrev S8x1024x2048 : Shape := ⟨3, ![8, 1024, 2048]⟩
abbrev S1024x1024 : Shape := ⟨2, ![1024, 1024]⟩
abbrev S1024x2816 : Shape := ⟨2, ![1024, 2816]⟩
abbrev S2816x1024 : Shape := ⟨2, ![2816, 1024]⟩
abbrev S1x1x1536x128 : Shape := ⟨4, ![1, 1, 1536, 128]⟩
abbrev S1x2048x384 : Shape := ⟨3, ![1, 2048, 384]⟩
abbrev S1x16x256x128 : Shape := ⟨4, ![1, 16, 256, 128]⟩
abbrev S1x1x8x128 : Shape := ⟨4, ![1, 1, 8, 128]⟩
abbrev S1x16x1024 : Shape := ⟨3, ![1, 16, 1024]⟩
abbrev S1x16x2816 : Shape := ⟨3, ![1, 16, 2816]⟩
abbrev S1x32x1024 : Shape := ⟨3, ![1, 32, 1024]⟩
abbrev S1x1024x128 : Shape := ⟨3, ![1, 1024, 128]⟩
abbrev S16x1024 : Shape := ⟨2, ![16, 1024]⟩
abbrev S16x2816 : Shape := ⟨2, ![16, 2816]⟩
abbrev S32x1024 : Shape := ⟨2, ![32, 1024]⟩
abbrev S2048x128 : Shape := ⟨2, ![2048, 128]⟩
abbrev S1x128 : Shape := ⟨2, ![1, 128]⟩
abbrev S1x1024 : Shape := ⟨2, ![1, 1024]⟩
abbrev S72x1024 : Shape := ⟨2, ![72, 1024]⟩
abbrev S1024x128 : Shape := ⟨2, ![1024, 128]⟩
abbrev S256x1024 : Shape := ⟨2, ![256, 1024]⟩
abbrev S2048x1024 : Shape := ⟨2, ![2048, 1024]⟩
abbrev S256x128 : Shape := ⟨2, ![256, 128]⟩
abbrev S16x256 : Shape := ⟨2, ![16, 256]⟩
abbrev S1536x128 : Shape := ⟨2, ![1536, 128]⟩
abbrev S64x128 : Shape := ⟨2, ![64, 128]⟩
abbrev S128x128 : Shape := ⟨2, ![128, 128]⟩
abbrev S128x1024 : Shape := ⟨2, ![128, 1024]⟩
abbrev S1x256x128 : Shape := ⟨3, ![1, 256, 128]⟩
abbrev S256x256 : Shape := ⟨2, ![256, 256]⟩
abbrev S1x1x64x128 : Shape := ⟨4, ![1, 1, 64, 128]⟩
abbrev S1x256x64 : Shape := ⟨3, ![1, 256, 64]⟩
abbrev S256x64 : Shape := ⟨2, ![256, 64]⟩
abbrev S64x1024 : Shape := ⟨2, ![64, 1024]⟩
abbrev S1 : Shape := ⟨1, ![1]⟩
abbrev S128 : Shape := ⟨1, ![128]⟩
abbrev S256x512 : Shape := ⟨2, ![256, 512]⟩
abbrev S64x256 : Shape := ⟨2, ![64, 256]⟩
abbrev S80x256 : Shape := ⟨2, ![80, 256]⟩
abbrev S80x512 : Shape := ⟨2, ![80, 512]⟩
abbrev S1x1x1x128 : Shape := ⟨4, ![1, 1, 1, 128]⟩
abbrev S8x128 : Shape := ⟨2, ![8, 128]⟩
abbrev S32x8x128 : Shape := ⟨3, ![32, 8, 128]⟩
abbrev S1x1 : Shape := ⟨2, ![1, 1]⟩
abbrev S16x2048 : Shape := ⟨2, ![16, 2048]⟩
abbrev S64x2048 : Shape := ⟨2, ![64, 2048]⟩
abbrev S80x2048 : Shape := ⟨2, ![80, 2048]⟩
abbrev S2048x512 : Shape := ⟨2, ![2048, 512]⟩
abbrev S72x512 : Shape := ⟨2, ![72, 512]⟩
abbrev S16x1792 : Shape := ⟨2, ![16, 1792]⟩
abbrev S64x1792 : Shape := ⟨2, ![64, 1792]⟩
abbrev S80x1792 : Shape := ⟨2, ![80, 1792]⟩
abbrev S1792x512 : Shape := ⟨2, ![1792, 512]⟩
abbrev S16x1536 : Shape := ⟨2, ![16, 1536]⟩
abbrev S64x1536 : Shape := ⟨2, ![64, 1536]⟩
abbrev S80x1536 : Shape := ⟨2, ![80, 1536]⟩
abbrev S1536x512 : Shape := ⟨2, ![1536, 512]⟩
abbrev S16x1280 : Shape := ⟨2, ![16, 1280]⟩
abbrev S64x1280 : Shape := ⟨2, ![64, 1280]⟩
abbrev S80x1280 : Shape := ⟨2, ![80, 1280]⟩
abbrev S1280x512 : Shape := ⟨2, ![1280, 512]⟩
abbrev S80x1024 : Shape := ⟨2, ![80, 1024]⟩
abbrev S1024x512 : Shape := ⟨2, ![1024, 512]⟩
abbrev S16x768 : Shape := ⟨2, ![16, 768]⟩
abbrev S64x768 : Shape := ⟨2, ![64, 768]⟩
abbrev S80x768 : Shape := ⟨2, ![80, 768]⟩
abbrev S768x512 : Shape := ⟨2, ![768, 512]⟩
abbrev S16x512 : Shape := ⟨2, ![16, 512]⟩
abbrev S64x512 : Shape := ⟨2, ![64, 512]⟩
abbrev S512x512 : Shape := ⟨2, ![512, 512]⟩
abbrev S1x512x128 : Shape := ⟨3, ![1, 512, 128]⟩
abbrev S8x512x2048 : Shape := ⟨3, ![8, 512, 2048]⟩

abbrev nBuf : Space → Nat
  | .hbm => 21
  | .vmem => 38
  | .smem => 1
  | _ => 0

abbrev bufTy : (tb : Table) → Fin (tcTables nBuf tb) → BufTy
  | .hbm, ⟨0, _⟩ => ⟨S8, .f32⟩
  | .hbm, ⟨1, _⟩ => ⟨S8x16x1536x128, .bf16⟩
  | .hbm, ⟨2, _⟩ => ⟨S8x2048x384, .bf16⟩
  | .hbm, ⟨3, _⟩ => ⟨S8x16x256x128, .bf16⟩
  | .hbm, ⟨4, _⟩ => ⟨S8x16x8x128, .f32⟩
  | .hbm, ⟨5, _⟩ => ⟨S512, .f32⟩
  | .hbm, ⟨6, _⟩ => ⟨S512, .f32⟩
  | .hbm, ⟨7, _⟩ => ⟨S2x1024x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S512x1, .f32⟩
  | .hbm, ⟨12, _⟩ => ⟨S512x128, .f32⟩
  | .hbm, ⟨13, _⟩ => ⟨S512x1, .f32⟩
  | .hbm, ⟨14, _⟩ => ⟨S512x128, .f32⟩
  | .hbm, ⟨15, _⟩ => ⟨S8x1024x2048, .bf16⟩
  | .hbm, ⟨16, _⟩ => ⟨S1024x1024, .bf16⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S8x512x2048, .bf16⟩
  | .local _ .vmem, ⟨0, _⟩ => ⟨S1x1x1536x128, .bf16⟩
  | .local _ .vmem, ⟨1, _⟩ => ⟨S1x1x1536x128, .bf16⟩
  | .local _ .vmem, ⟨2, _⟩ => ⟨S1x2048x384, .bf16⟩
  | .local _ .vmem, ⟨3, _⟩ => ⟨S1x2048x384, .bf16⟩
  | .local _ .vmem, ⟨4, _⟩ => ⟨S1x16x256x128, .bf16⟩
  | .local _ .vmem, ⟨5, _⟩ => ⟨S1x16x256x128, .bf16⟩
  | .local _ .vmem, ⟨6, _⟩ => ⟨S1x1x8x128, .f32⟩
  | .local _ .vmem, ⟨7, _⟩ => ⟨S1x1x8x128, .f32⟩
  | .local _ .vmem, ⟨8, _⟩ => ⟨S512x128, .f32⟩
  | .local _ .vmem, ⟨9, _⟩ => ⟨S512x128, .f32⟩
  | .local _ .vmem, ⟨10, _⟩ => ⟨S1x16x1024, .f32⟩
  | .local _ .vmem, ⟨11, _⟩ => ⟨S1x16x1024, .f32⟩
  | .local _ .vmem, ⟨12, _⟩ => ⟨S1x16x2816, .f32⟩
  | .local _ .vmem, ⟨13, _⟩ => ⟨S1x16x2816, .f32⟩
  | .local _ .vmem, ⟨14, _⟩ => ⟨S1x16x2816, .f32⟩
  | .local _ .vmem, ⟨15, _⟩ => ⟨S1x16x2816, .f32⟩
  | .local _ .vmem, ⟨16, _⟩ => ⟨S1x32x1024, .f32⟩
  | .local _ .vmem, ⟨17, _⟩ => ⟨S1x32x1024, .f32⟩
  | .local _ .vmem, ⟨18, _⟩ => ⟨S1x1024x128, .bf16⟩
  | .local _ .vmem, ⟨19, _⟩ => ⟨S1x1024x128, .bf16⟩
  | .local _ .vmem, ⟨20, _⟩ => ⟨S16x1024, .bf16⟩
  | .local _ .vmem, ⟨21, _⟩ => ⟨S16x1024, .bf16⟩
  | .local _ .vmem, ⟨22, _⟩ => ⟨S16x2816, .bf16⟩
  | .local _ .vmem, ⟨23, _⟩ => ⟨S16x2816, .bf16⟩
  | .local _ .vmem, ⟨24, _⟩ => ⟨S16x2816, .bf16⟩
  | .local _ .vmem, ⟨25, _⟩ => ⟨S16x2816, .bf16⟩
  | .local _ .vmem, ⟨26, _⟩ => ⟨S32x1024, .bf16⟩
  | .local _ .vmem, ⟨27, _⟩ => ⟨S32x1024, .bf16⟩
  | .local _ .vmem, ⟨28, _⟩ => ⟨S2048x128, .f32⟩
  | .local _ .vmem, ⟨29, _⟩ => ⟨S1x128, .f32⟩
  | .local _ .vmem, ⟨30, _⟩ => ⟨S1x128, .i32⟩
  | .local _ .vmem, ⟨31, _⟩ => ⟨S1x1024, .f32⟩
  | .local _ .vmem, ⟨32, _⟩ => ⟨S72x1024, .f32⟩
  | .local _ .vmem, ⟨33, _⟩ => ⟨S1024x128, .f32⟩
  | .local _ .vmem, ⟨34, _⟩ => ⟨S256x1024, .f32⟩
  | .local _ .vmem, ⟨35, _⟩ => ⟨S2048x1024, .bf16⟩
  | .local _ .vmem, ⟨36, _⟩ => ⟨S256x1024, .bf16⟩
  | .local _ .vmem, ⟨37, _⟩ => ⟨S2048x1024, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v5 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1_i32_29 : BitVec 32 := 1#32
  let v68 : BitVec 32 := Scalar.subi arg1 c1_i32_29
  let c0_i32_30 : BitVec 32 := 0#32
  let v69 : BitVec 32 := Scalar.maxsi v68 c0_i32_30
  let c128_i32_31 : BitVec 32 := 128#32
  let v70 : BitVec 32 := Scalar.muli v69 c128_i32_31
  v70
def k0_off1 (i : grid0.Coords) : Fin 3 → Nat :=
  let c0_36 : Index := 0#32
  let arg1 : BitVec 32 := BitVec.ofNat 32 (i 1).val
  let c1_i32_29 : BitVec 32 := 1#32
  let v68 : BitVec 32 := Scalar.subi arg1 c1_i32_29
  let c0_i32_30 : BitVec 32 := 0#32
  let v69 : BitVec 32 := Scalar.maxsi v68 c0_i32_30
  let c128_i32_31 : BitVec 32 := 128#32
  let v70 : BitVec 32 := Scalar.muli v69 c128_i32_31
  let v71 : BitVec 32 := v70
  let v84 : Index := Scalar.indexCast v71
  let c0_37 : Index := 0#32
  ![0, v84.toNat, 0]
def k0_off2 (i : grid0.Coords) : Fin 4 → Nat :=
  let c0_89 : Index := 0#32
  let arg1 : BitVec 32 := BitVec.ofNat 32 (i 1).val
  let c1_i32_29 : BitVec 32 := 1#32
  let v68 : BitVec 32 := Scalar.subi arg1 c1_i32_29
  let c0_i32_30 : BitVec 32 := 0#32
  let v69 : BitVec 32 := Scalar.maxsi v68 c0_i32_30
  let v217 : Index := Scalar.indexCast v69
  let c0_90 : Index := 0#32
  let c0_91 : Index := 0#32
  ![0, v217.toNat, 0, 0]
def k0_off3 (i : grid0.Coords) : Fin 4 → Nat :=
  let c0_93 : Index := 0#32
  let arg1 : BitVec 32 := BitVec.ofNat 32 (i 1).val
  let c1_i32_29 : BitVec 32 := 1#32
  let v68 : BitVec 32 := Scalar.subi arg1 c1_i32_29
  let c0_i32_30 : BitVec 32 := 0#32
  let v69 : BitVec 32 := Scalar.maxsi v68 c0_i32_30
  let c1_i32_92 : BitVec 32 := 1#32
  let v220 : BitVec 32 := Scalar.addi v69 c1_i32_92
  let v221 : Index := Scalar.indexCast v220
  let c0_94 : Index := 0#32
  let c0_95 : Index := 0#32
  ![0, v221.toNat, 0, 0]
def k0_off4 (i : grid0.Coords) : Fin 4 → Nat :=
  let c0_107 : Index := 0#32
  let arg1 : BitVec 32 := BitVec.ofNat 32 (i 1).val
  let c1_i32_29 : BitVec 32 := 1#32
  let v68 : BitVec 32 := Scalar.subi arg1 c1_i32_29
  let c0_i32_30 : BitVec 32 := 0#32
  let v69 : BitVec 32 := Scalar.maxsi v68 c0_i32_30
  let v276 : Index := Scalar.indexCast v69
  let c64_108 : Index := 64#32
  let c0_109 : Index := 0#32
  ![0, v276.toNat, 64, 0]
def k0_off5 (i : grid0.Coords) : Fin 4 → Nat :=
  let c0_111 : Index := 0#32
  let arg1 : BitVec 32 := BitVec.ofNat 32 (i 1).val
  let c1_i32_29 : BitVec 32 := 1#32
  let v68 : BitVec 32 := Scalar.subi arg1 c1_i32_29
  let c0_i32_30 : BitVec 32 := 0#32
  let v69 : BitVec 32 := Scalar.maxsi v68 c0_i32_30
  let c1_i32_110 : BitVec 32 := 1#32
  let v279 : BitVec 32 := Scalar.addi v69 c1_i32_110
  let v280 : Index := Scalar.indexCast v279
  let c64_112 : Index := 64#32
  let c0_113 : Index := 0#32
  ![0, v280.toNat, 64, 0]
def k0_cond1 (i : grid0.Coords) : BitVec 1 :=
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let c1_i32_125 : BitVec 32 := 1#32
  let v334 : BitVec 32 := Scalar.subi v34 c1_i32_125
  let c0_i32_126 : BitVec 32 := 0#32
  let v335 : BitVec 32 := Scalar.maxsi v334 c0_i32_126
  let c7_i32 : BitVec 32 := 7#32
  let v336 : BitVec 32 := Scalar.minsi v335 c7_i32
  let c0_i32_127 : BitVec 32 := 0#32
  let v337 : BitVec 1 := Scalar.cmpi .ne v336 c0_i32_127
  v337

def k0_cond2 (i : grid0.Coords) : BitVec 1 :=
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let c1_i32_125 : BitVec 32 := 1#32
  let v334 : BitVec 32 := Scalar.subi v34 c1_i32_125
  let c0_i32_126 : BitVec 32 := 0#32
  let v335 : BitVec 32 := Scalar.maxsi v334 c0_i32_126
  let c7_i32 : BitVec 32 := 7#32
  let v336 : BitVec 32 := Scalar.minsi v335 c7_i32
  let c1_i32_199 : BitVec 32 := 1#32
  let v479 : BitVec 32 := Scalar.subi v336 c1_i32_199
  let c0_i32_200 : BitVec 32 := 0#32
  let v480 : BitVec 1 := Scalar.cmpi .ne v479 c0_i32_200
  v480

def k0_cond3 (i : grid0.Coords) : BitVec 1 :=
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let c1_i32_125 : BitVec 32 := 1#32
  let v334 : BitVec 32 := Scalar.subi v34 c1_i32_125
  let c0_i32_126 : BitVec 32 := 0#32
  let v335 : BitVec 32 := Scalar.maxsi v334 c0_i32_126
  let c7_i32 : BitVec 32 := 7#32
  let v336 : BitVec 32 := Scalar.minsi v335 c7_i32
  let c1_i32_199 : BitVec 32 := 1#32
  let v479 : BitVec 32 := Scalar.subi v336 c1_i32_199
  let c1_i32_201 : BitVec 32 := 1#32
  let v482 : BitVec 32 := Scalar.subi v479 c1_i32_201
  let c0_i32_202 : BitVec 32 := 0#32
  let v483 : BitVec 1 := Scalar.cmpi .ne v482 c0_i32_202
  v483

def k0_cond4 (i : grid0.Coords) : BitVec 1 :=
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let c1_i32_125 : BitVec 32 := 1#32
  let v334 : BitVec 32 := Scalar.subi v34 c1_i32_125
  let c0_i32_126 : BitVec 32 := 0#32
  let v335 : BitVec 32 := Scalar.maxsi v334 c0_i32_126
  let c7_i32 : BitVec 32 := 7#32
  let v336 : BitVec 32 := Scalar.minsi v335 c7_i32
  let c1_i32_199 : BitVec 32 := 1#32
  let v479 : BitVec 32 := Scalar.subi v336 c1_i32_199
  let c1_i32_201 : BitVec 32 := 1#32
  let v482 : BitVec 32 := Scalar.subi v479 c1_i32_201
  let c1_i32_203 : BitVec 32 := 1#32
  let v485 : BitVec 32 := Scalar.subi v482 c1_i32_203
  let c0_i32_204 : BitVec 32 := 0#32
  let v486 : BitVec 1 := Scalar.cmpi .ne v485 c0_i32_204
  v486

def k0_cond5 (i : grid0.Coords) : BitVec 1 :=
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let c1_i32_125 : BitVec 32 := 1#32
  let v334 : BitVec 32 := Scalar.subi v34 c1_i32_125
  let c0_i32_126 : BitVec 32 := 0#32
  let v335 : BitVec 32 := Scalar.maxsi v334 c0_i32_126
  let c7_i32 : BitVec 32 := 7#32
  let v336 : BitVec 32 := Scalar.minsi v335 c7_i32
  let c1_i32_199 : BitVec 32 := 1#32
  let v479 : BitVec 32 := Scalar.subi v336 c1_i32_199
  let c1_i32_201 : BitVec 32 := 1#32
  let v482 : BitVec 32 := Scalar.subi v479 c1_i32_201
  let c1_i32_203 : BitVec 32 := 1#32
  let v485 : BitVec 32 := Scalar.subi v482 c1_i32_203
  let c1_i32_205 : BitVec 32 := 1#32
  let v488 : BitVec 32 := Scalar.subi v485 c1_i32_205
  let c0_i32_206 : BitVec 32 := 0#32
  let v489 : BitVec 1 := Scalar.cmpi .ne v488 c0_i32_206
  v489

def k0_cond6 (i : grid0.Coords) : BitVec 1 :=
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let c1_i32_125 : BitVec 32 := 1#32
  let v334 : BitVec 32 := Scalar.subi v34 c1_i32_125
  let c0_i32_126 : BitVec 32 := 0#32
  let v335 : BitVec 32 := Scalar.maxsi v334 c0_i32_126
  let c7_i32 : BitVec 32 := 7#32
  let v336 : BitVec 32 := Scalar.minsi v335 c7_i32
  let c1_i32_199 : BitVec 32 := 1#32
  let v479 : BitVec 32 := Scalar.subi v336 c1_i32_199
  let c1_i32_201 : BitVec 32 := 1#32
  let v482 : BitVec 32 := Scalar.subi v479 c1_i32_201
  let c1_i32_203 : BitVec 32 := 1#32
  let v485 : BitVec 32 := Scalar.subi v482 c1_i32_203
  let c1_i32_205 : BitVec 32 := 1#32
  let v488 : BitVec 32 := Scalar.subi v485 c1_i32_205
  let c1_i32_207 : BitVec 32 := 1#32
  let v491 : BitVec 32 := Scalar.subi v488 c1_i32_207
  let c0_i32_208 : BitVec 32 := 0#32
  let v492 : BitVec 1 := Scalar.cmpi .ne v491 c0_i32_208
  v492

def k0_cond7 (i : grid0.Coords) : BitVec 1 :=
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let c1_i32_125 : BitVec 32 := 1#32
  let v334 : BitVec 32 := Scalar.subi v34 c1_i32_125
  let c0_i32_126 : BitVec 32 := 0#32
  let v335 : BitVec 32 := Scalar.maxsi v334 c0_i32_126
  let c7_i32 : BitVec 32 := 7#32
  let v336 : BitVec 32 := Scalar.minsi v335 c7_i32
  let c1_i32_199 : BitVec 32 := 1#32
  let v479 : BitVec 32 := Scalar.subi v336 c1_i32_199
  let c1_i32_201 : BitVec 32 := 1#32
  let v482 : BitVec 32 := Scalar.subi v479 c1_i32_201
  let c1_i32_203 : BitVec 32 := 1#32
  let v485 : BitVec 32 := Scalar.subi v482 c1_i32_203
  let c1_i32_205 : BitVec 32 := 1#32
  let v488 : BitVec 32 := Scalar.subi v485 c1_i32_205
  let c1_i32_207 : BitVec 32 := 1#32
  let v491 : BitVec 32 := Scalar.subi v488 c1_i32_207
  let c1_i32_209 : BitVec 32 := 1#32
  let v494 : BitVec 32 := Scalar.subi v491 c1_i32_209
  let c0_i32_210 : BitVec 32 := 0#32
  let v495 : BitVec 1 := Scalar.cmpi .ne v494 c0_i32_210
  v495

@[reducible] def k0_t1_loop : Scf.Loop 32 :=
  let c0_i32_777 : BitVec 32 := 0#32
  let c31_i32 : BitVec 32 := 31#32
  let v1271 : BitVec 32 := Scalar.addi c0_i32_777 c31_i32
  let c1_i32_778 : BitVec 32 := 1#32
  ⟨c0_i32_777, v1271, c1_i32_778⟩
@[reducible] def k0_t2_loop : Scf.Loop 32 :=
  let c0_i32_705 : BitVec 32 := 0#32
  let c31_i32 : BitVec 32 := 31#32
  let v1175 : BitVec 32 := Scalar.addi c0_i32_705 c31_i32
  let c1_i32_706 : BitVec 32 := 1#32
  ⟨c0_i32_705, v1175, c1_i32_706⟩
@[reducible] def k0_t3_loop : Scf.Loop 32 :=
  let c0_i32_632 : BitVec 32 := 0#32
  let c31_i32 : BitVec 32 := 31#32
  let v1076 : BitVec 32 := Scalar.addi c0_i32_632 c31_i32
  let c1_i32_633 : BitVec 32 := 1#32
  ⟨c0_i32_632, v1076, c1_i32_633⟩
@[reducible] def k0_t4_loop : Scf.Loop 32 :=
  let c0_i32_558 : BitVec 32 := 0#32
  let c31_i32 : BitVec 32 := 31#32
  let v977 : BitVec 32 := Scalar.addi c0_i32_558 c31_i32
  let c1_i32_559 : BitVec 32 := 1#32
  ⟨c0_i32_558, v977, c1_i32_559⟩
@[reducible] def k0_t5_loop : Scf.Loop 32 :=
  let c0_i32_484 : BitVec 32 := 0#32
  let c31_i32 : BitVec 32 := 31#32
  let v878 : BitVec 32 := Scalar.addi c0_i32_484 c31_i32
  let c1_i32_485 : BitVec 32 := 1#32
  ⟨c0_i32_484, v878, c1_i32_485⟩
@[reducible] def k0_t6_loop : Scf.Loop 32 :=
  let c0_i32_410 : BitVec 32 := 0#32
  let c31_i32 : BitVec 32 := 31#32
  let v779 : BitVec 32 := Scalar.addi c0_i32_410 c31_i32
  let c1_i32_411 : BitVec 32 := 1#32
  ⟨c0_i32_410, v779, c1_i32_411⟩
@[reducible] def k0_t7_loop : Scf.Loop 32 :=
  let c0_i32_336 : BitVec 32 := 0#32
  let c31_i32 : BitVec 32 := 31#32
  let v680 : BitVec 32 := Scalar.addi c0_i32_336 c31_i32
  let c1_i32_337 : BitVec 32 := 1#32
  ⟨c0_i32_336, v680, c1_i32_337⟩
@[reducible] def k0_t8_loop (i : grid0.Coords) : Scf.Loop 32 :=
  let c0_i32_200 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v480 : BitVec 32 := Scalar.subi v34 c0_i32_200
  let c1_i32_201 : BitVec 32 := 1#32
  let v482 : BitVec 32 := Scalar.divsi v480 c1_i32_201
  let v483 : BitVec 32 := Scalar.muli v482 c1_i32_201
  let v484 : BitVec 32 := Scalar.addi c0_i32_200 v483
  let c1_i32_202 : BitVec 32 := 1#32
  ⟨c0_i32_200, v484, c1_i32_202⟩
def k0_mult2 (i : grid0.Coords) (k0_t8 : Fin (k0_t8_loop i).trips) : BitVec 32 :=
  let c0_i32_200 : BitVec 32 := 0#32
  let c1_i32_202 : BitVec 32 := 1#32
  let arg28 : BitVec 32 := Scf.iv c0_i32_200 c1_i32_202 k0_t8
  let c256_i32_225 : BitVec 32 := 256#32
  let v526 : BitVec 32 := Scalar.muli arg28 c256_i32_225
  v526
def k0_off6 (i : grid0.Coords) (k0_t8 : Fin (k0_t8_loop i).trips) : Fin 2 → Nat :=
  let c0_i32_200 : BitVec 32 := 0#32
  let c1_i32_202 : BitVec 32 := 1#32
  let arg28 : BitVec 32 := Scf.iv c0_i32_200 c1_i32_202 k0_t8
  let c256_i32_225 : BitVec 32 := 256#32
  let v526 : BitVec 32 := Scalar.muli arg28 c256_i32_225
  let v527 : BitVec 32 := v526
  let v528 : Index := Scalar.indexCast v527
  let c0_226 : Index := 0#32
  ![v528.toNat, 0]
@[reducible] def k0_t9_loop (i : grid0.Coords) : Scf.Loop 32 :=
  let c0_i32_200 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v480 : BitVec 32 := Scalar.subi v34 c0_i32_200
  let c1_i32_201 : BitVec 32 := 1#32
  let v482 : BitVec 32 := Scalar.divsi v480 c1_i32_201
  let v483 : BitVec 32 := Scalar.muli v482 c1_i32_201
  let v484 : BitVec 32 := Scalar.addi c0_i32_200 v483
  let v481 : BitVec 32 := Scalar.addi c0_i32_200 v480
  let c1_i32_203 : BitVec 32 := 1#32
  ⟨v484, v481, c1_i32_203⟩
def k0_mult3 (i : grid0.Coords) (k0_t9 : Fin (k0_t9_loop i).trips) : BitVec 32 :=
  let c0_i32_200 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v480 : BitVec 32 := Scalar.subi v34 c0_i32_200
  let c1_i32_201 : BitVec 32 := 1#32
  let v482 : BitVec 32 := Scalar.divsi v480 c1_i32_201
  let v483 : BitVec 32 := Scalar.muli v482 c1_i32_201
  let v484 : BitVec 32 := Scalar.addi c0_i32_200 v483
  let c1_i32_203 : BitVec 32 := 1#32
  let arg28 : BitVec 32 := Scf.iv v484 c1_i32_203 k0_t9
  let c256_i32_225 : BitVec 32 := 256#32
  let v526 : BitVec 32 := Scalar.muli arg28 c256_i32_225
  v526
def k0_off7 (i : grid0.Coords) (k0_t9 : Fin (k0_t9_loop i).trips) : Fin 2 → Nat :=
  let c0_i32_200 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v480 : BitVec 32 := Scalar.subi v34 c0_i32_200
  let c1_i32_201 : BitVec 32 := 1#32
  let v482 : BitVec 32 := Scalar.divsi v480 c1_i32_201
  let v483 : BitVec 32 := Scalar.muli v482 c1_i32_201
  let v484 : BitVec 32 := Scalar.addi c0_i32_200 v483
  let c1_i32_203 : BitVec 32 := 1#32
  let arg28 : BitVec 32 := Scf.iv v484 c1_i32_203 k0_t9
  let c256_i32_225 : BitVec 32 := 256#32
  let v526 : BitVec 32 := Scalar.muli arg28 c256_i32_225
  let v527 : BitVec 32 := v526
  let v528 : Index := Scalar.indexCast v527
  let c0_226 : Index := 0#32
  ![v528.toNat, 0]
@[reducible] def k0_t10_loop (i : grid0.Coords) : Scf.Loop 32 :=
  let c0_i32_206 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v490 : BitVec 32 := Scalar.subi v34 c0_i32_206
  let c1_i32_207 : BitVec 32 := 1#32
  let v492 : BitVec 32 := Scalar.divsi v490 c1_i32_207
  let v493 : BitVec 32 := Scalar.muli v492 c1_i32_207
  let v494 : BitVec 32 := Scalar.addi c0_i32_206 v493
  let c1_i32_208 : BitVec 32 := 1#32
  ⟨c0_i32_206, v494, c1_i32_208⟩
def k0_mult4 (i : grid0.Coords) (k0_t10 : Fin (k0_t10_loop i).trips) : BitVec 32 :=
  let c0_i32_206 : BitVec 32 := 0#32
  let c1_i32_208 : BitVec 32 := 1#32
  let arg28 : BitVec 32 := Scf.iv c0_i32_206 c1_i32_208 k0_t10
  let c256_i32_225 : BitVec 32 := 256#32
  let v526 : BitVec 32 := Scalar.muli arg28 c256_i32_225
  v526
def k0_off8 (i : grid0.Coords) (k0_t10 : Fin (k0_t10_loop i).trips) : Fin 2 → Nat :=
  let c0_i32_206 : BitVec 32 := 0#32
  let c1_i32_208 : BitVec 32 := 1#32
  let arg28 : BitVec 32 := Scf.iv c0_i32_206 c1_i32_208 k0_t10
  let c256_i32_225 : BitVec 32 := 256#32
  let v526 : BitVec 32 := Scalar.muli arg28 c256_i32_225
  let v527 : BitVec 32 := v526
  let v528 : Index := Scalar.indexCast v527
  let c0_226 : Index := 0#32
  ![v528.toNat, 0]
@[reducible] def k0_t11_loop (i : grid0.Coords) : Scf.Loop 32 :=
  let c0_i32_206 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v490 : BitVec 32 := Scalar.subi v34 c0_i32_206
  let c1_i32_207 : BitVec 32 := 1#32
  let v492 : BitVec 32 := Scalar.divsi v490 c1_i32_207
  let v493 : BitVec 32 := Scalar.muli v492 c1_i32_207
  let v494 : BitVec 32 := Scalar.addi c0_i32_206 v493
  let v491 : BitVec 32 := Scalar.addi c0_i32_206 v490
  let c1_i32_209 : BitVec 32 := 1#32
  ⟨v494, v491, c1_i32_209⟩
def k0_mult5 (i : grid0.Coords) (k0_t11 : Fin (k0_t11_loop i).trips) : BitVec 32 :=
  let c0_i32_206 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v490 : BitVec 32 := Scalar.subi v34 c0_i32_206
  let c1_i32_207 : BitVec 32 := 1#32
  let v492 : BitVec 32 := Scalar.divsi v490 c1_i32_207
  let v493 : BitVec 32 := Scalar.muli v492 c1_i32_207
  let v494 : BitVec 32 := Scalar.addi c0_i32_206 v493
  let c1_i32_209 : BitVec 32 := 1#32
  let arg28 : BitVec 32 := Scf.iv v494 c1_i32_209 k0_t11
  let c256_i32_225 : BitVec 32 := 256#32
  let v526 : BitVec 32 := Scalar.muli arg28 c256_i32_225
  v526
def k0_off9 (i : grid0.Coords) (k0_t11 : Fin (k0_t11_loop i).trips) : Fin 2 → Nat :=
  let c0_i32_206 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v490 : BitVec 32 := Scalar.subi v34 c0_i32_206
  let c1_i32_207 : BitVec 32 := 1#32
  let v492 : BitVec 32 := Scalar.divsi v490 c1_i32_207
  let v493 : BitVec 32 := Scalar.muli v492 c1_i32_207
  let v494 : BitVec 32 := Scalar.addi c0_i32_206 v493
  let c1_i32_209 : BitVec 32 := 1#32
  let arg28 : BitVec 32 := Scf.iv v494 c1_i32_209 k0_t11
  let c256_i32_225 : BitVec 32 := 256#32
  let v526 : BitVec 32 := Scalar.muli arg28 c256_i32_225
  let v527 : BitVec 32 := v526
  let v528 : Index := Scalar.indexCast v527
  let c0_226 : Index := 0#32
  ![v528.toNat, 0]
@[reducible] def k0_t12_loop : Scf.Loop 32 :=
  let c0_i32_211 : BitVec 32 := 0#32
  let c2048_i32_212 : BitVec 32 := 2048#32
  let v499 : BitVec 32 := Scalar.addi c0_i32_211 c2048_i32_212
  let c1_i32_213 : BitVec 32 := 1#32
  ⟨c0_i32_211, v499, c1_i32_213⟩
@[reducible] def k0_t13_loop (i : grid0.Coords) : Scf.Loop 32 :=
  let c0_i32_226 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v527 : BitVec 32 := Scalar.subi v34 c0_i32_226
  let c1_i32_227 : BitVec 32 := 1#32
  let v529 : BitVec 32 := Scalar.divsi v527 c1_i32_227
  let v530 : BitVec 32 := Scalar.muli v529 c1_i32_227
  let v531 : BitVec 32 := Scalar.addi c0_i32_226 v530
  let c1_i32_228 : BitVec 32 := 1#32
  ⟨c0_i32_226, v531, c1_i32_228⟩
def k0_mult6 (i : grid0.Coords) (k0_t13 : Fin (k0_t13_loop i).trips) : BitVec 32 :=
  let c0_i32_226 : BitVec 32 := 0#32
  let c1_i32_228 : BitVec 32 := 1#32
  let arg31 : BitVec 32 := Scf.iv c0_i32_226 c1_i32_228 k0_t13
  let c256_i32_238 : BitVec 32 := 256#32
  let v549 : BitVec 32 := Scalar.muli arg31 c256_i32_238
  v549
def k0_off10 (i : grid0.Coords) (k0_t13 : Fin (k0_t13_loop i).trips) : Fin 2 → Nat :=
  let c0_i32_226 : BitVec 32 := 0#32
  let c1_i32_228 : BitVec 32 := 1#32
  let arg31 : BitVec 32 := Scf.iv c0_i32_226 c1_i32_228 k0_t13
  let c256_i32_238 : BitVec 32 := 256#32
  let v549 : BitVec 32 := Scalar.muli arg31 c256_i32_238
  let v550 : BitVec 32 := v549
  let v551 : Index := Scalar.indexCast v550
  let c0_239 : Index := 0#32
  ![v551.toNat, 0]
@[reducible] def k0_t14_loop (i : grid0.Coords) : Scf.Loop 32 :=
  let c0_i32_226 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v527 : BitVec 32 := Scalar.subi v34 c0_i32_226
  let c1_i32_227 : BitVec 32 := 1#32
  let v529 : BitVec 32 := Scalar.divsi v527 c1_i32_227
  let v530 : BitVec 32 := Scalar.muli v529 c1_i32_227
  let v531 : BitVec 32 := Scalar.addi c0_i32_226 v530
  let v528 : BitVec 32 := Scalar.addi c0_i32_226 v527
  let c1_i32_229 : BitVec 32 := 1#32
  ⟨v531, v528, c1_i32_229⟩
def k0_mult7 (i : grid0.Coords) (k0_t14 : Fin (k0_t14_loop i).trips) : BitVec 32 :=
  let c0_i32_226 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v527 : BitVec 32 := Scalar.subi v34 c0_i32_226
  let c1_i32_227 : BitVec 32 := 1#32
  let v529 : BitVec 32 := Scalar.divsi v527 c1_i32_227
  let v530 : BitVec 32 := Scalar.muli v529 c1_i32_227
  let v531 : BitVec 32 := Scalar.addi c0_i32_226 v530
  let c1_i32_229 : BitVec 32 := 1#32
  let arg31 : BitVec 32 := Scf.iv v531 c1_i32_229 k0_t14
  let c256_i32_238 : BitVec 32 := 256#32
  let v549 : BitVec 32 := Scalar.muli arg31 c256_i32_238
  v549
def k0_off11 (i : grid0.Coords) (k0_t14 : Fin (k0_t14_loop i).trips) : Fin 2 → Nat :=
  let c0_i32_226 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v527 : BitVec 32 := Scalar.subi v34 c0_i32_226
  let c1_i32_227 : BitVec 32 := 1#32
  let v529 : BitVec 32 := Scalar.divsi v527 c1_i32_227
  let v530 : BitVec 32 := Scalar.muli v529 c1_i32_227
  let v531 : BitVec 32 := Scalar.addi c0_i32_226 v530
  let c1_i32_229 : BitVec 32 := 1#32
  let arg31 : BitVec 32 := Scf.iv v531 c1_i32_229 k0_t14
  let c256_i32_238 : BitVec 32 := 256#32
  let v549 : BitVec 32 := Scalar.muli arg31 c256_i32_238
  let v550 : BitVec 32 := v549
  let v551 : Index := Scalar.indexCast v550
  let c0_239 : Index := 0#32
  ![v551.toNat, 0]
@[reducible] def k0_t15_loop (i : grid0.Coords) : Scf.Loop 32 :=
  let c0_i32_233 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v540 : BitVec 32 := Scalar.subi v34 c0_i32_233
  let c1_i32_234 : BitVec 32 := 1#32
  let v542 : BitVec 32 := Scalar.divsi v540 c1_i32_234
  let v543 : BitVec 32 := Scalar.muli v542 c1_i32_234
  let v544 : BitVec 32 := Scalar.addi c0_i32_233 v543
  let c1_i32_235 : BitVec 32 := 1#32
  ⟨c0_i32_233, v544, c1_i32_235⟩
def k0_mult8 (i : grid0.Coords) (k0_t15 : Fin (k0_t15_loop i).trips) : BitVec 32 :=
  let c0_i32_233 : BitVec 32 := 0#32
  let c1_i32_235 : BitVec 32 := 1#32
  let arg31 : BitVec 32 := Scf.iv c0_i32_233 c1_i32_235 k0_t15
  let c256_i32_238 : BitVec 32 := 256#32
  let v549 : BitVec 32 := Scalar.muli arg31 c256_i32_238
  v549
def k0_off12 (i : grid0.Coords) (k0_t15 : Fin (k0_t15_loop i).trips) : Fin 2 → Nat :=
  let c0_i32_233 : BitVec 32 := 0#32
  let c1_i32_235 : BitVec 32 := 1#32
  let arg31 : BitVec 32 := Scf.iv c0_i32_233 c1_i32_235 k0_t15
  let c256_i32_238 : BitVec 32 := 256#32
  let v549 : BitVec 32 := Scalar.muli arg31 c256_i32_238
  let v550 : BitVec 32 := v549
  let v551 : Index := Scalar.indexCast v550
  let c0_239 : Index := 0#32
  ![v551.toNat, 0]
@[reducible] def k0_t16_loop (i : grid0.Coords) : Scf.Loop 32 :=
  let c0_i32_233 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v540 : BitVec 32 := Scalar.subi v34 c0_i32_233
  let c1_i32_234 : BitVec 32 := 1#32
  let v542 : BitVec 32 := Scalar.divsi v540 c1_i32_234
  let v543 : BitVec 32 := Scalar.muli v542 c1_i32_234
  let v544 : BitVec 32 := Scalar.addi c0_i32_233 v543
  let v541 : BitVec 32 := Scalar.addi c0_i32_233 v540
  let c1_i32_236 : BitVec 32 := 1#32
  ⟨v544, v541, c1_i32_236⟩
def k0_mult9 (i : grid0.Coords) (k0_t16 : Fin (k0_t16_loop i).trips) : BitVec 32 :=
  let c0_i32_233 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v540 : BitVec 32 := Scalar.subi v34 c0_i32_233
  let c1_i32_234 : BitVec 32 := 1#32
  let v542 : BitVec 32 := Scalar.divsi v540 c1_i32_234
  let v543 : BitVec 32 := Scalar.muli v542 c1_i32_234
  let v544 : BitVec 32 := Scalar.addi c0_i32_233 v543
  let c1_i32_236 : BitVec 32 := 1#32
  let arg31 : BitVec 32 := Scf.iv v544 c1_i32_236 k0_t16
  let c256_i32_238 : BitVec 32 := 256#32
  let v549 : BitVec 32 := Scalar.muli arg31 c256_i32_238
  v549
def k0_off13 (i : grid0.Coords) (k0_t16 : Fin (k0_t16_loop i).trips) : Fin 2 → Nat :=
  let c0_i32_233 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v540 : BitVec 32 := Scalar.subi v34 c0_i32_233
  let c1_i32_234 : BitVec 32 := 1#32
  let v542 : BitVec 32 := Scalar.divsi v540 c1_i32_234
  let v543 : BitVec 32 := Scalar.muli v542 c1_i32_234
  let v544 : BitVec 32 := Scalar.addi c0_i32_233 v543
  let c1_i32_236 : BitVec 32 := 1#32
  let arg31 : BitVec 32 := Scf.iv v544 c1_i32_236 k0_t16
  let c256_i32_238 : BitVec 32 := 256#32
  let v549 : BitVec 32 := Scalar.muli arg31 c256_i32_238
  let v550 : BitVec 32 := v549
  let v551 : Index := Scalar.indexCast v550
  let c0_239 : Index := 0#32
  ![v551.toNat, 0]
@[reducible] def k0_t17_loop (i : grid0.Coords) : Scf.Loop 32 :=
  let c0_i32_219 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v515 : BitVec 32 := Scalar.subi v34 c0_i32_219
  let c1_i32_220 : BitVec 32 := 1#32
  let v517 : BitVec 32 := Scalar.divsi v515 c1_i32_220
  let v518 : BitVec 32 := Scalar.muli v517 c1_i32_220
  let v519 : BitVec 32 := Scalar.addi c0_i32_219 v518
  let c1_i32_221 : BitVec 32 := 1#32
  ⟨c0_i32_219, v519, c1_i32_221⟩
def k0_mult10 (i : grid0.Coords) (k0_t17 : Fin (k0_t17_loop i).trips) : BitVec 32 :=
  let c0_i32_219 : BitVec 32 := 0#32
  let c1_i32_221 : BitVec 32 := 1#32
  let arg28 : BitVec 32 := Scf.iv c0_i32_219 c1_i32_221 k0_t17
  let c256_i32_225 : BitVec 32 := 256#32
  let v526 : BitVec 32 := Scalar.muli arg28 c256_i32_225
  v526
def k0_off14 (i : grid0.Coords) (k0_t17 : Fin (k0_t17_loop i).trips) : Fin 2 → Nat :=
  let c0_i32_219 : BitVec 32 := 0#32
  let c1_i32_221 : BitVec 32 := 1#32
  let arg28 : BitVec 32 := Scf.iv c0_i32_219 c1_i32_221 k0_t17
  let c256_i32_225 : BitVec 32 := 256#32
  let v526 : BitVec 32 := Scalar.muli arg28 c256_i32_225
  let v527 : BitVec 32 := v526
  let v528 : Index := Scalar.indexCast v527
  let c0_226 : Index := 0#32
  ![v528.toNat, 0]
@[reducible] def k0_t18_loop (i : grid0.Coords) : Scf.Loop 32 :=
  let c0_i32_219 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v515 : BitVec 32 := Scalar.subi v34 c0_i32_219
  let c1_i32_220 : BitVec 32 := 1#32
  let v517 : BitVec 32 := Scalar.divsi v515 c1_i32_220
  let v518 : BitVec 32 := Scalar.muli v517 c1_i32_220
  let v519 : BitVec 32 := Scalar.addi c0_i32_219 v518
  let v516 : BitVec 32 := Scalar.addi c0_i32_219 v515
  let c1_i32_222 : BitVec 32 := 1#32
  ⟨v519, v516, c1_i32_222⟩
def k0_mult11 (i : grid0.Coords) (k0_t18 : Fin (k0_t18_loop i).trips) : BitVec 32 :=
  let c0_i32_219 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v515 : BitVec 32 := Scalar.subi v34 c0_i32_219
  let c1_i32_220 : BitVec 32 := 1#32
  let v517 : BitVec 32 := Scalar.divsi v515 c1_i32_220
  let v518 : BitVec 32 := Scalar.muli v517 c1_i32_220
  let v519 : BitVec 32 := Scalar.addi c0_i32_219 v518
  let c1_i32_222 : BitVec 32 := 1#32
  let arg28 : BitVec 32 := Scf.iv v519 c1_i32_222 k0_t18
  let c256_i32_225 : BitVec 32 := 256#32
  let v526 : BitVec 32 := Scalar.muli arg28 c256_i32_225
  v526
def k0_off15 (i : grid0.Coords) (k0_t18 : Fin (k0_t18_loop i).trips) : Fin 2 → Nat :=
  let c0_i32_219 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v515 : BitVec 32 := Scalar.subi v34 c0_i32_219
  let c1_i32_220 : BitVec 32 := 1#32
  let v517 : BitVec 32 := Scalar.divsi v515 c1_i32_220
  let v518 : BitVec 32 := Scalar.muli v517 c1_i32_220
  let v519 : BitVec 32 := Scalar.addi c0_i32_219 v518
  let c1_i32_222 : BitVec 32 := 1#32
  let arg28 : BitVec 32 := Scf.iv v519 c1_i32_222 k0_t18
  let c256_i32_225 : BitVec 32 := 256#32
  let v526 : BitVec 32 := Scalar.muli arg28 c256_i32_225
  let v527 : BitVec 32 := v526
  let v528 : Index := Scalar.indexCast v527
  let c0_226 : Index := 0#32
  ![v528.toNat, 0]
@[reducible] def k0_t19_loop (i : grid0.Coords) : Scf.Loop 32 :=
  let c0_i32_154 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v396 : BitVec 32 := Scalar.subi v34 c0_i32_154
  let c1_i32_155 : BitVec 32 := 1#32
  let v398 : BitVec 32 := Scalar.divsi v396 c1_i32_155
  let v399 : BitVec 32 := Scalar.muli v398 c1_i32_155
  let v400 : BitVec 32 := Scalar.addi c0_i32_154 v399
  let c1_i32_156 : BitVec 32 := 1#32
  ⟨c0_i32_154, v400, c1_i32_156⟩
def k0_mult12 (i : grid0.Coords) (k0_t19 : Fin (k0_t19_loop i).trips) : BitVec 32 :=
  let c0_i32_154 : BitVec 32 := 0#32
  let c1_i32_156 : BitVec 32 := 1#32
  let arg28 : BitVec 32 := Scf.iv c0_i32_154 c1_i32_156 k0_t19
  let c256_i32_199 : BitVec 32 := 256#32
  let v479 : BitVec 32 := Scalar.muli arg28 c256_i32_199
  v479
def k0_off16 (i : grid0.Coords) (k0_t19 : Fin (k0_t19_loop i).trips) : Fin 2 → Nat :=
  let c0_i32_154 : BitVec 32 := 0#32
  let c1_i32_156 : BitVec 32 := 1#32
  let arg28 : BitVec 32 := Scf.iv c0_i32_154 c1_i32_156 k0_t19
  let c256_i32_199 : BitVec 32 := 256#32
  let v479 : BitVec 32 := Scalar.muli arg28 c256_i32_199
  let v480 : BitVec 32 := v479
  let v481 : Index := Scalar.indexCast v480
  let c0_200 : Index := 0#32
  ![v481.toNat, 0]
@[reducible] def k0_t20_loop (i : grid0.Coords) : Scf.Loop 32 :=
  let c0_i32_154 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v396 : BitVec 32 := Scalar.subi v34 c0_i32_154
  let c1_i32_155 : BitVec 32 := 1#32
  let v398 : BitVec 32 := Scalar.divsi v396 c1_i32_155
  let v399 : BitVec 32 := Scalar.muli v398 c1_i32_155
  let v400 : BitVec 32 := Scalar.addi c0_i32_154 v399
  let v397 : BitVec 32 := Scalar.addi c0_i32_154 v396
  let c1_i32_157 : BitVec 32 := 1#32
  ⟨v400, v397, c1_i32_157⟩
def k0_mult13 (i : grid0.Coords) (k0_t20 : Fin (k0_t20_loop i).trips) : BitVec 32 :=
  let c0_i32_154 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v396 : BitVec 32 := Scalar.subi v34 c0_i32_154
  let c1_i32_155 : BitVec 32 := 1#32
  let v398 : BitVec 32 := Scalar.divsi v396 c1_i32_155
  let v399 : BitVec 32 := Scalar.muli v398 c1_i32_155
  let v400 : BitVec 32 := Scalar.addi c0_i32_154 v399
  let c1_i32_157 : BitVec 32 := 1#32
  let arg28 : BitVec 32 := Scf.iv v400 c1_i32_157 k0_t20
  let c256_i32_199 : BitVec 32 := 256#32
  let v479 : BitVec 32 := Scalar.muli arg28 c256_i32_199
  v479
def k0_off17 (i : grid0.Coords) (k0_t20 : Fin (k0_t20_loop i).trips) : Fin 2 → Nat :=
  let c0_i32_154 : BitVec 32 := 0#32
  let arg1 : BitVec 32 := BitVec.ofNat 32 (i 1).val
  let c2_i32 : BitVec 32 := 2#32
  let v17 : BitVec 32 := Scalar.addi arg1 c2_i32
  let c0_i32 : BitVec 32 := 0#32
  let v19 : BitVec 1 := Scalar.cmpi .sgt v17 c0_i32
  let v20 : BitVec 32 := Scalar.extui v19
  let c0_i32_20 : BitVec 32 := 0#32
  let v21 : BitVec 1 := Scalar.cmpi .slt v17 c0_i32_20
  let v22 : BitVec 32 := Scalar.extui v21
  let v23 : BitVec 32 := Scalar.subi v20 v22
  let c2_i32_19 : BitVec 32 := 2#32
  let c0_i32_21 : BitVec 32 := 0#32
  let v24 : BitVec 1 := Scalar.cmpi .sgt c2_i32_19 c0_i32_21
  let v25 : BitVec 32 := Scalar.extui v24
  let c0_i32_22 : BitVec 32 := 0#32
  let v26 : BitVec 1 := Scalar.cmpi .slt c2_i32_19 c0_i32_22
  let v27 : BitVec 32 := Scalar.extui v26
  let v28 : BitVec 32 := Scalar.subi v25 v27
  let v29 : BitVec 1 := Scalar.cmpi .ne v23 v28
  let v30 : BitVec 32 := Scalar.remsi v17 c2_i32_19
  let c0_i32_23 : BitVec 32 := 0#32
  let v31 : BitVec 1 := Scalar.cmpi .ne v30 c0_i32_23
  let v32 : BitVec 1 := Scalar.andi v29 v31
  let v18 : BitVec 32 := Scalar.divsi v17 c2_i32_19
  let c1_i32 : BitVec 32 := 1#32
  let v33 : BitVec 32 := Scalar.subi v18 c1_i32
  let v34 : BitVec 32 := Scalar.select v32 v33 v18
  let v396 : BitVec 32 := Scalar.subi v34 c0_i32_154
  let c1_i32_155 : BitVec 32 := 1#32
  let v398 : BitVec 32 := Scalar.divsi v396 c1_i32_155
  let v399 : BitVec 32 := Scalar.muli v398 c1_i32_155
  let v400 : BitVec 32 := Scalar.addi c0_i32_154 v399
  let c1_i32_157 : BitVec 32 := 1#32
  let arg28 : BitVec 32 := Scf.iv v400 c1_i32_157 k0_t20
  let c256_i32_199 : BitVec 32 := 256#32
  let v479 : BitVec 32 := Scalar.muli arg28 c256_i32_199
  let v480 : BitVec 32 := v479
  let v481 : Index := Scalar.indexCast v480
  let c0_200 : Index := 0#32
  ![v481.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  let c0_i32_1 : BitVec 32 := 0#32
  ![c0_i32.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1536x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8 : Shape := ⟨1, ![8]⟩
abbrev S8x16x1536x128 : Shape := ⟨4, ![8, 16, 1536, 128]⟩
abbrev S8x2048x384 : Shape := ⟨3, ![8, 2048, 384]⟩
abbrev S8x16x256x128 : Shape := ⟨4, ![8, 16, 256, 128]⟩
abbrev S8x16x8x128 : Shape := ⟨4, ![8, 16, 8, 128]⟩
abbrev S512 : Shape := ⟨1, ![512]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S8x16x512x128 : Shape := ⟨4, ![8, 16, 512, 128]⟩
abbrev S8x16x2x4x64x128 : Shape := ⟨6, ![8, 16, 2, 4, 64, 128]⟩
abbrev S8x2048x128 : Shape := ⟨3, ![8, 2048, 128]⟩
abbrev S8x16x128x2x64 : Shape := ⟨5, ![8, 16, 128, 2, 64]⟩
abbrev S8x16x128x128 : Shape := ⟨4, ![8, 16, 128, 128]⟩
abbrev S8x16x2x64x128 : Shape := ⟨5, ![8, 16, 2, 64, 128]⟩
abbrev S8x1x128x2x64 : Shape := ⟨5, ![8, 1, 128, 2, 64]⟩
abbrev S_ : Shape := ⟨0, ![]⟩
abbrev S8x1x2x64x128 : Shape := ⟨5, ![8, 1, 2, 64, 128]⟩
abbrev S8x15x128x2x64 : Shape := ⟨5, ![8, 15, 128, 2, 64]⟩
abbrev S8x16x256x2x64 : Shape := ⟨5, ![8, 16, 256, 2, 64]⟩
abbrev S8x15x2x64x128 : Shape := ⟨5, ![8, 15, 2, 64, 128]⟩
abbrev S8x16x2x64x256 : Shape := ⟨5, ![8, 16, 2, 64, 256]⟩
abbrev S8x16x2x4x128x256 : Shape := ⟨6, ![8, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S1x1x2x4x1x1 : Shape := ⟨6, ![1, 1, 2, 4, 1, 1]⟩
abbrev S8x16x2x4x128x1 : Shape := ⟨6, ![8, 16, 2, 4, 128, 1]⟩
abbrev S8x16x2x4x128x257 : Shape := ⟨6, ![8, 16, 2, 4, 128, 257]⟩
abbrev S8x16x2x4x128 : Shape := ⟨5, ![8, 16, 2, 4, 128]⟩
abbrev S8x16x2x64x4x128 : Shape := ⟨6, ![8, 16, 2, 64, 4, 128]⟩
abbrev S8x16x128x2x4x64 : Shape := ⟨6, ![8, 16, 128, 2, 4, 64]⟩
abbrev S8x2048x512 : Shape := ⟨3, ![8, 2048, 512]⟩
abbrev S8x2048 : Shape := ⟨2, ![8, 2048]⟩
abbrev S8x2048x1 : Shape := ⟨3, ![8, 2048, 1]⟩
abbrev S1x1x512 : Shape := ⟨3, ![1, 1, 512]⟩
abbrev S8x512x2048 : Shape := ⟨3, ![8, 512, 2048]⟩
abbrev S1x1024x1024 : Shape := ⟨3, ![1, 1024, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 125
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x16x1536x128, .bf16⟩
  | .hbm, ⟨2, _⟩ => ⟨S8x2048x384, .bf16⟩
  | .hbm, ⟨3, _⟩ => ⟨S8x16x256x128, .bf16⟩
  | .hbm, ⟨4, _⟩ => ⟨S8x16x8x128, .f32⟩
  | .hbm, ⟨5, _⟩ => ⟨S512, .f32⟩
  | .hbm, ⟨6, _⟩ => ⟨S512, .f32⟩
  | .hbm, ⟨7, _⟩ => ⟨S2x1024x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S8x16x512x128, .bf16⟩
  | .hbm, ⟨12, _⟩ => ⟨S8x16x2x4x64x128, .bf16⟩
  | .hbm, ⟨13, _⟩ => ⟨S8x16x2x4x64x128, .f32⟩
  | .hbm, ⟨14, _⟩ => ⟨S8x2048x128, .bf16⟩
  | .hbm, ⟨15, _⟩ => ⟨S8x16x128x2x64, .bf16⟩
  | .hbm, ⟨16, _⟩ => ⟨S8x16x128x2x64, .f32⟩
  | .hbm, ⟨17, _⟩ => ⟨S8x16x128x128, .bf16⟩
  | .hbm, ⟨18, _⟩ => ⟨S8x16x2x64x128, .bf16⟩
  | .hbm, ⟨19, _⟩ => ⟨S8x16x2x64x128, .f32⟩
  | .hbm, ⟨20, _⟩ => ⟨S8x1x128x2x64, .f32⟩
  | .hbm, ⟨21, _⟩ => ⟨S_, .f32⟩
  | .hbm, ⟨22, _⟩ => ⟨S8x1x128x2x64, .f32⟩
  | .hbm, ⟨23, _⟩ => ⟨S8x1x2x64x128, .f32⟩
  | .hbm, ⟨24, _⟩ => ⟨S_, .f32⟩
  | .hbm, ⟨25, _⟩ => ⟨S8x1x2x64x128, .f32⟩
  | .hbm, ⟨26, _⟩ => ⟨S8x15x128x2x64, .f32⟩
  | .hbm, ⟨27, _⟩ => ⟨S8x16x128x2x64, .f32⟩
  | .hbm, ⟨28, _⟩ => ⟨S8x16x256x2x64, .f32⟩
  | .hbm, ⟨29, _⟩ => ⟨S8x15x2x64x128, .f32⟩
  | .hbm, ⟨30, _⟩ => ⟨S8x16x2x64x128, .f32⟩
  | .hbm, ⟨31, _⟩ => ⟨S8x16x2x64x256, .f32⟩
  | .hbm, ⟨32, _⟩ => ⟨S8x16x2x4x128x256, .f32⟩
  | .hbm, ⟨33, _⟩ => ⟨S128, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i1⟩
  | .hbm, ⟨50, _⟩ => ⟨S16, .i32⟩
  | .hbm, ⟨51, _⟩ => ⟨S_, .i32⟩
  | .hbm, ⟨52, _⟩ => ⟨S16, .i32⟩
  | .hbm, ⟨53, _⟩ => ⟨S16, .i1⟩
  | .hbm, ⟨54, _⟩ => ⟨S16x1x1, .i1⟩
  | .hbm, ⟨55, _⟩ => ⟨S_, .i32⟩
  | .hbm, ⟨56, _⟩ => ⟨S1x256, .i32⟩
  | .hbm, ⟨57, _⟩ => ⟨S1x256, .i1⟩
  | .hbm, ⟨58, _⟩ => ⟨S1x1x256, .i1⟩
  | .hbm, ⟨59, _⟩ => ⟨S16x1x256, .i1⟩
  | .hbm, ⟨60, _⟩ => ⟨S16x1x256, .i1⟩
  | .hbm, ⟨61, _⟩ => ⟨S16x1x256, .i1⟩
  | .hbm, ⟨62, _⟩ => ⟨S1x128x256, .i1⟩
  | .hbm, ⟨63, _⟩ => ⟨S16x128x256, .i1⟩
  | .hbm, ⟨64, _⟩ => ⟨S16x128x256, .i1⟩
  | .hbm, ⟨65, _⟩ => ⟨S16x128x256, .i1⟩
  | .hbm, ⟨66, _⟩ => ⟨S1x16x1x1x128x256, .i1⟩
  | .hbm, ⟨67, _⟩ => ⟨S_, .f32⟩
  | .hbm, ⟨68, _⟩ => ⟨S_, .f32⟩
  | .hbm, ⟨69, _⟩ => ⟨S8x16x2x4x128x256, .i1⟩
  | .hbm, ⟨70, _⟩ => ⟨S8x16x2x4x128x256, .f32⟩
  | .hbm, ⟨71, _⟩ => ⟨S8x16x2x4x128x256, .f32⟩
  | .hbm, ⟨72, _⟩ => ⟨S1x1x2x4x1x1, .f32⟩
  | .hbm, ⟨73, _⟩ => ⟨S8x16x2x4x128x1, .f32⟩
  | .hbm, ⟨74, _⟩ => ⟨S8x16x2x4x128x257, .f32⟩
  | .hbm, ⟨75, _⟩ => ⟨S_, .f32⟩
  | .hbm, ⟨76, _⟩ => ⟨S8x16x2x4x128, .f32⟩
  | .hbm, ⟨77, _⟩ => ⟨S_, .f32⟩
  | .hbm, ⟨78, _⟩ => ⟨S8x16x2x4x128, .f32⟩
  | .hbm, ⟨79, _⟩ => ⟨S8x16x2x4x128, .f32⟩
  | .hbm, ⟨80, _⟩ => ⟨S8x16x2x4x128x1, .f32⟩
  | .hbm, ⟨81, _⟩ => ⟨S8x16x2x4x128x257, .f32⟩
  | .hbm, ⟨82, _⟩ => ⟨S8x16x2x4x128x257, .f32⟩
  | .hbm, ⟨83, _⟩ => ⟨S8x16x2x4x128x257, .f32⟩
  | .hbm, ⟨84, _⟩ => ⟨S_, .f32⟩
  | .hbm, ⟨85, _⟩ => ⟨S8x16x2x4x128, .f32⟩
  | .hbm, ⟨86, _⟩ => ⟨S8x16x2x4x128x1, .f32⟩
  | .hbm, ⟨87, _⟩ => ⟨S8x16x2x4x128x257, .f32⟩
  | .hbm, ⟨88, _⟩ => ⟨S8x16x2x4x128x257, .f32⟩
  | .hbm, ⟨89, _⟩ => ⟨S8x16x2x4x128x256, .f32⟩
  | .hbm, ⟨90, _⟩ => ⟨S8x16x2x4x128x256, .bf16⟩
  | .hbm, ⟨91, _⟩ => ⟨S8x16x2x4x128x256, .f32⟩
  | .hbm, ⟨92, _⟩ => ⟨S8x16x2x64x4x128, .f32⟩
  | .hbm, ⟨93, _⟩ => ⟨S8x16x128x2x4x64, .f32⟩
  | .hbm, ⟨94, _⟩ => ⟨S8x2048x512, .f32⟩
  | .hbm, ⟨95, _⟩ => ⟨S8x2048x512, .f32⟩
  | .hbm, ⟨96, _⟩ => ⟨S_, .f32⟩
  | .hbm, ⟨97, _⟩ => ⟨S8x2048, .f32⟩
  | .hbm, ⟨98, _⟩ => ⟨S8x2048x1, .f32⟩
  | .hbm, ⟨99, _⟩ => ⟨S_, .f32⟩
  | .hbm, ⟨100, _⟩ => ⟨S8x2048x1, .f32⟩
  | .hbm, ⟨101, _⟩ => ⟨S8x2048x1, .f32⟩
  | .hbm, ⟨102, _⟩ => ⟨S_, .f32⟩
  | .hbm, ⟨103, _⟩ => ⟨S8x2048x1, .f32⟩
  | .hbm, ⟨104, _⟩ => ⟨S8x2048x1, .f32⟩
  | .hbm, ⟨105, _⟩ => ⟨S8x2048x1, .f32⟩
  | .hbm, ⟨106, _⟩ => ⟨S8x2048x512, .f32⟩
  | .hbm, ⟨107, _⟩ => ⟨S8x2048x512, .f32⟩
  | .hbm, ⟨108, _⟩ => ⟨S1x1x512, .f32⟩
  | .hbm, ⟨109, _⟩ => ⟨S8x2048x512, .f32⟩
  | .hbm, ⟨110, _⟩ => ⟨S8x2048x512, .f32⟩
  | .hbm, ⟨111, _⟩ => ⟨S8x512x2048, .f32⟩
  | .hbm, ⟨112, _⟩ => ⟨S8x512x2048, .bf16⟩
  | .hbm, ⟨113, _⟩ => ⟨S1x1024x1024, .f32⟩
  | .hbm, ⟨114, _⟩ => ⟨S1024x1024, .f32⟩
  | .hbm, ⟨115, _⟩ => ⟨S1024x1024, .bf16⟩
  | .hbm, ⟨116, _⟩ => ⟨S1x1024x2816, .f32⟩
  | .hbm, ⟨117, _⟩ => ⟨S1024x2816, .f32⟩
  | .hbm, ⟨118, _⟩ => ⟨S1024x2816, .bf16⟩
  | .hbm, ⟨119, _⟩ => ⟨S1x1024x2816, .f32⟩
  | .hbm, ⟨120, _⟩ => ⟨S1024x2816, .f32⟩
  | .hbm, ⟨121, _⟩ => ⟨S1024x2816, .bf16⟩
  | .hbm, ⟨122, _⟩ => ⟨S1x2816x1024, .f32⟩
  | .hbm, ⟨123, _⟩ => ⟨S2816x1024, .f32⟩
  | .hbm, ⟨124, _⟩ => ⟨S2816x1024, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]
-- ==== Ffn.lean ====
abbrev S8x1024x2048 : Shape := ⟨3, ![8, 1024, 2048]⟩
abbrev S8x2048x1024 : Shape := ⟨3, ![8, 2048, 1024]⟩
abbrev S8x1x6144 : Shape := ⟨3, ![8, 1, 6144]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S8x1x1024 : Shape := ⟨3, ![8, 1, 1024]⟩
abbrev S1x1024 : Shape := ⟨2, ![1, 1024]⟩
abbrev S1x1024x512 : Shape := ⟨3, ![1, 1024, 512]⟩
abbrev S1x512x1024 : Shape := ⟨3, ![1, 512, 1024]⟩
abbrev S1x1x1024 : Shape := ⟨3, ![1, 1, 1024]⟩
abbrev S1x1024x256 : Shape := ⟨3, ![1, 1024, 256]⟩
abbrev S1024x256 : Shape := ⟨2, ![1024, 256]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x2816 : Shape := ⟨2, ![256, 2816]⟩

abbrev nBuf : Space → Nat
  | .hbm => 22
  | .vmem => 22
  | .smem => 0
  | _ => 0

abbrev bufTy : (tb : Table) → Fin (tcTables nBuf tb) → BufTy
  | .hbm, ⟨0, _⟩ => ⟨S8x1024x2048, .bf16⟩
  | .hbm, ⟨1, _⟩ => ⟨S8x2048x1024, .f32⟩
  | .hbm, ⟨2, _⟩ => ⟨S8x1x6144, .f32⟩
  | .hbm, ⟨3, _⟩ => ⟨S1024x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== FfnReferenceIdeal.lean ====
abbrev S8x1024x2048 : Shape := ⟨3, ![8, 1024, 2048]⟩
abbrev S8x2048x1024 : Shape := ⟨3, ![8, 2048, 1024]⟩
abbrev S8x1x6144 : Shape := ⟨3, ![8, 1, 6144]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 120
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x2048x1024, .f32⟩
  | .hbm, ⟨2, _⟩ => ⟨S8x1x6144, .f32⟩
  | .hbm, ⟨3, _⟩ => ⟨S1024x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8x1024x2048, .f32⟩
  | .hbm, ⟨12, _⟩ => ⟨S8x2048x1024, .f32⟩
  | .hbm, ⟨13, _⟩ => ⟨S1024x1024, .f32⟩
  | .hbm, ⟨14, _⟩ => ⟨S1024x2816, .f32⟩
  | .hbm, ⟨15, _⟩ => ⟨S1024x2816, .f32⟩
  | .hbm, ⟨16, _⟩ => ⟨S2816x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x1x1024, .f32⟩
  | .hbm, ⟨64, _⟩ => ⟨S8x1x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x2816, .f32⟩
  | .hbm, ⟨70, _⟩ => ⟨S8x2048x2816, .f32⟩
  | .hbm, ⟨71, _⟩ => ⟨S8x2048x2816, .f32⟩
  | .hbm, ⟨72, _⟩ => ⟨S_, .f32⟩
  | .hbm, ⟨73, _⟩ => ⟨S8x2048x2816, .f32⟩
  | .hbm, ⟨74, _⟩ => ⟨S8x2048x2816, .f32⟩
  | .hbm, ⟨75, _⟩ => ⟨S_, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S8x2048x2816, .f32⟩
  | .hbm, ⟨80, _⟩ => ⟨S8x2048x2816, .f32⟩
  | .hbm, ⟨81, _⟩ => ⟨S8x2048x1024, .f32⟩
  | .hbm, ⟨82, _⟩ => ⟨S_, .f32⟩
  | .hbm, ⟨83, _⟩ => ⟨S8x2048x1024, .f32⟩
  | .hbm, ⟨84, _⟩ => ⟨S8x2048x1024, .f32⟩
  | .hbm, ⟨85, _⟩ => ⟨S_, .f32⟩
  | .hbm, ⟨86, _⟩ => ⟨S8x1x1024, .f32⟩
  | .hbm, ⟨87, _⟩ => ⟨S8x1x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S_, .f32⟩
  | .hbm, ⟨92, _⟩ => ⟨S8x2048, .f32⟩
  | .hbm, ⟨93, _⟩ => ⟨S8x2048x1, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S8x2048x1024, .f32⟩
  | .hbm, ⟨98, _⟩ => ⟨S8x2048x1024, .f32⟩
  | .hbm, ⟨99, _⟩ => ⟨S8x2048x1024, .f32⟩
  | .hbm, ⟨100, _⟩ => ⟨S_, .f32⟩
  | .hbm, ⟨101, _⟩ => ⟨S8x2048, .f32⟩
  | .hbm, ⟨102, _⟩ => ⟨S8x2048x1, .f32⟩
  | .hbm, ⟨103, _⟩ => ⟨S_, .f32⟩
  | .hbm, ⟨104, _⟩ => ⟨S8x2048x1, .f32⟩
  | .hbm, ⟨105, _⟩ => ⟨S8x2048x1, .f32⟩
  | .hbm, ⟨106, _⟩ => ⟨S8x2048x1024, .f32⟩
  | .hbm, ⟨107, _⟩ => ⟨S8x2048x1024, .f32⟩
  | .hbm, ⟨108, _⟩ => ⟨S_, .f32⟩
  | .hbm, ⟨109, _⟩ => ⟨S8x2048x1, .f32⟩
  | .hbm, ⟨110, _⟩ => ⟨S8x2048x1, .f32⟩
  | .hbm, ⟨111, _⟩ => ⟨S8x2048x1, .f32⟩
  | .hbm, ⟨112, _⟩ => ⟨S8x2048x1024, .f32⟩
  | .hbm, ⟨113, _⟩ => ⟨S8x2048x1024, .f32⟩
  | .hbm, ⟨114, _⟩ => ⟨S1x1x1024, .f32⟩
  | .hbm, ⟨115, _⟩ => ⟨S8x2048x1024, .f32⟩
  | .hbm, ⟨116, _⟩ => ⟨S8x2048x1024, .f32⟩
  | .hbm, ⟨117, _⟩ => ⟨S1x1x1024, .f32⟩
  | .hbm, ⟨118, _⟩ => ⟨S8x2048x1024, .f32⟩
  | .hbm, ⟨119, _⟩ => ⟨S8x2048x1024, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩

abbrev nD : Nat := 1
abbrev τ : Topo := Topo.v7x

variable {F : FTy → Type} [FloatOps F]
-- ==== Adaln.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnReferenceIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Keeps.lean ====
/- A program that only loads and stores buffers owned inside a resource `R` gives `R` back: the
   rules, one for each form of statement that a printed kernel body is made of. -/
module

public import Idealize.ShloMosaic.Lib.Tactic
public import Idealize.ShloMosaic.Lib.Memref
public import Idealize.ShloMosaic.Lib.Pipeline.FrameBody
public import Idealize.ShloMosaic.Lib.Pipeline.FrameSuffix

@[expose] public section

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ₀ : Labels}

local notation "𝕄" => MT nD τ sig Unit Val ℕ (UR sig nD τ) ℕ

variable {defs₀ : Defs nD τ sig Val Λ₀} {c : Dev nD}

/-- `R` is enough to run `p`, and `Q` of its result holds after it. -/
@[irreducible] def Runs (defs₀ : Defs nD τ sig Val Λ₀) (c : Dev nD) {α : Type} (R : sProp 𝕄) (p : Prog (TpuEff nD τ sig Val Λ₀ .tc) α)
    (Q : α → sProp 𝕄) : Prop :=
  R ⊢ wp frame (wpE defs₀ Variants.none (c : Thread nD τ) none) Set.univ p Q

/-- `p` runs inside `R` and gives it back. -/
abbrev Keeps (defs₀ : Defs nD τ sig Val Λ₀) (c : Dev nD) {α : Type} (R : sProp 𝕄) (p : Prog (TpuEff nD τ sig Val Λ₀ .tc) α) : Prop :=
  Runs defs₀ c R p fun _ => R

/-- The memref may be loaded inside `R`. -/
class CanLoad (c : Dev nD) (R : sProp 𝕄) {sp : CoreSpace} {s : Shape} {e : EltTy} (m : Memref sig .tc sp s e) : Prop where
  out : R ⊢ iprop(∃ X, owns (c : Thread nD τ) m fullShare X ∗ (owns (c : Thread nD τ) m fullShare X -∗ R))

/-- The memref may be stored to inside `R`, with any contents. -/
class CanStore (c : Dev nD) (R : sProp 𝕄) {sp : CoreSpace} {s : Shape} {e : EltTy} (m : Memref sig .tc sp s e) : Prop where
  out : R ⊢ iprop(∃ X, owns (c : Thread nD τ) m fullShare X ∗ (∀ Y, owns (c : Thread nD τ) m fullShare Y -∗ R))

instance {R : sProp 𝕄} {sp : CoreSpace} {s : Shape} {e : EltTy} {m : Memref sig .tc sp s e} [h : CanStore c R m] : CanLoad c R m where
  out := h.out.trans (by
    iintro ⟨%X, H, Hk⟩
    iexists X
    isplitl [H]; · iexact H
    iintro H
    iapply Hk
    iexact H)

section Rules

theorem Runs.ret {α : Type} {R : sProp 𝕄} {a : α} {Q : α → sProp 𝕄} (h : R ⊢ Q a) : Runs defs₀ c R (pure a) Q := by
  unfold Runs
  exact h.trans (le_wp_ret _ _ _ a Q)

theorem Runs.bind {α β : Type} {R : sProp 𝕄} {p : Prog (TpuEff nD τ sig Val Λ₀ .tc) α} {k : α → Prog (TpuEff nD τ sig Val Λ₀ .tc) β} {Q : α → sProp 𝕄} {Q' : β → sProp 𝕄}
    (hp : Runs defs₀ c R p Q) (hk : ∀ a, Runs defs₀ c (Q a) (k a) Q') : Runs defs₀ c R (p >>= k) Q' := by
  unfold Runs at *
  rw [wp_bind]
  exact hp.trans (wp_mono _ _ _ hk)

theorem keeps_ret {α : Type} {R : sProp 𝕄} (a : α) : Keeps defs₀ c R (pure a) := Runs.ret .rfl

theorem keeps_bind {α β : Type} {R : sProp 𝕄} {p : Prog (TpuEff nD τ sig Val Λ₀ .tc) α} {k : α → Prog (TpuEff nD τ sig Val Λ₀ .tc) β}
    (hp : Keeps defs₀ c R p) (hk : ∀ a, Keeps defs₀ c R (k a)) : Keeps defs₀ c R (p >>= k) := hp.bind hk

theorem keeps_dite {α : Type} {R : sProp 𝕄} {P : Prop} [Decidable P] {p : P → Prog (TpuEff nD τ sig Val Λ₀ .tc) α} {q : ¬ P → Prog (TpuEff nD τ sig Val Λ₀ .tc) α}
    (hp : ∀ h, Keeps defs₀ c R (p h)) (hq : ∀ h, Keeps defs₀ c R (q h)) : Keeps defs₀ c R (dite P p q) := by
  by_cases h : P
  · rw [dif_pos h]; exact hp h
  · rw [dif_neg h]; exact hq h

theorem keeps_ite {α : Type} {R : sProp 𝕄} {P : Prop} [Decidable P] {p q : Prog (TpuEff nD τ sig Val Λ₀ .tc) α}
    (hp : Keeps defs₀ c R p) (hq : Keeps defs₀ c R q) : Keeps defs₀ c R (ite P p q) := by
  by_cases h : P
  · rw [if_pos h]; exact hp
  · rw [if_neg h]; exact hq

theorem Runs.out {α : Type} {R : sProp 𝕄} {p : Prog (TpuEff nD τ sig Val Λ₀ .tc) α} {Q : α → sProp 𝕄} (h : Runs defs₀ c R p Q) :
    R ⊢ wp frame (wpE defs₀ Variants.none (c : Thread nD τ) none) Set.univ p Q := by
  unfold Runs at h; exact h

theorem keeps_for {α : Type} {R : sProp 𝕄} {w : Nat} {l : Scf.Loop w} {hok : l.OK} {init : α} {body : Fin l.trips → α → Prog (TpuEff nD τ sig Val Λ₀ .tc) α}
    (h : ∀ k a, Keeps defs₀ c R (body k a)) : Keeps defs₀ c R (Scf.Loop.for l hok init body) := by
  unfold Keeps Runs
  refine BIBase.Entails.trans ?_ (Scf.wp_for frame _ Set.univ l.lb l.ub l.st hok init body (fun _ _ => R) (fun k a => (h k a).out) (Q := fun _ => R))
  iintro H
  isplitl [H]; · iexact H
  iintro %a H
  iexact H

theorem keeps_load {R : sProp 𝕄} {sp : CoreSpace} {s : Shape} {e : EltTy} {m : Memref sig .tc sp s e} [hm : CanLoad c R m] {r : LoadRect s} {hl : m.view.LoadsAt r}
    : Keeps defs₀ c R (Prog.lift (.load m r hl)) := by
  unfold Keeps Runs
  refine hm.out.trans ?_
  unfold owns
  iintro ⟨%X, ⟨%f, %hf, H⟩, Hk⟩
  iapply (wp_load Variants.none (c : Thread nD τ) none Set.univ (m := m) (r := r) (hl := hl) (k := fun x => .ret x) (m.view.setOn_subset_set r.set)) $$ H
  iintro H
  iapply (le_wp_ret _ _ _ _ _)
  iapply Hk
  iexists f
  isplitr
  · ipureintro; exact hf
  · iexact H

theorem keeps_store {R : sProp 𝕄} {sp : CoreSpace} {s : Shape} {e : EltTy} {m : Memref sig .tc sp s e} [hm : CanStore c R m] {r : Rect s} {w : r.shape.Idx → Val e}
    {Mk : Finset r.shape.Idx} {hx : (m.access r).Stores Mk} {hu : Mk = Finset.univ ∨ ∀ a, r.stride a = 1} :
    Keeps defs₀ c R (Prog.lift (.store m r w Mk hx hu)) := by
  unfold Keeps Runs
  refine hm.out.trans ?_
  iintro ⟨%X, H, Hk⟩
  unfold owns
  icases H with ⟨%f, %hf, H⟩
  iapply (wp_store Variants.none (c : Thread nD τ) none Set.univ (m := m) (r := r) (w := w) (Mk := Mk) (hx := hx) (hm := hu) (k := fun x => .ret x)
    (S := m.view.set) (((m.access r).setOn_subset_set Mk).trans (m.view.set_slice_subset r))) $$ H
  iintro H
  iapply (le_wp_ret _ _ _ _ _)
  iapply Hk $$ %((m.view.read Val ((m.access r).write Val f w Mk)))
  iexists ((m.access r).write Val f w Mk)
  isplitr
  · ipureintro; rfl
  · iexact H

/-- A load, and what follows it. -/
theorem kl {α : Type} {R : sProp 𝕄} {sp : CoreSpace} {s : Shape} {e : EltTy} {m : Memref sig .tc sp s e} [CanLoad c R m] {r : LoadRect s}
    {hl : m.view.LoadsAt r} {k : (r.shape.Idx → Val e) → Prog (TpuEff nD τ sig Val Λ₀ .tc) α} (hk : ∀ v, Keeps defs₀ c R (k v)) :
    Keeps defs₀ c R (Prog.lift (.load m r hl) >>= k) := keeps_bind keeps_load hk

/-- A store, and what follows it. -/
theorem ks {α : Type} {R : sProp 𝕄} {sp : CoreSpace} {s : Shape} {e : EltTy} {m : Memref sig .tc sp s e} [CanStore c R m] {r : Rect s}
    {w : r.shape.Idx → Val e} {Mk : Finset r.shape.Idx} {hx : (m.access r).Stores Mk} {hu : Mk = Finset.univ ∨ ∀ a, r.stride a = 1}
    {k : PUnit → Prog (TpuEff nD τ sig Val Λ₀ .tc) α} (hk : ∀ v, Keeps defs₀ c R (k v)) :
    Keeps defs₀ c R (Prog.lift (.store m r w Mk hx hu) >>= k) := keeps_bind keeps_store hk

end Rules

/-! ## Finding a memref inside a separating conjunction -/

instance {sp : CoreSpace} {s : Shape} {e : EltTy} {m : Memref sig .tc sp s e} {X : s.Idx → Val e} :
    CanLoad c (owns (c : Thread nD τ) m fullShare X : sProp 𝕄) m where
  out := by
    iintro H
    iexists X
    isplitl [H]
    · iexact H
    iintro H
    iexact H

/-- The memref is held, at contents not named. -/
def Held (c : Dev nD) {sp : CoreSpace} {s : Shape} {e : EltTy} (m : Memref sig .tc sp s e) : sProp 𝕄 :=
  iprop(∃ X, owns (c : Thread nD τ) m fullShare X)

instance {sp : CoreSpace} {s : Shape} {e : EltTy} {m : Memref sig .tc sp s e} :
    CanStore c (Held c m : sProp 𝕄) m where
  out := by
    unfold Held
    iintro ⟨%X, H⟩
    iexists X
    isplitl [H]
    · iexact H
    iintro %Y H
    iexists Y
    iexact H

instance {A B : sProp 𝕄} {sp : CoreSpace} {s : Shape} {e : EltTy} {m : Memref sig .tc sp s e} [h : CanLoad c B m] :
    CanLoad c (iprop(A ∗ B) : sProp 𝕄) m where
  out := (Laws.sep_mono .rfl h.out).trans (by
    iintro ⟨HA, %X, H, Hk⟩
    iexists X
    isplitl [H]
    · iexact H
    iintro H
    isplitl [HA]
    · iexact HA
    iapply Hk
    iexact H)

instance {A B : sProp 𝕄} {sp : CoreSpace} {s : Shape} {e : EltTy} {m : Memref sig .tc sp s e} [h : CanLoad c A m] :
    CanLoad c (iprop(A ∗ B) : sProp 𝕄) m where
  out := (Laws.sep_mono h.out .rfl).trans (by
    iintro ⟨⟨%X, H, Hk⟩, HB⟩
    iexists X
    isplitl [H]
    · iexact H
    iintro H
    isplitl [H Hk]
    · iapply Hk
      iexact H
    iexact HB)

instance {A B : sProp 𝕄} {sp : CoreSpace} {s : Shape} {e : EltTy} {m : Memref sig .tc sp s e} [h : CanStore c B m] :
    CanStore c (iprop(A ∗ B) : sProp 𝕄) m where
  out := (Laws.sep_mono .rfl h.out).trans (by
    iintro ⟨HA, %X, H, Hk⟩
    iexists X
    isplitl [H]
    · iexact H
    iintro %Y H
    isplitl [HA]
    · iexact HA
    iapply Hk
    iexact H)

instance {A B : sProp 𝕄} {sp : CoreSpace} {s : Shape} {e : EltTy} {m : Memref sig .tc sp s e} [h : CanStore c A m] :
    CanStore c (iprop(A ∗ B) : sProp 𝕄) m where
  out := (Laws.sep_mono h.out .rfl).trans (by
    iintro ⟨⟨%X, H, Hk⟩, HB⟩
    iexists X
    isplitl [H]
    · iexact H
    iintro %Y H
    isplitl [H Hk]
    · iapply Hk
      iexact H
    iexact HB)

end Cert.Keep

end
-- ==== Proof.FrameKernel.lean ====
/- The frame of the attention call: its body keeps the staged inputs, and the run ends at rest. -/
module

public import proofs.«01_k».proof.Proof.Gen.Kernel.Frame
public import proofs.«01_k».proof.Proof.PartsKernel.Top

@[expose] public section

set_option synthInstance.maxSize 4096

noncomputable section

namespace Cert.Kernel.Keep

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.Kernel.Gen
open Idealize.ShloMosaic.Pipeline (Dat BodyObligation)
open Cert.Keep

variable {F : FTy → Type} [FloatOps F] [∀ e, Nonempty (Elt F e)]

local notation "𝕄" => MT nD τ sig Unit (Elt F) ℕ (UR sig nD τ) ℕ

set_option synthInstance.maxHeartbeats 1000000
set_option maxHeartbeats 2000000

/-! ## The body as a triple -/

section Sep

theorem body_sep [Facts] {c : Dev nD} {i : grid0.Coords} {arg2 : Memref sig .tc .smem S8 .f32} {harg2 : arg2.IsWhole} {arg3 : Memref sig .tc .vmem S1x1x1536x128 .bf16} {harg3 : arg3.IsWhole} {arg4 : Memref sig .tc .vmem S1x2048x384 .bf16} {harg4 : arg4.IsWhole} {arg5 : Memref sig .tc .vmem S1x16x256x128 .bf16} {harg5 : arg5.IsWhole} {arg6 : Memref sig .tc .vmem S1x1x8x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S1x16x1024 .f32} {harg9 : arg9.IsWhole} {arg10 : Memref sig .tc .vmem S1x16x2816 .f32} {harg10 : arg10.IsWhole} {arg11 : Memref sig .tc .vmem S1x16x2816 .f32} {harg11 : arg11.IsWhole} {arg12 : Memref sig .tc .vmem S1x32x1024 .f32} {harg12 : arg12.IsWhole} {arg13 : Memref sig .tc .vmem S1x1024x128 .bf16} {harg13 : arg13.IsWhole} {arg14 : Memref sig .tc .vmem S16x1024 .bf16} {harg14 : arg14.IsWhole} {arg15 : Memref sig .tc .vmem S16x2816 .bf16} {harg15 : arg15.IsWhole} {arg16 : Memref sig .tc .vmem S16x2816 .bf16} {harg16 : arg16.IsWhole} {arg17 : Memref sig .tc .vmem S32x1024 .bf16} {harg17 : arg17.IsWhole} {arg18 : Memref sig .tc .vmem S2048x128 .f32} {harg18 : arg18.IsWhole} {arg19 : Memref sig .tc .vmem S1x128 .f32} {harg19 : arg19.IsWhole} {arg20 : Memref sig .tc .vmem S1x128 .i32} {harg20 : arg20.IsWhole} {arg21 : Memref sig .tc .vmem S1x1024 .f32} {harg21 : arg21.IsWhole} {arg22 : Memref sig .tc .vmem S72x1024 .f32} {harg22 : arg22.IsWhole} {arg23 : Memref sig .tc .vmem S1024x128 .f32} {harg23 : arg23.IsWhole} {arg24 : Memref sig .tc .vmem S256x1024 .f32} {harg24 : arg24.IsWhole} {arg25 : Memref sig .tc .vmem S2048x1024 .bf16} {harg25 : arg25.IsWhole} {arg26 : Memref sig .tc .vmem S256x1024 .bf16} {harg26 : arg26.IsWhole} {arg27 : Memref sig .tc .vmem S2048x1024 .f32} {harg27 : arg27.IsWhole} {P P2 : sProp 𝕄} {X2 : S8.Idx → Elt F (.f32)} {X3 : S1x1x1536x128.Idx → Elt F (.bf16)} {X4 : S1x2048x384.Idx → Elt F (.bf16)} {X5 : S1x16x256x128.Idx → Elt F (.bf16)} {X6 : S1x1x8x128.Idx → Elt F (.f32)} {X7 : S512x128.Idx → Elt F (.f32)} {X8 : S512x128.Idx → Elt F (.f32)} {X9 : S1x16x1024.Idx → Elt F (.f32)} {X10 : S1x16x2816.Idx → Elt F (.f32)} {X11 : S1x16x2816.Idx → Elt F (.f32)} {X12 : S1x32x1024.Idx → Elt F (.f32)} :
    Keeps (defs₀ (F := F)) c iprop(((Held c arg18 ∗ Held c arg19 ∗ Held c arg20 ∗ Held c arg21 ∗ Held c arg22 ∗ Held c arg23 ∗ Held c arg24 ∗ Held c arg25 ∗ Held c arg26 ∗ Held c arg27) ∗ P) ∗ P2 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ Held c arg13 ∗ Held c arg14 ∗ Held c arg15 ∗ Held c arg16 ∗ Held c arg17) (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) :=
  body

end Sep

variable (m : (ℓ : Loc nD τ sig) → Buf (Elt F) ℓ) (ρ : Dev nD → PrngReg)

/-- The body at point `t` keeps the inputs' blocks. -/
theorem body_at (c : Dev nD) (t : Fin cfg0.N) (P P2 : sProp 𝕄) :
    Keeps (defs₀ (F := F)) c iprop(((Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9)) ∗ P) ∗ P2 ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ Held c (win0_11.stage (cfg0.slots t 11)) ∗ Held c (win0_12.stage (cfg0.slots t 12)) ∗ Held c (win0_13.stage (cfg0.slots t 13)) ∗ Held c (win0_14.stage (cfg0.slots t 14)) ∗ Held c (win0_15.stage (cfg0.slots t 15)))
      (cc0_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) :=
  body_sep

/-- The body table's row at the point. -/
theorem row_at (t : Fin cfg0.N) : defs₀ (F := F) .tc cfg0.body (cfg0.bodyArgs t (cfg0.slots t)) = cc0_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) := by
  unfold defs₀; rw [Defs.onTc_tc]

/-- The results are not named here. -/
def forgets : Fin 16 → Bool := fun w => decide (11 ≤ w.val)

/-- The proof data: the arrays at entry, the inputs' blocks left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) 11 t
    | ⟨12, _⟩ => Dat.unnamed (cfg := cfg0) 12 t
    | ⟨13, _⟩ => Dat.unnamed (cfg := cfg0) 13 t
    | ⟨14, _⟩ => Dat.unnamed (cfg := cfg0) 14 t
    | ⟨15, _⟩ => Dat.unnamed (cfg := cfg0) 15 t
    | ⟨n + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem phi_eq (c : Dev nD) :
    (Pipeline.ΦA spec0 c : sProp 𝕄) = iprop((Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9)) ∗ (∃ r, prngReg c r)) := by
  unfold Pipeline.ΦA; rw [scopedRest0_eq]; simp only [Held, owns_whole]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ Held c (win0_11.stage (cfg0.slots t 11)) ∗ Held c (win0_12.stage (cfg0.slots t 12)) ∗ Held c (win0_13.stage (cfg0.slots t 13)) ∗ Held c (win0_14.stage (cfg0.slots t 14)) ∗ Held c (win0_15.stage (cfg0.slots t 15)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ Held c (win0_11.stage (cfg0.slots t 11)) ∗ Held c (win0_12.stage (cfg0.slots t 12)) ∗ Held c (win0_13.stage (cfg0.slots t 13)) ∗ Held c (win0_14.stage (cfg0.slots t 14)) ∗ Held c (win0_15.stage (cfg0.slots t 15)))

theorem before_0 (c : Dev nD) (t : Fin cfg0.N) :
    (∃ d, owns (c : Thread nD τ) (win0_0.stage (cfg0.slots t 0)) fullShare ((dats m 0 c).before 0 t d) : sProp 𝕄) ⊢ owns (c : Thread nD τ) (win0_0.stage (cfg0.slots t 0)) fullShare (iblk m c 0 t) := by
  iintro ⟨%d, H⟩
  rw [before0_0_of m (dats m 0 c) (A_eq m c 0) (fun t => rfl) t d]
  iexact H

theorem before_1 (c : Dev nD) (t : Fin cfg0.N) :
    (∃ d, owns (c : Thread nD τ) (win0_1.stage (cfg0.slots t 1)) fullShare ((dats m 0 c).before 1 t d) : sProp 𝕄) ⊢ owns (c : Thread nD τ) (win0_1.stage (cfg0.slots t 1)) fullShare (iblk m c 1 t) := by
  iintro ⟨%d, H⟩
  rw [before0_1_of m (dats m 0 c) (A_eq m c 1) (fun t => rfl) t d]
  iexact H

theorem before_2 (c : Dev nD) (t : Fin cfg0.N) :
    (∃ d, owns (c : Thread nD τ) (win0_2.stage (cfg0.slots t 2)) fullShare ((dats m 0 c).before 2 t d) : sProp 𝕄) ⊢ owns (c : Thread nD τ) (win0_2.stage (cfg0.slots t 2)) fullShare (iblk m c 2 t) := by
  iintro ⟨%d, H⟩
  rw [before0_2_of m (dats m 0 c) (A_eq m c 2) (fun t => rfl) t d]
  iexact H

theorem before_3 (c : Dev nD) (t : Fin cfg0.N) :
    (∃ d, owns (c : Thread nD τ) (win0_3.stage (cfg0.slots t 3)) fullShare ((dats m 0 c).before 3 t d) : sProp 𝕄) ⊢ owns (c : Thread nD τ) (win0_3.stage (cfg0.slots t 3)) fullShare (iblk m c 3 t) := by
  iintro ⟨%d, H⟩
  rw [before0_3_of m (dats m 0 c) (A_eq m c 3) (fun t => rfl) t d]
  iexact H

theorem before_4 (c : Dev nD) (t : Fin cfg0.N) :
    (∃ d, owns (c : Thread nD τ) (win0_4.stage (cfg0.slots t 4)) fullShare ((dats m 0 c).before 4 t d) : sProp 𝕄) ⊢ owns (c : Thread nD τ) (win0_4.stage (cfg0.slots t 4)) fullShare (iblk m c 4 t) := by
  iintro ⟨%d, H⟩
  rw [before0_4_of m (dats m 0 c) (A_eq m c 4) (fun t => rfl) t d]
  iexact H

theorem before_5 (c : Dev nD) (t : Fin cfg0.N) :
    (∃ d, owns (c : Thread nD τ) (win0_5.stage (cfg0.slots t 5)) fullShare ((dats m 0 c).before 5 t d) : sProp 𝕄) ⊢ owns (c : Thread nD τ) (win0_5.stage (cfg0.slots t 5)) fullShare (iblk m c 5 t) := by
  iintro ⟨%d, H⟩
  rw [before0_5_of m (dats m 0 c) (A_eq m c 5) (fun t => rfl) t d]
  iexact H

theorem before_6 (c : Dev nD) (t : Fin cfg0.N) :
    (∃ d, owns (c : Thread nD τ) (win0_6.stage (cfg0.slots t 6)) fullShare ((dats m 0 c).before 6 t d) : sProp 𝕄) ⊢ owns (c : Thread nD τ) (win0_6.stage (cfg0.slots t 6)) fullShare (iblk m c 6 t) := by
  iintro ⟨%d, H⟩
  rw [before0_6_of m (dats m 0 c) (A_eq m c 6) (fun t => rfl) t d]
  iexact H

theorem before_7 (c : Dev nD) (t : Fin cfg0.N) :
    (∃ d, owns (c : Thread nD τ) (win0_7.stage (cfg0.slots t 7)) fullShare ((dats m 0 c).before 7 t d) : sProp 𝕄) ⊢ owns (c : Thread nD τ) (win0_7.stage (cfg0.slots t 7)) fullShare (iblk m c 7 t) := by
  iintro ⟨%d, H⟩
  rw [before0_7_of m (dats m 0 c) (A_eq m c 7) (fun t => rfl) t d]
  iexact H

theorem before_8 (c : Dev nD) (t : Fin cfg0.N) :
    (∃ d, owns (c : Thread nD τ) (win0_8.stage (cfg0.slots t 8)) fullShare ((dats m 0 c).before 8 t d) : sProp 𝕄) ⊢ owns (c : Thread nD τ) (win0_8.stage (cfg0.slots t 8)) fullShare (iblk m c 8 t) := by
  iintro ⟨%d, H⟩
  rw [before0_8_of m (dats m 0 c) (A_eq m c 8) (fun t => rfl) t d]
  iexact H

theorem before_9 (c : Dev nD) (t : Fin cfg0.N) :
    (∃ d, owns (c : Thread nD τ) (win0_9.stage (cfg0.slots t 9)) fullShare ((dats m 0 c).before 9 t d) : sProp 𝕄) ⊢ owns (c : Thread nD τ) (win0_9.stage (cfg0.slots t 9)) fullShare (iblk m c 9 t) := by
  iintro ⟨%d, H⟩
  rw [before0_9_of m (dats m 0 c) (A_eq m c 9) (fun t => rfl) t d]
  iexact H

theorem before_10 (c : Dev nD) (t : Fin cfg0.N) :
    (∃ d, owns (c : Thread nD τ) (win0_10.stage (cfg0.slots t 10)) fullShare ((dats m 0 c).before 10 t d) : sProp 𝕄) ⊢ owns (c : Thread nD τ) (win0_10.stage (cfg0.slots t 10)) fullShare (iblk m c 10 t) := by
  iintro ⟨%d, H⟩
  rw [before0_10_of m (dats m 0 c) (A_eq m c 10) (fun t => rfl) t d]
  iexact H

theorem sound_body (c : Dev nD) (t : Fin cfg0.N) :
    bodyPre m c t ⊢ wp frame (wpE (defs₀ (F := F)) Variants.none c none) Set.univ (cc0_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) (fun _ => bodyPost m c t) := by
  have h := (body_at m c t iprop(∃ r, prngReg c r) ((dats m 0 c).owesAt () t.castSucc)).out
  have hpost : bodyPost m c t = iprop(((Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9)) ∗ iprop(∃ r, prngReg c r)) ∗ (dats m 0 c).owesAt () t.castSucc ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ Held c (win0_11.stage (cfg0.slots t 11)) ∗ Held c (win0_12.stage (cfg0.slots t 12)) ∗ Held c (win0_13.stage (cfg0.slots t 13)) ∗ Held c (win0_14.stage (cfg0.slots t 14)) ∗ Held c (win0_15.stage (cfg0.slots t 15))) := by
    unfold bodyPost
    rw [show (dats m 0 c).Φ t.succ = Pipeline.ΦA spec0 c from rfl, phi_eq,
      show (dats m 0 c).owesAt () t.succ = (dats m 0 c).owesAt () t.castSucc from rfl]
    rfl
  rw [hpost]
  refine BIBase.Entails.trans ?_ h
  unfold bodyPre
  rw [show (dats m 0 c).Φ t.castSucc = Pipeline.ΦA spec0 c from rfl, phi_eq]
  refine Laws.sep_mono .rfl (Laws.sep_mono .rfl ?_)
  refine Laws.sep_mono (before_0 m c t) ?_
  refine Laws.sep_mono (before_1 m c t) ?_
  refine Laws.sep_mono (before_2 m c t) ?_
  refine Laws.sep_mono (before_3 m c t) ?_
  refine Laws.sep_mono (before_4 m c t) ?_
  refine Laws.sep_mono (before_5 m c t) ?_
  refine Laws.sep_mono (before_6 m c t) ?_
  refine Laws.sep_mono (before_7 m c t) ?_
  refine Laws.sep_mono (before_8 m c t) ?_
  refine Laws.sep_mono (before_9 m c t) ?_
  refine Laws.sep_mono (before_10 m c t) ?_
  exact .rfl

theorem body_obligation (c : Dev nD) :
    BodyObligation (dats (F := F) m 0 c) (defs₀ (F := F)) Variants.none () Set.univ forgets := fun t => by
  rw [bigSep_W0, bigSep_W0, row_at]
  exact triple_restated (sound_body m c t) rfl .rfl fun _ => .rfl

/-- The one buffer the line after the region writes. -/
theorem sfx_T : ∀ ops ∈ ([hostOps1] : List (List (HloOp τ sig (Elt F)))), ∀ op ∈ ops,
    ∀ b : Ref sig .tc, Proc.devRef .tc b ∈ op.writes → b ∈ ({main_v5} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  rw [Finset.mem_singleton]
  by_contra hne
  exact StableHlo.devRef_ne_of_ne hne hb

set_option backward.isDefEq.respectTransparency.types false in
/-- The call and the lines around it run to the end, with the arguments as they were and every counter at zero. -/
theorem run_frame :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_frame_around_T_forget (Q' := _) cfgs (dats m) (0 : Fin 1) launch0 defs₀ Variants.none forgets {main_v5} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)
    (hQ' := fun r h => ⟨fun c => ⟨
      by
        have h0 := (h.1 c).1 0
        rw [Pipeline.RDat.ArrAt_in _ 0 rfl] at h0
        exact h0.trans ((A_eq m c 0).trans (V_main_arg0 m c)),
      by
        have h0 := (h.1 c).1 1
        rw [Pipeline.RDat.ArrAt_in _ 1 rfl] at h0
        exact h0.trans ((A_eq m c 1).trans (V_main_arg1 m c)),
      by
        have h0 := (h.1 c).1 2
        rw [Pipeline.RDat.ArrAt_in _ 2 rfl] at h0
        exact h0.trans ((A_eq m c 2).trans (V_main_arg2 m c)),
      by
        have h0 := (h.1 c).1 3
        rw [Pipeline.RDat.ArrAt_in _ 3 rfl] at h0
        exact h0.trans ((A_eq m c 3).trans (V_main_arg3 m c)),
      by
        have h0 := (h.1 c).1 4
        rw [Pipeline.RDat.ArrAt_in _ 4 rfl] at h0
        exact h0.trans ((A_eq m c 4).trans (V_main_arg4 m c)),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      by
        have h0 := (h.1 c).1 7
        rw [Pipeline.RDat.ArrAt_in _ 7 rfl] at h0
        exact h0.trans ((A_eq m c 7).trans (V_main_arg7 m c)),
      by
        have h0 := (h.1 c).1 8
        rw [Pipeline.RDat.ArrAt_in _ 8 rfl] at h0
        exact h0.trans ((A_eq m c 8).trans (V_main_arg8 m c)),
      by
        have h0 := (h.1 c).1 9
        rw [Pipeline.RDat.ArrAt_in _ 9 rfl] at h0
        exact h0.trans ((A_eq m c 9).trans (V_main_arg9 m c)),
      by
        have h0 := (h.1 c).1 10
        rw [Pipeline.RDat.ArrAt_in _ 10 rfl] at h0
        exact h0.trans ((A_eq m c 10).trans (V_main_arg10 m c))⟩, h.2⟩)

end Cert.Kernel.Keep

end
-- ==== Proof.PartsKernelIdeal.P1.lean ====
/- The parts of the kernel body, each inside any resource that lets it load and store what it loads and stores. -/
module

public import proofs.«01_k».proof.KernelIdeal
public import proofs.«01_k».proof.Proof.Keeps

@[expose] public section

set_option synthInstance.maxSize 4096

noncomputable section

namespace Cert.KernelIdeal.Keep

open Idealize.ShloMosaic Idealize.ShloMosaic.TcCoe Idealize.ShloMosaic.Tactic
open Idealize.SL Idealize.SL.RA Idealize.SL.BI Idealize.SL.Sem
open Cert.Keep

variable {F : FTy → Type} [FloatOps F] [Named F] [Facts]

local notation "𝕄" => MT nD τ sig Unit (Elt F) ℕ (UR sig nD τ) ℕ

variable {c : Dev nD} {i : grid0.Coords} {arg2 : Memref sig .tc .smem S8 .f32} {harg2 : arg2.IsWhole} {arg3 : Memref sig .tc .vmem S1x1x1536x128 .bf16} {harg3 : arg3.IsWhole} {arg4 : Memref sig .tc .vmem S1x2048x384 .bf16} {harg4 : arg4.IsWhole} {arg5 : Memref sig .tc .vmem S1x16x256x128 .bf16} {harg5 : arg5.IsWhole} {arg6 : Memref sig .tc .vmem S1x1x8x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S1x16x1024 .f32} {harg9 : arg9.IsWhole} {arg10 : Memref sig .tc .vmem S1x16x2816 .f32} {harg10 : arg10.IsWhole} {arg11 : Memref sig .tc .vmem S1x16x2816 .f32} {harg11 : arg11.IsWhole} {arg12 : Memref sig .tc .vmem S1x32x1024 .f32} {harg12 : arg12.IsWhole} {arg13 : Memref sig .tc .vmem S1x1024x128 .bf16} {harg13 : arg13.IsWhole} {arg14 : Memref sig .tc .vmem S16x1024 .bf16} {harg14 : arg14.IsWhole} {arg15 : Memref sig .tc .vmem S16x2816 .bf16} {harg15 : arg15.IsWhole} {arg16 : Memref sig .tc .vmem S16x2816 .bf16} {harg16 : arg16.IsWhole} {arg17 : Memref sig .tc .vmem S32x1024 .bf16} {harg17 : arg17.IsWhole} {arg18 : Memref sig .tc .vmem S2048x128 .f32} {harg18 : arg18.IsWhole} {arg19 : Memref sig .tc .vmem S1x128 .f32} {harg19 : arg19.IsWhole} {arg20 : Memref sig .tc .vmem S1x128 .i32} {harg20 : arg20.IsWhole} {arg21 : Memref sig .tc .vmem S1x1024 .f32} {harg21 : arg21.IsWhole} {arg22 : Memref sig .tc .vmem S72x1024 .f32} {harg22 : arg22.IsWhole} {arg23 : Memref sig .tc .vmem S1024x128 .f32} {harg23 : arg23.IsWhole} {arg24 : Memref sig .tc .vmem S256x1024 .f32} {harg24 : arg24.IsWhole} {arg25 : Memref sig .tc .vmem S2048x1024 .bf16} {harg25 : arg25.IsWhole} {arg26 : Memref sig .tc .vmem S256x1024 .bf16} {harg26 : arg26.IsWhole} {arg27 : Memref sig .tc .vmem S2048x1024 .f32} {harg27 : arg27.IsWhole}

theorem p1 {R : sProp 𝕄} [CanLoad c R arg18] (c0_i32_777) (c1_i32_778) (k0_t1) (arg29) (arg31) : Keeps (defs₀ (F := F)) c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c0_i32_777 c1_i32_778 k0_t1 arg29 arg31) := by
  unfold k0_part1
  refine kl fun _ => ?_
  refine kl fun _ => ?_
  refine kl fun _ => ?_
  exact keeps_ret _

theorem p2 {R : sProp 𝕄} [CanLoad c R arg18] (arg29) (arg31) (v1282) (v1315) (v1320) : Keeps (defs₀ (F := F)) c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg29 arg31 v1282 v1315 v1320) := by
  unfold k0_part2
  refine kl fun _ => ?_
  refine kl fun _ => ?_
  refine kl fun _ => ?_
  refine kl fun _ => ?_
  refine kl fun _ => ?_
  exact keeps_ret _

theorem p3 {R : sProp 𝕄} [CanLoad c R arg6] [CanLoad c R arg24] : Keeps (defs₀ (F := F)) c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part3
  refine kl fun _ => ?_
  refine kl fun _ => ?_
  refine kl fun _ => ?_
  refine kl fun _ => ?_
  refine kl fun _ => ?_
  refine kl fun _ => ?_
  exact keeps_ret _

theorem p4 {R : sProp 𝕄} [CanLoad c R arg6] [CanLoad c R arg24] (v531) : Keeps (defs₀ (F := F)) c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v531) := by
  unfold k0_part4
  refine kl fun _ => ?_
  refine kl fun _ => ?_
  refine kl fun _ => ?_
  refine kl fun _ => ?_
  refine kl fun _ => ?_
  refine kl fun _ => ?_
  exact keeps_ret _

theorem p5 {R : sProp 𝕄} [CanStore c R arg18] [CanLoad c R arg4] [CanLoad c R arg6] [CanLoad c R arg26] (v37) (v38) (v565) (v566) : Keeps (defs₀ (F := F)) c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v565 v566) := by
  unfold k0_part5
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p6 {R : sProp 𝕄} [CanLoad c R arg4] [CanLoad c R arg6] [CanLoad c R arg26] (v594) (v598) (v599) : Keeps (defs₀ (F := F)) c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v594 v598 v599) := by
  unfold k0_part6
  refine kl fun _ => ?_
  refine kl fun _ => ?_
  refine kl fun _ => ?_
  refine kl fun _ => ?_
  refine kl fun _ => ?_
  refine kl fun _ => ?_
  exact keeps_ret _

theorem p7 {R : sProp 𝕄} [CanStore c R arg18] [CanLoad c R arg4] [CanLoad c R arg6] [CanLoad c R arg26] (v37) (v38) (v626) (v633) : Keeps (defs₀ (F := F)) c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v626 v633) := by
  unfold k0_part7
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p8 {R : sProp 𝕄} [CanLoad c R arg4] [CanLoad c R arg6] [CanLoad c R arg26] (v663) (v665) (v666) : Keeps (defs₀ (F := F)) c R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v663 v665 v666) := by
  unfold k0_part8
  refine kl fun _ => ?_
  refine kl fun _ => ?_
  refine kl fun _ => ?_
  refine kl fun _ => ?_
  refine kl fun _ => ?_
  refine kl fun _ => ?_
  exact keeps_ret _

theorem p9 {R : sProp 𝕄} [CanLoad c R arg4] [CanLoad c R arg6] [CanLoad c R arg26] (v695) (v698) (v699) : Keeps (defs₀ (F := F)) c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v695 v698 v699) := by
  unfold k0_part9
  refine kl fun _ => ?_
  refine kl fun _ => ?_
  refine kl fun _ => ?_
  refine kl fun _ => ?_
  refine kl fun _ => ?_
  refine kl fun _ => ?_
  refine kl fun _ => ?_
  exact keeps_ret _

theorem p10 {R : sProp 𝕄} [CanStore c R arg18] [CanLoad c R arg4] [CanLoad c R arg6] [CanLoad c R arg26] (v37) (v38) (v723) (v727) (v730) (v732) : Keeps (defs₀ (F := F)) c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v723 v727 v730 v732) := by
  unfold k0_part10
  refine kl fun _ => ?_
  refine kl fun _ => ?_
  refine ks fun _ => ?_
  refine kl fun _ => ?_
  refine kl fun _ => ?_
  refine kl fun _ => ?_
  exact keeps_ret _

theorem p11 {R : sProp 𝕄} [CanLoad c R arg4] [CanLoad c R arg6] [CanLoad c R arg26] (v764) (v767) : Keeps (defs₀ (F := F)) c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v764 v767) := by
  unfold k0_part11
  refine kl fun _ => ?_
  refine kl fun _ => ?_
  refine kl fun _ => ?_
  refine kl fun _ => ?_
  refine kl fun _ => ?_
  refine kl fun _ => ?_
  refine kl fun _ => ?_
  exact keeps_ret _

theorem p12 {R : sProp 𝕄} [CanLoad c R arg4] [CanLoad c R arg6] [CanLoad c R arg26] (v37) (v38) (v792) (v796) (v799) : Keeps (defs₀ (F := F)) c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v792 v796 v799) := by
  unfold k0_part12
  refine kl fun _ => ?_
  refine kl fun _ => ?_
  refine kl fun _ => ?_
  refine kl fun _ => ?_
  refine kl fun _ => ?_
  refine kl fun _ => ?_
  exact keeps_ret _

theorem p13 {R : sProp 𝕄} [CanStore c R arg18] [CanLoad c R arg4] [CanLoad c R arg6] [CanLoad c R arg26] (v832) (v835) (cst_466) : Keeps (defs₀ (F := F)) c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v832 v835 cst_466) := by
  unfold k0_part13
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p14 {R : sProp 𝕄} [CanLoad c R arg4] [CanLoad c R arg6] [CanLoad c R arg26] (v861) (v865) (v868) : Keeps (defs₀ (F := F)) c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v861 v865 v868) := by
  unfold k0_part14
  refine kl fun _ => ?_
  refine kl fun _ => ?_
  refine kl fun _ => ?_
  refine kl fun _ => ?_
  refine kl fun _ => ?_
  refine kl fun _ => ?_
  exact keeps_ret _

theorem p15 {R : sProp 𝕄} [CanStore c R arg18] [CanLoad c R arg4] [CanLoad c R arg6] [CanLoad c R arg26] (v37) (v38) (v901) : Keeps (defs₀ (F := F)) c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v901) := by
  unfold k0_part15
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p16 {R : sProp 𝕄} [CanLoad c R arg4] [CanLoad c R arg6] [CanLoad c R arg26] (v930) (v934) (v935) : Keeps (defs₀ (F := F)) c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v930 v934 v935) := by
  unfold k0_part16
  refine kl fun _ => ?_
  refine kl fun _ => ?_
  refine kl fun _ => ?_
  refine kl fun _ => ?_
  refine kl fun _ => ?_
  refine kl fun _ => ?_
  exact keeps_ret _

theorem p17 {R : sProp 𝕄} [CanLoad c R arg4] [CanLoad c R arg6] [CanLoad c R arg26] (v962) (v969) : Keeps (defs₀ (F := F)) c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v962 v969) := by
  unfold k0_part17
  refine kl fun _ => ?_
  refine kl fun _ => ?_
  refine kl fun _ => ?_
  refine kl fun _ => ?_
  refine kl fun _ => ?_
  refine kl fun _ => ?_
  refine kl fun _ => ?_
  exact keeps_ret _

theorem p18 {R : sProp 𝕄} [CanStore c R arg18] [CanLoad c R arg4] [CanLoad c R arg6] [CanLoad c R arg26] (v37) (v38) (v994) (v1002) : Keeps (defs₀ (F := F)) c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v994 v1002) := by
  unfold k0_part18
  refine kl fun _ => ?_
  refine kl fun _ => ?_
  refine ks fun _ => ?_
  refine kl fun _ => ?_
  refine kl fun _ => ?_
  refine kl fun _ => ?_
  refine kl fun _ => ?_
  exact keeps_ret _

theorem p19 {R : sProp 𝕄} [CanLoad c R arg4] [CanLoad c R arg6] [CanLoad c R arg26] (v1031) (v1034) (v1035) : Keeps (defs₀ (F := F)) c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1031 v1034 v1035) := by
  unfold k0_part19
  refine kl fun _ => ?_
  refine kl fun _ => ?_
  refine kl fun _ => ?_
  refine kl fun _ => ?_
  refine kl fun _ => ?_
  refine kl fun _ => ?_
  refine kl fun _ => ?_
  exact keeps_ret _

theorem p20 {R : sProp 𝕄} [CanLoad c R arg4] [CanLoad c R arg6] [CanLoad c R arg26] (v37) (v38) (v1059) (v1063) (v1066) (v1068) : Keeps (defs₀ (F := F)) c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v1059 v1063 v1066 v1068) := by
  unfold k0_part20
  refine kl fun _ => ?_
  refine kl fun _ => ?_
  refine kl fun _ => ?_
  refine kl fun _ => ?_
  refine kl fun _ => ?_
  exact keeps_ret _

theorem p21 {R : sProp 𝕄} [CanStore c R arg18] [CanLoad c R arg4] [CanLoad c R arg6] [CanLoad c R arg26] (v1104) : Keeps (defs₀ (F := F)) c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1104) := by
  unfold k0_part21
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p22 {R : sProp 𝕄} [CanLoad c R arg4] [CanLoad c R arg6] [CanLoad c R arg26] (v1128) (v1132) (v1135) : Keeps (defs₀ (F := F)) c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1128 v1132 v1135) := by
  unfold k0_part22
  refine kl fun _ => ?_
  refine kl fun _ => ?_
  refine kl fun _ => ?_
  refine kl fun _ => ?_
  refine kl fun _ => ?_
  refine kl fun _ => ?_
  refine kl fun _ => ?_
  exact keeps_ret _

theorem p23 {R : sProp 𝕄} [CanStore c R arg18] [CanLoad c R arg6] [CanLoad c R arg26] (v37) (v38) (v1168) (v1170) : Keeps (defs₀ (F := F)) c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v1168 v1170) := by
  unfold k0_part23
  refine kl fun _ => ?_
  refine kl fun _ => ?_
  refine kl fun _ => ?_
  refine kl fun _ => ?_
  refine ks fun _ => ?_
  refine kl fun _ => ?_
  refine kl fun _ => ?_
  exact keeps_ret _

theorem p24 {R : sProp 𝕄} [CanLoad c R arg18] (v1204) (v1205) : Keeps (defs₀ (F := F)) c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1204 v1205) := by
  unfold k0_part24
  refine kl fun _ => ?_
  refine kl fun _ => ?_
  refine kl fun _ => ?_
  refine kl fun _ => ?_
  refine kl fun _ => ?_
  exact keeps_ret _

theorem p25 {R : sProp 𝕄} [CanStore c R arg18] [CanLoad c R arg4] [CanLoad c R arg6] [CanLoad c R arg24] [CanLoad c R arg26] (v37) (v38) : Keeps (defs₀ (F := F)) c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38) := by
  unfold k0_part25
  refine keeps_bind (p3) fun _ => ?_
  refine keeps_bind (p4 _) fun _ => ?_
  refine keeps_bind (p5 _ _ _ _) fun _ => ?_
  refine keeps_bind (p6 _ _ _) fun _ => ?_
  refine keeps_bind (p7 _ _ _ _) fun _ => ?_
  refine keeps_bind (p8 _ _ _) fun _ => ?_
  refine keeps_bind (p9 _ _ _) fun _ => ?_
  refine keeps_bind (p10 _ _ _ _ _ _) fun _ => ?_
  refine keeps_bind (p11 _ _) fun _ => ?_
  refine keeps_bind (p12 _ _ _ _ _) fun _ => ?_
  refine keeps_bind (p13 _ _ _) fun _ => ?_
  refine keeps_bind (p14 _ _ _) fun _ => ?_
  refine keeps_bind (p15 _ _ _) fun _ => ?_
  refine keeps_bind (p16 _ _ _) fun _ => ?_
  refine keeps_bind (p17 _ _) fun _ => ?_
  refine keeps_bind (p18 _ _ _ _) fun _ => ?_
  refine keeps_bind (p19 _ _ _) fun _ => ?_
  refine keeps_bind (p20 _ _ _ _ _ _) fun _ => ?_
  refine keeps_bind (p21 _) fun _ => ?_
  refine keeps_bind (p22 _ _ _) fun _ => ?_
  refine keeps_bind (p23 _ _ _ _) fun _ => ?_
  refine keeps_bind (p24 _ _) fun _ => ?_
  refine kl fun _ => ?_
  exact keeps_ret _

theorem p26 {R : sProp 𝕄} [CanLoad c R arg18] (c0_i32_705) (c1_i32_706) (k0_t2) (arg29) (arg31) : Keeps (defs₀ (F := F)) c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c0_i32_705 c1_i32_706 k0_t2 arg29 arg31) := by
  unfold k0_part26
  refine kl fun _ => ?_
  refine kl fun _ => ?_
  refine kl fun _ => ?_
  exact keeps_ret _

theorem p27 {R : sProp 𝕄} [CanLoad c R arg6] [CanLoad c R arg24] : Keeps (defs₀ (F := F)) c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part27
  refine kl fun _ => ?_
  refine kl fun _ => ?_
  refine kl fun _ => ?_
  refine kl fun _ => ?_
  refine kl fun _ => ?_
  refine kl fun _ => ?_
  exact keeps_ret _

theorem p28 {R : sProp 𝕄} [CanLoad c R arg6] [CanLoad c R arg24] (v531) : Keeps (defs₀ (F := F)) c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v531) := by
  unfold k0_part28
  refine kl fun _ => ?_
  refine kl fun _ => ?_
  refine kl fun _ => ?_
  refine kl fun _ => ?_
  refine kl fun _ => ?_
  refine kl fun _ => ?_
  exact keeps_ret _

theorem p29 {R : sProp 𝕄} [CanStore c R arg18] [CanLoad c R arg4] [CanLoad c R arg6] [CanLoad c R arg26] (v37) (v38) (v565) (v566) : Keeps (defs₀ (F := F)) c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v565 v566) := by
  unfold k0_part29
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p30 {R : sProp 𝕄} [CanLoad c R arg4] [CanLoad c R arg6] [CanLoad c R arg26] (v594) (v598) (v599) : Keeps (defs₀ (F := F)) c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v594 v598 v599) := by
  unfold k0_part30
  refine kl fun _ => ?_
  refine kl fun _ => ?_
  refine kl fun _ => ?_
  refine kl fun _ => ?_
  refine kl fun _ => ?_
  refine kl fun _ => ?_
  exact keeps_ret _

theorem p31 {R : sProp 𝕄} [CanStore c R arg18] [CanLoad c R arg4] [CanLoad c R arg6] [CanLoad c R arg26] (v37) (v38) (v626) (v633) : Keeps (defs₀ (F := F)) c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v626 v633) := by
  unfold k0_part31
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p32 {R : sProp 𝕄} [CanLoad c R arg4] [CanLoad c R arg6] [CanLoad c R arg26] (v663) (v665) (v666) : Keeps (defs₀ (F := F)) c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v663 v665 v666) := by
  unfold k0_part32
  refine kl fun _ => ?_
  refine kl fun _ => ?_
  refine kl fun _ => ?_
  refine kl fun _ => ?_
  refine kl fun _ => ?_
  refine kl fun _ => ?_
  exact keeps_ret _

theorem p33 {R : sProp 𝕄} [CanLoad c R arg4] [CanLoad c R arg6] [CanLoad c R arg26] (v695) (v698) (v699) : Keeps (defs₀ (F := F)) c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v695 v698 v699) := by
  unfold k0_part33
  refine kl fun _ => ?_
  refine kl fun _ => ?_
  refine kl fun _ => ?_
  refine kl fun _ => ?_
  refine kl fun _ => ?_
  refine kl fun _ => ?_
  refine kl fun _ => ?_
  exact keeps_ret _

theorem p34 {R : sProp 𝕄} [CanStore c R arg18] [CanLoad c R arg4] [CanLoad c R arg6] [CanLoad c R arg26] (v37) (v38) (v723) (v727) (v730) (v732) : Keeps (defs₀ (F := F)) c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v723 v727 v730 v732) := by
  unfold k0_part34
  refine kl fun _ => ?_
  refine kl fun _ => ?_
  refine ks fun _ => ?_
  refine kl fun _ => ?_
  refine kl fun _ => ?_
  refine kl fun _ => ?_
  exact keeps_ret _

theorem p35 {R : sProp 𝕄} [CanLoad c R arg4] [CanLoad c R arg6] [CanLoad c R arg26] (v764) (v767) : Keeps (defs₀ (F := F)) c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v764 v767) := by
  unfold k0_part35
  refine kl fun _ => ?_
  refine kl fun _ => ?_
  refine kl fun _ => ?_
  refine kl fun _ => ?_
  refine kl fun _ => ?_
  refine kl fun _ => ?_
  refine kl fun _ => ?_
  exact keeps_ret _

theorem p36 {R : sProp 𝕄} [CanLoad c R arg4] [CanLoad c R arg6] [CanLoad c R arg26] (v37) (v38) (v792) (v796) (v799) : Keeps (defs₀ (F := F)) c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v792 v796 v799) := by
  unfold k0_part36
  refine kl fun _ => ?_
  refine kl fun _ => ?_
  refine kl fun _ => ?_
  refine kl fun _ => ?_
  refine kl fun _ => ?_
  refine kl fun _ => ?_
  exact keeps_ret _

theorem p37 {R : sProp 𝕄} [CanStore c R arg18] [CanLoad c R arg4] [CanLoad c R arg6] [CanLoad c R arg26] (v832) (v835) (cst_466) : Keeps (defs₀ (F := F)) c R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v832 v835 cst_466) := by
  unfold k0_part37
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p38 {R : sProp 𝕄} [CanLoad c R arg4] [CanLoad c R arg6] [CanLoad c R arg26] (v861) (v865) (v868) : Keeps (defs₀ (F := F)) c R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v861 v865 v868) := by
  unfold k0_part38
  refine kl fun _ => ?_
  refine kl fun _ => ?_
  refine kl fun _ => ?_
  refine kl fun _ => ?_
  refine kl fun _ => ?_
  refine kl fun _ => ?_
  exact keeps_ret _

theorem p39 {R : sProp 𝕄} [CanStore c R arg18] [CanLoad c R arg4] [CanLoad c R arg6] [CanLoad c R arg26] (v37) (v38) (v901) : Keeps (defs₀ (F := F)) c R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v901) := by
  unfold k0_part39
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p40 {R : sProp 𝕄} [CanLoad c R arg4] [CanLoad c R arg6] [CanLoad c R arg26] (v930) (v934) (v935) : Keeps (defs₀ (F := F)) c R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v930 v934 v935) := by
  unfold k0_part40
  refine kl fun _ => ?_
  refine kl fun _ => ?_
  refine kl fun _ => ?_
  refine kl fun _ => ?_
  refine kl fun _ => ?_
  refine kl fun _ => ?_
  exact keeps_ret _

theorem p41 {R : sProp 𝕄} [CanLoad c R arg4] [CanLoad c R arg6] [CanLoad c R arg26] (v962) (v969) : Keeps (defs₀ (F := F)) c R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v962 v969) := by
  unfold k0_part41
  refine kl fun _ => ?_
  refine kl fun _ => ?_
  refine kl fun _ => ?_
  refine kl fun _ => ?_
  refine kl fun _ => ?_
  refine kl fun _ => ?_
  refine kl fun _ => ?_
  exact keeps_ret _

theorem p42 {R : sProp 𝕄} [CanStore c R arg18] [CanLoad c R arg4] [CanLoad c R arg6] [CanLoad c R arg26] (v37) (v38) (v994) (v1002) : Keeps (defs₀ (F := F)) c R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v994 v1002) := by
  unfold k0_part42
  refine kl fun _ => ?_
  refine kl fun _ => ?_
  refine ks fun _ => ?_
  refine kl fun _ => ?_
  refine kl fun _ => ?_
  refine kl fun _ => ?_
  refine kl fun _ => ?_
  exact keeps_ret _

theorem p43 {R : sProp 𝕄} [CanLoad c R arg4] [CanLoad c R arg6] [CanLoad c R arg26] (v1031) (v1034) (v1035) : Keeps (defs₀ (F := F)) c R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1031 v1034 v1035) := by
  unfold k0_part43
  refine kl fun _ => ?_
  refine kl fun _ => ?_
  refine kl fun _ => ?_
  refine kl fun _ => ?_
  refine kl fun _ => ?_
  refine kl fun _ => ?_
  refine kl fun _ => ?_
  exact keeps_ret _

theorem p44 {R : sProp 𝕄} [CanLoad c R arg4] [CanLoad c R arg6] [CanLoad c R arg26] (v37) (v38) (v1059) (v1063) (v1066) (v1068) : Keeps (defs₀ (F := F)) c R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v1059 v1063 v1066 v1068) := by
  unfold k0_part44
  refine kl fun _ => ?_
  refine kl fun _ => ?_
  refine kl fun _ => ?_
  refine kl fun _ => ?_
  refine kl fun _ => ?_
  exact keeps_ret _

theorem p45 {R : sProp 𝕄} [CanStore c R arg18] (v1104) : Keeps (defs₀ (F := F)) c R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1104) := by
  unfold k0_part45
  refine kl fun _ => ?_
  refine ks fun _ => ?_
  refine kl fun _ => ?_
  refine kl fun _ => ?_
  refine kl fun _ => ?_
  refine kl fun _ => ?_
  refine kl fun _ => ?_
  exact keeps_ret _

set_option maxHeartbeats 0 in
theorem p46 {R : sProp 𝕄} [CanLoad c R arg18] (k0_h1) (k0_h2) (k0_h3) (k0_h4) (k0_h5) (k0_h6) (k0_h7) (v1136) (v1141) : Keeps (defs₀ (F := F)) c R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 k0_h2 k0_h3 k0_h4 k0_h5 k0_h6 k0_h7 v1136 v1141) := by
  unfold k0_part46
  refine kl fun _ => ?_
  refine kl fun _ => ?_
  refine keeps_bind (keeps_for fun _ _ => ?_) fun _ => ?_
  · refine keeps_bind (p26 _ _ _ _ _) fun _ => ?_
    refine kl fun _ => ?_
    refine kl fun _ => ?_
    refine kl fun _ => ?_
    refine kl fun _ => ?_
    exact keeps_ret _
  exact keeps_ret _

theorem p47 {R : sProp 𝕄} [CanLoad c R arg18] (c0_i32_632) (c1_i32_633) (k0_t3) (arg29) (arg31) : Keeps (defs₀ (F := F)) c R (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c0_i32_632 c1_i32_633 k0_t3 arg29 arg31) := by
  unfold k0_part47
  refine kl fun _ => ?_
  refine kl fun _ => ?_
  refine kl fun _ => ?_
  exact keeps_ret _

theorem p48 {R : sProp 𝕄} [CanLoad c R arg6] [CanLoad c R arg24] : Keeps (defs₀ (F := F)) c R (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part48
  refine kl fun _ => ?_
  refine kl fun _ => ?_
  refine kl fun _ => ?_
  refine kl fun _ => ?_
  refine kl fun _ => ?_
  refine kl fun _ => ?_
  exact keeps_ret _

theorem p49 {R : sProp 𝕄} [CanLoad c R arg6] [CanLoad c R arg24] (v528) : Keeps (defs₀ (F := F)) c R (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v528) := by
  unfold k0_part49
  refine kl fun _ => ?_
  refine kl fun _ => ?_
  refine kl fun _ => ?_
  refine kl fun _ => ?_
  refine kl fun _ => ?_
  refine kl fun _ => ?_
  exact keeps_ret _

theorem p50 {R : sProp 𝕄} [CanStore c R arg18] [CanLoad c R arg4] [CanLoad c R arg6] [CanLoad c R arg26] (v37) (v38) (v562) (v563) : Keeps (defs₀ (F := F)) c R (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v562 v563) := by
  unfold k0_part50
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p51 {R : sProp 𝕄} [CanLoad c R arg4] [CanLoad c R arg6] [CanLoad c R arg26] (v591) (v595) (v596) : Keeps (defs₀ (F := F)) c R (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v591 v595 v596) := by
  unfold k0_part51
  refine kl fun _ => ?_
  refine kl fun _ => ?_
  refine kl fun _ => ?_
  refine kl fun _ => ?_
  refine kl fun _ => ?_
  refine kl fun _ => ?_
  exact keeps_ret _

end Cert.KernelIdeal.Keep

end
-- ==== Proof.PartsKernelIdeal.P2.lean ====
/- The parts of the kernel body, each inside any resource that lets it load and store what it loads and stores. -/
module

public import proofs.«01_k».proof.KernelIdeal
public import proofs.«01_k».proof.Proof.Keeps

@[expose] public section

set_option synthInstance.maxSize 4096

noncomputable section

namespace Cert.KernelIdeal.Keep

open Idealize.ShloMosaic Idealize.ShloMosaic.TcCoe Idealize.ShloMosaic.Tactic
open Idealize.SL Idealize.SL.RA Idealize.SL.BI Idealize.SL.Sem
open Cert.Keep

variable {F : FTy → Type} [FloatOps F] [Named F] [Facts]

local notation "𝕄" => MT nD τ sig Unit (Elt F) ℕ (UR sig nD τ) ℕ

variable {c : Dev nD} {i : grid0.Coords} {arg2 : Memref sig .tc .smem S8 .f32} {harg2 : arg2.IsWhole} {arg3 : Memref sig .tc .vmem S1x1x1536x128 .bf16} {harg3 : arg3.IsWhole} {arg4 : Memref sig .tc .vmem S1x2048x384 .bf16} {harg4 : arg4.IsWhole} {arg5 : Memref sig .tc .vmem S1x16x256x128 .bf16} {harg5 : arg5.IsWhole} {arg6 : Memref sig .tc .vmem S1x1x8x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S1x16x1024 .f32} {harg9 : arg9.IsWhole} {arg10 : Memref sig .tc .vmem S1x16x2816 .f32} {harg10 : arg10.IsWhole} {arg11 : Memref sig .tc .vmem S1x16x2816 .f32} {harg11 : arg11.IsWhole} {arg12 : Memref sig .tc .vmem S1x32x1024 .f32} {harg12 : arg12.IsWhole} {arg13 : Memref sig .tc .vmem S1x1024x128 .bf16} {harg13 : arg13.IsWhole} {arg14 : Memref sig .tc .vmem S16x1024 .bf16} {harg14 : arg14.IsWhole} {arg15 : Memref sig .tc .vmem S16x2816 .bf16} {harg15 : arg15.IsWhole} {arg16 : Memref sig .tc .vmem S16x2816 .bf16} {harg16 : arg16.IsWhole} {arg17 : Memref sig .tc .vmem S32x1024 .bf16} {harg17 : arg17.IsWhole} {arg18 : Memref sig .tc .vmem S2048x128 .f32} {harg18 : arg18.IsWhole} {arg19 : Memref sig .tc .vmem S1x128 .f32} {harg19 : arg19.IsWhole} {arg20 : Memref sig .tc .vmem S1x128 .i32} {harg20 : arg20.IsWhole} {arg21 : Memref sig .tc .vmem S1x1024 .f32} {harg21 : arg21.IsWhole} {arg22 : Memref sig .tc .vmem S72x1024 .f32} {harg22 : arg22.IsWhole} {arg23 : Memref sig .tc .vmem S1024x128 .f32} {harg23 : arg23.IsWhole} {arg24 : Memref sig .tc .vmem S256x1024 .f32} {harg24 : arg24.IsWhole} {arg25 : Memref sig .tc .vmem S2048x1024 .bf16} {harg25 : arg25.IsWhole} {arg26 : Memref sig .tc .vmem S256x1024 .bf16} {harg26 : arg26.IsWhole} {arg27 : Memref sig .tc .vmem S2048x1024 .f32} {harg27 : arg27.IsWhole}

theorem p52 {R : sProp 𝕄} [CanStore c R arg18] [CanLoad c R arg4] [CanLoad c R arg6] [CanLoad c R arg26] (v37) (v38) (v623) (v630) : Keeps (defs₀ (F := F)) c R (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v623 v630) := by
  unfold k0_part52
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p53 {R : sProp 𝕄} [CanLoad c R arg4] [CanLoad c R arg6] [CanLoad c R arg26] (v660) (v662) (v663) : Keeps (defs₀ (F := F)) c R (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v660 v662 v663) := by
  unfold k0_part53
  refine kl fun _ => ?_
  refine kl fun _ => ?_
  refine kl fun _ => ?_
  refine kl fun _ => ?_
  refine kl fun _ => ?_
  refine kl fun _ => ?_
  exact keeps_ret _

theorem p54 {R : sProp 𝕄} [CanLoad c R arg4] [CanLoad c R arg6] [CanLoad c R arg26] (v692) (v695) (v696) : Keeps (defs₀ (F := F)) c R (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v692 v695 v696) := by
  unfold k0_part54
  refine kl fun _ => ?_
  refine kl fun _ => ?_
  refine kl fun _ => ?_
  refine kl fun _ => ?_
  refine kl fun _ => ?_
  refine kl fun _ => ?_
  refine kl fun _ => ?_
  exact keeps_ret _

theorem p55 {R : sProp 𝕄} [CanStore c R arg18] [CanLoad c R arg4] [CanLoad c R arg6] [CanLoad c R arg26] (v37) (v38) (v720) (v724) (v727) (v729) : Keeps (defs₀ (F := F)) c R (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v720 v724 v727 v729) := by
  unfold k0_part55
  refine kl fun _ => ?_
  refine kl fun _ => ?_
  refine ks fun _ => ?_
  refine kl fun _ => ?_
  refine kl fun _ => ?_
  refine kl fun _ => ?_
  exact keeps_ret _

theorem p56 {R : sProp 𝕄} [CanLoad c R arg4] [CanLoad c R arg6] [CanLoad c R arg26] (v761) (v764) : Keeps (defs₀ (F := F)) c R (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v761 v764) := by
  unfold k0_part56
  refine kl fun _ => ?_
  refine kl fun _ => ?_
  refine kl fun _ => ?_
  refine kl fun _ => ?_
  refine kl fun _ => ?_
  refine kl fun _ => ?_
  refine kl fun _ => ?_
  exact keeps_ret _

theorem p57 {R : sProp 𝕄} [CanLoad c R arg4] [CanLoad c R arg6] [CanLoad c R arg26] (v37) (v38) (v789) (v793) (v796) : Keeps (defs₀ (F := F)) c R (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v789 v793 v796) := by
  unfold k0_part57
  refine kl fun _ => ?_
  refine kl fun _ => ?_
  refine kl fun _ => ?_
  refine kl fun _ => ?_
  refine kl fun _ => ?_
  refine kl fun _ => ?_
  exact keeps_ret _

theorem p58 {R : sProp 𝕄} [CanStore c R arg18] [CanLoad c R arg4] [CanLoad c R arg6] [CanLoad c R arg26] (v829) (v832) (cst_464) : Keeps (defs₀ (F := F)) c R (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v829 v832 cst_464) := by
  unfold k0_part58
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p59 {R : sProp 𝕄} [CanLoad c R arg4] [CanLoad c R arg6] [CanLoad c R arg26] (v858) (v862) (v865) : Keeps (defs₀ (F := F)) c R (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v858 v862 v865) := by
  unfold k0_part59
  refine kl fun _ => ?_
  refine kl fun _ => ?_
  refine kl fun _ => ?_
  refine kl fun _ => ?_
  refine kl fun _ => ?_
  refine kl fun _ => ?_
  exact keeps_ret _

theorem p60 {R : sProp 𝕄} [CanStore c R arg18] [CanLoad c R arg4] [CanLoad c R arg6] [CanLoad c R arg26] (v37) (v38) (v898) : Keeps (defs₀ (F := F)) c R (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v898) := by
  unfold k0_part60
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p61 {R : sProp 𝕄} [CanLoad c R arg4] [CanLoad c R arg6] [CanLoad c R arg26] (v927) (v931) (v932) : Keeps (defs₀ (F := F)) c R (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v927 v931 v932) := by
  unfold k0_part61
  refine kl fun _ => ?_
  refine kl fun _ => ?_
  refine kl fun _ => ?_
  refine kl fun _ => ?_
  refine kl fun _ => ?_
  refine kl fun _ => ?_
  exact keeps_ret _

theorem p62 {R : sProp 𝕄} [CanLoad c R arg4] [CanLoad c R arg6] [CanLoad c R arg26] (v959) (v966) : Keeps (defs₀ (F := F)) c R (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v959 v966) := by
  unfold k0_part62
  refine kl fun _ => ?_
  refine kl fun _ => ?_
  refine kl fun _ => ?_
  refine kl fun _ => ?_
  refine kl fun _ => ?_
  refine kl fun _ => ?_
  refine kl fun _ => ?_
  exact keeps_ret _

theorem p63 {R : sProp 𝕄} [CanStore c R arg18] [CanLoad c R arg6] (v37) (v38) (v991) (v999) : Keeps (defs₀ (F := F)) c R (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v991 v999) := by
  unfold k0_part63
  refine kl fun _ => ?_
  refine kl fun _ => ?_
  refine ks fun _ => ?_
  refine kl fun _ => ?_
  refine kl fun _ => ?_
  refine kl fun _ => ?_
  exact keeps_ret _

theorem p64 {R : sProp 𝕄} [CanLoad c R arg18] (v1030) (v1036) : Keeps (defs₀ (F := F)) c R (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1030 v1036) := by
  unfold k0_part64
  refine kl fun _ => ?_
  refine kl fun _ => ?_
  refine kl fun _ => ?_
  exact keeps_ret _

theorem p65 {R : sProp 𝕄} [CanLoad c R arg18] (c0_i32_558) (c1_i32_559) (k0_t4) (arg29) (arg31) : Keeps (defs₀ (F := F)) c R (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c0_i32_558 c1_i32_559 k0_t4 arg29 arg31) := by
  unfold k0_part65
  refine kl fun _ => ?_
  refine kl fun _ => ?_
  refine kl fun _ => ?_
  exact keeps_ret _

theorem p66 {R : sProp 𝕄} [CanLoad c R arg6] [CanLoad c R arg24] : Keeps (defs₀ (F := F)) c R (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part66
  refine kl fun _ => ?_
  refine kl fun _ => ?_
  refine kl fun _ => ?_
  refine kl fun _ => ?_
  refine kl fun _ => ?_
  refine kl fun _ => ?_
  exact keeps_ret _

theorem p67 {R : sProp 𝕄} [CanLoad c R arg6] [CanLoad c R arg24] (v525) : Keeps (defs₀ (F := F)) c R (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v525) := by
  unfold k0_part67
  refine kl fun _ => ?_
  refine kl fun _ => ?_
  refine kl fun _ => ?_
  refine kl fun _ => ?_
  refine kl fun _ => ?_
  refine kl fun _ => ?_
  exact keeps_ret _

theorem p68 {R : sProp 𝕄} [CanStore c R arg18] [CanLoad c R arg4] [CanLoad c R arg6] [CanLoad c R arg26] (v37) (v38) (v559) (v560) : Keeps (defs₀ (F := F)) c R (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v559 v560) := by
  unfold k0_part68
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p69 {R : sProp 𝕄} [CanLoad c R arg4] [CanLoad c R arg6] [CanLoad c R arg26] (v588) (v592) (v593) : Keeps (defs₀ (F := F)) c R (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v588 v592 v593) := by
  unfold k0_part69
  refine kl fun _ => ?_
  refine kl fun _ => ?_
  refine kl fun _ => ?_
  refine kl fun _ => ?_
  refine kl fun _ => ?_
  refine kl fun _ => ?_
  exact keeps_ret _

theorem p70 {R : sProp 𝕄} [CanStore c R arg18] [CanLoad c R arg4] [CanLoad c R arg6] [CanLoad c R arg26] (v37) (v38) (v620) (v627) : Keeps (defs₀ (F := F)) c R (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v620 v627) := by
  unfold k0_part70
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p71 {R : sProp 𝕄} [CanLoad c R arg4] [CanLoad c R arg6] [CanLoad c R arg26] (v657) (v659) (v660) : Keeps (defs₀ (F := F)) c R (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v657 v659 v660) := by
  unfold k0_part71
  refine kl fun _ => ?_
  refine kl fun _ => ?_
  refine kl fun _ => ?_
  refine kl fun _ => ?_
  refine kl fun _ => ?_
  refine kl fun _ => ?_
  exact keeps_ret _

theorem p72 {R : sProp 𝕄} [CanLoad c R arg4] [CanLoad c R arg6] [CanLoad c R arg26] (v689) (v692) (v693) : Keeps (defs₀ (F := F)) c R (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v689 v692 v693) := by
  unfold k0_part72
  refine kl fun _ => ?_
  refine kl fun _ => ?_
  refine kl fun _ => ?_
  refine kl fun _ => ?_
  refine kl fun _ => ?_
  refine kl fun _ => ?_
  refine kl fun _ => ?_
  exact keeps_ret _

theorem p73 {R : sProp 𝕄} [CanStore c R arg18] [CanLoad c R arg4] [CanLoad c R arg6] [CanLoad c R arg26] (v37) (v38) (v717) (v721) (v724) (v726) : Keeps (defs₀ (F := F)) c R (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v717 v721 v724 v726) := by
  unfold k0_part73
  refine kl fun _ => ?_
  refine kl fun _ => ?_
  refine ks fun _ => ?_
  refine kl fun _ => ?_
  refine kl fun _ => ?_
  refine kl fun _ => ?_
  exact keeps_ret _

theorem p74 {R : sProp 𝕄} [CanLoad c R arg4] [CanLoad c R arg6] [CanLoad c R arg26] (v758) (v761) : Keeps (defs₀ (F := F)) c R (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v758 v761) := by
  unfold k0_part74
  refine kl fun _ => ?_
  refine kl fun _ => ?_
  refine kl fun _ => ?_
  refine kl fun _ => ?_
  refine kl fun _ => ?_
  refine kl fun _ => ?_
  refine kl fun _ => ?_
  exact keeps_ret _

theorem p75 {R : sProp 𝕄} [CanLoad c R arg4] [CanLoad c R arg6] [CanLoad c R arg26] (v37) (v38) (v786) (v790) (v793) : Keeps (defs₀ (F := F)) c R (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v786 v790 v793) := by
  unfold k0_part75
  refine kl fun _ => ?_
  refine kl fun _ => ?_
  refine kl fun _ => ?_
  refine kl fun _ => ?_
  refine kl fun _ => ?_
  refine kl fun _ => ?_
  exact keeps_ret _

theorem p76 {R : sProp 𝕄} [CanStore c R arg18] [CanLoad c R arg4] [CanLoad c R arg6] [CanLoad c R arg26] (v826) (v829) (cst_462) : Keeps (defs₀ (F := F)) c R (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v826 v829 cst_462) := by
  unfold k0_part76
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p77 {R : sProp 𝕄} [CanLoad c R arg4] [CanLoad c R arg6] [CanLoad c R arg26] (v855) (v859) (v862) : Keeps (defs₀ (F := F)) c R (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v855 v859 v862) := by
  unfold k0_part77
  refine kl fun _ => ?_
  refine kl fun _ => ?_
  refine kl fun _ => ?_
  refine kl fun _ => ?_
  refine kl fun _ => ?_
  refine kl fun _ => ?_
  exact keeps_ret _

theorem p78 {R : sProp 𝕄} [CanStore c R arg18] [CanLoad c R arg4] [CanLoad c R arg6] [CanLoad c R arg26] (v37) (v38) (v895) : Keeps (defs₀ (F := F)) c R (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v895) := by
  unfold k0_part78
  refine kl fun _ => ?_
  refine kl fun _ => ?_
  refine kl fun _ => ?_
  refine kl fun _ => ?_
  refine kl fun _ => ?_
  refine ks fun _ => ?_
  refine kl fun _ => ?_
  exact keeps_ret _

theorem p79 {R : sProp 𝕄} [CanLoad c R arg18] (v931) : Keeps (defs₀ (F := F)) c R (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v931) := by
  unfold k0_part79
  refine kl fun _ => ?_
  refine kl fun _ => ?_
  refine kl fun _ => ?_
  refine kl fun _ => ?_
  exact keeps_ret _

theorem p80 {R : sProp 𝕄} [CanLoad c R arg18] (c0_i32_484) (c1_i32_485) (k0_t5) (arg29) (arg31) : Keeps (defs₀ (F := F)) c R (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c0_i32_484 c1_i32_485 k0_t5 arg29 arg31) := by
  unfold k0_part80
  refine kl fun _ => ?_
  refine kl fun _ => ?_
  refine kl fun _ => ?_
  exact keeps_ret _

theorem p81 {R : sProp 𝕄} [CanLoad c R arg6] [CanLoad c R arg24] : Keeps (defs₀ (F := F)) c R (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part81
  refine kl fun _ => ?_
  refine kl fun _ => ?_
  refine kl fun _ => ?_
  refine kl fun _ => ?_
  refine kl fun _ => ?_
  refine kl fun _ => ?_
  exact keeps_ret _

theorem p82 {R : sProp 𝕄} [CanLoad c R arg6] [CanLoad c R arg24] (v522) : Keeps (defs₀ (F := F)) c R (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v522) := by
  unfold k0_part82
  refine kl fun _ => ?_
  refine kl fun _ => ?_
  refine kl fun _ => ?_
  refine kl fun _ => ?_
  refine kl fun _ => ?_
  refine kl fun _ => ?_
  exact keeps_ret _

theorem p83 {R : sProp 𝕄} [CanStore c R arg18] [CanLoad c R arg4] [CanLoad c R arg6] [CanLoad c R arg26] (v37) (v38) (v556) (v557) : Keeps (defs₀ (F := F)) c R (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v556 v557) := by
  unfold k0_part83
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p84 {R : sProp 𝕄} [CanLoad c R arg4] [CanLoad c R arg6] [CanLoad c R arg26] (v585) (v589) (v590) : Keeps (defs₀ (F := F)) c R (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v585 v589 v590) := by
  unfold k0_part84
  refine kl fun _ => ?_
  refine kl fun _ => ?_
  refine kl fun _ => ?_
  refine kl fun _ => ?_
  refine kl fun _ => ?_
  refine kl fun _ => ?_
  exact keeps_ret _

theorem p85 {R : sProp 𝕄} [CanStore c R arg18] [CanLoad c R arg4] [CanLoad c R arg6] [CanLoad c R arg26] (v37) (v38) (v617) (v624) : Keeps (defs₀ (F := F)) c R (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v617 v624) := by
  unfold k0_part85
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p86 {R : sProp 𝕄} [CanLoad c R arg4] [CanLoad c R arg6] [CanLoad c R arg26] (v654) (v656) (v657) : Keeps (defs₀ (F := F)) c R (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v654 v656 v657) := by
  unfold k0_part86
  refine kl fun _ => ?_
  refine kl fun _ => ?_
  refine kl fun _ => ?_
  refine kl fun _ => ?_
  refine kl fun _ => ?_
  refine kl fun _ => ?_
  exact keeps_ret _

theorem p87 {R : sProp 𝕄} [CanLoad c R arg4] [CanLoad c R arg6] [CanLoad c R arg26] (v686) (v689) (v690) : Keeps (defs₀ (F := F)) c R (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v686 v689 v690) := by
  unfold k0_part87
  refine kl fun _ => ?_
  refine kl fun _ => ?_
  refine kl fun _ => ?_
  refine kl fun _ => ?_
  refine kl fun _ => ?_
  refine kl fun _ => ?_
  refine kl fun _ => ?_
  exact keeps_ret _

theorem p88 {R : sProp 𝕄} [CanStore c R arg18] [CanLoad c R arg4] [CanLoad c R arg6] [CanLoad c R arg26] (v37) (v38) (v714) (v718) (v721) (v723) : Keeps (defs₀ (F := F)) c R (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v714 v718 v721 v723) := by
  unfold k0_part88
  refine kl fun _ => ?_
  refine kl fun _ => ?_
  refine ks fun _ => ?_
  refine kl fun _ => ?_
  refine kl fun _ => ?_
  refine kl fun _ => ?_
  exact keeps_ret _

theorem p89 {R : sProp 𝕄} [CanLoad c R arg4] [CanLoad c R arg6] [CanLoad c R arg26] (v755) (v758) : Keeps (defs₀ (F := F)) c R (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v755 v758) := by
  unfold k0_part89
  refine kl fun _ => ?_
  refine kl fun _ => ?_
  refine kl fun _ => ?_
  refine kl fun _ => ?_
  refine kl fun _ => ?_
  refine kl fun _ => ?_
  refine kl fun _ => ?_
  exact keeps_ret _

theorem p90 {R : sProp 𝕄} [CanLoad c R arg4] [CanLoad c R arg6] [CanLoad c R arg26] (v37) (v38) (v783) (v787) (v790) : Keeps (defs₀ (F := F)) c R (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v783 v787 v790) := by
  unfold k0_part90
  refine kl fun _ => ?_
  refine kl fun _ => ?_
  refine kl fun _ => ?_
  refine kl fun _ => ?_
  refine kl fun _ => ?_
  refine kl fun _ => ?_
  exact keeps_ret _

theorem p91 {R : sProp 𝕄} [CanStore c R arg18] (v823) (v826) (cst_460) : Keeps (defs₀ (F := F)) c R (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v823 v826 cst_460) := by
  unfold k0_part91
  refine kl fun _ => ?_
  refine ks fun _ => ?_
  refine kl fun _ => ?_
  refine kl fun _ => ?_
  refine kl fun _ => ?_
  refine kl fun _ => ?_
  exact keeps_ret _

theorem p92 {R : sProp 𝕄} [CanLoad c R arg18] (c0_i32_410) (c1_i32_411) (k0_t6) (arg29) (arg31) : Keeps (defs₀ (F := F)) c R (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c0_i32_410 c1_i32_411 k0_t6 arg29 arg31) := by
  unfold k0_part92
  refine kl fun _ => ?_
  refine kl fun _ => ?_
  refine kl fun _ => ?_
  exact keeps_ret _

theorem p93 {R : sProp 𝕄} [CanLoad c R arg6] [CanLoad c R arg24] : Keeps (defs₀ (F := F)) c R (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part93
  refine kl fun _ => ?_
  refine kl fun _ => ?_
  refine kl fun _ => ?_
  refine kl fun _ => ?_
  refine kl fun _ => ?_
  refine kl fun _ => ?_
  exact keeps_ret _

theorem p94 {R : sProp 𝕄} [CanLoad c R arg6] [CanLoad c R arg24] (v519) : Keeps (defs₀ (F := F)) c R (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v519) := by
  unfold k0_part94
  refine kl fun _ => ?_
  refine kl fun _ => ?_
  refine kl fun _ => ?_
  refine kl fun _ => ?_
  refine kl fun _ => ?_
  refine kl fun _ => ?_
  exact keeps_ret _

theorem p95 {R : sProp 𝕄} [CanStore c R arg18] [CanLoad c R arg4] [CanLoad c R arg6] [CanLoad c R arg26] (v37) (v38) (v553) (v554) : Keeps (defs₀ (F := F)) c R (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v553 v554) := by
  unfold k0_part95
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p96 {R : sProp 𝕄} [CanLoad c R arg4] [CanLoad c R arg6] [CanLoad c R arg26] (v582) (v586) (v587) : Keeps (defs₀ (F := F)) c R (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v582 v586 v587) := by
  unfold k0_part96
  refine kl fun _ => ?_
  refine kl fun _ => ?_
  refine kl fun _ => ?_
  refine kl fun _ => ?_
  refine kl fun _ => ?_
  refine kl fun _ => ?_
  exact keeps_ret _

theorem p97 {R : sProp 𝕄} [CanStore c R arg18] [CanLoad c R arg4] [CanLoad c R arg6] [CanLoad c R arg26] (v37) (v38) (v614) (v621) : Keeps (defs₀ (F := F)) c R (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v614 v621) := by
  unfold k0_part97
  refine kl fun _ => ?_
  refine kl fun _ => ?_
  refine kl fun _ => ?_
  refine kl fun _ => ?_
  refine kl fun _ => ?_
  refine ks fun _ => ?_
  refine kl fun _ => ?_
  refine kl fun _ => ?_
  exact keeps_ret _

theorem p98 {R : sProp 𝕄} [CanLoad c R arg4] [CanLoad c R arg6] [CanLoad c R arg26] (v651) (v653) (v654) : Keeps (defs₀ (F := F)) c R (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v651 v653 v654) := by
  unfold k0_part98
  refine kl fun _ => ?_
  refine kl fun _ => ?_
  refine kl fun _ => ?_
  refine kl fun _ => ?_
  refine kl fun _ => ?_
  refine kl fun _ => ?_
  exact keeps_ret _

theorem p99 {R : sProp 𝕄} [CanLoad c R arg4] [CanLoad c R arg6] [CanLoad c R arg26] (v683) (v686) (v687) : Keeps (defs₀ (F := F)) c R (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v683 v686 v687) := by
  unfold k0_part99
  refine kl fun _ => ?_
  refine kl fun _ => ?_
  refine kl fun _ => ?_
  refine kl fun _ => ?_
  refine kl fun _ => ?_
  refine kl fun _ => ?_
  refine kl fun _ => ?_
  exact keeps_ret _

theorem p100 {R : sProp 𝕄} [CanStore c R arg18] [CanLoad c R arg6] (v37) (v38) (v711) (v715) (v718) (v720) : Keeps (defs₀ (F := F)) c R (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v711 v715 v718 v720) := by
  unfold k0_part100
  refine kl fun _ => ?_
  refine kl fun _ => ?_
  refine ks fun _ => ?_
  refine kl fun _ => ?_
  refine kl fun _ => ?_
  refine kl fun _ => ?_
  exact keeps_ret _

theorem p101 {R : sProp 𝕄} [CanLoad c R arg18] (c0_i32_336) (c1_i32_337) (k0_t7) (arg29) (arg31) : Keeps (defs₀ (F := F)) c R (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c0_i32_336 c1_i32_337 k0_t7 arg29 arg31) := by
  unfold k0_part101
  refine kl fun _ => ?_
  refine kl fun _ => ?_
  exact keeps_ret _

theorem p102 {R : sProp 𝕄} [CanLoad c R arg6] [CanLoad c R arg24] : Keeps (defs₀ (F := F)) c R (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part102
  refine kl fun _ => ?_
  refine kl fun _ => ?_
  refine kl fun _ => ?_
  refine kl fun _ => ?_
  refine kl fun _ => ?_
  refine kl fun _ => ?_
  exact keeps_ret _

end Cert.KernelIdeal.Keep

end
-- ==== Proof.PartsKernelIdeal.P3.lean ====
/- The parts of the kernel body, each inside any resource that lets it load and store what it loads and stores. -/
module

public import proofs.«01_k».proof.KernelIdeal
public import proofs.«01_k».proof.Proof.Keeps

@[expose] public section

set_option synthInstance.maxSize 4096

noncomputable section

namespace Cert.KernelIdeal.Keep

open Idealize.ShloMosaic Idealize.ShloMosaic.TcCoe Idealize.ShloMosaic.Tactic
open Idealize.SL Idealize.SL.RA Idealize.SL.BI Idealize.SL.Sem
open Cert.Keep

variable {F : FTy → Type} [FloatOps F] [Named F] [Facts]

local notation "𝕄" => MT nD τ sig Unit (Elt F) ℕ (UR sig nD τ) ℕ

variable {c : Dev nD} {i : grid0.Coords} {arg2 : Memref sig .tc .smem S8 .f32} {harg2 : arg2.IsWhole} {arg3 : Memref sig .tc .vmem S1x1x1536x128 .bf16} {harg3 : arg3.IsWhole} {arg4 : Memref sig .tc .vmem S1x2048x384 .bf16} {harg4 : arg4.IsWhole} {arg5 : Memref sig .tc .vmem S1x16x256x128 .bf16} {harg5 : arg5.IsWhole} {arg6 : Memref sig .tc .vmem S1x1x8x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S1x16x1024 .f32} {harg9 : arg9.IsWhole} {arg10 : Memref sig .tc .vmem S1x16x2816 .f32} {harg10 : arg10.IsWhole} {arg11 : Memref sig .tc .vmem S1x16x2816 .f32} {harg11 : arg11.IsWhole} {arg12 : Memref sig .tc .vmem S1x32x1024 .f32} {harg12 : arg12.IsWhole} {arg13 : Memref sig .tc .vmem S1x1024x128 .bf16} {harg13 : arg13.IsWhole} {arg14 : Memref sig .tc .vmem S16x1024 .bf16} {harg14 : arg14.IsWhole} {arg15 : Memref sig .tc .vmem S16x2816 .bf16} {harg15 : arg15.IsWhole} {arg16 : Memref sig .tc .vmem S16x2816 .bf16} {harg16 : arg16.IsWhole} {arg17 : Memref sig .tc .vmem S32x1024 .bf16} {harg17 : arg17.IsWhole} {arg18 : Memref sig .tc .vmem S2048x128 .f32} {harg18 : arg18.IsWhole} {arg19 : Memref sig .tc .vmem S1x128 .f32} {harg19 : arg19.IsWhole} {arg20 : Memref sig .tc .vmem S1x128 .i32} {harg20 : arg20.IsWhole} {arg21 : Memref sig .tc .vmem S1x1024 .f32} {harg21 : arg21.IsWhole} {arg22 : Memref sig .tc .vmem S72x1024 .f32} {harg22 : arg22.IsWhole} {arg23 : Memref sig .tc .vmem S1024x128 .f32} {harg23 : arg23.IsWhole} {arg24 : Memref sig .tc .vmem S256x1024 .f32} {harg24 : arg24.IsWhole} {arg25 : Memref sig .tc .vmem S2048x1024 .bf16} {harg25 : arg25.IsWhole} {arg26 : Memref sig .tc .vmem S256x1024 .bf16} {harg26 : arg26.IsWhole} {arg27 : Memref sig .tc .vmem S2048x1024 .f32} {harg27 : arg27.IsWhole}

theorem p103 {R : sProp 𝕄} [CanLoad c R arg6] [CanLoad c R arg24] (v516) : Keeps (defs₀ (F := F)) c R (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v516) := by
  unfold k0_part103
  refine kl fun _ => ?_
  refine kl fun _ => ?_
  refine kl fun _ => ?_
  refine kl fun _ => ?_
  refine kl fun _ => ?_
  refine kl fun _ => ?_
  exact keeps_ret _

theorem p104 {R : sProp 𝕄} [CanStore c R arg18] [CanLoad c R arg4] [CanLoad c R arg6] [CanLoad c R arg26] (v37) (v38) (v550) (v551) : Keeps (defs₀ (F := F)) c R (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v550 v551) := by
  unfold k0_part104
  refine kl fun _ => ?_
  refine ks fun _ => ?_
  refine kl fun _ => ?_
  refine kl fun _ => ?_
  refine kl fun _ => ?_
  refine kl fun _ => ?_
  refine kl fun _ => ?_
  refine kl fun _ => ?_
  exact keeps_ret _

theorem p105 {R : sProp 𝕄} [CanLoad c R arg4] [CanLoad c R arg6] [CanLoad c R arg26] (v579) (v583) (v584) : Keeps (defs₀ (F := F)) c R (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v579 v583 v584) := by
  unfold k0_part105
  refine kl fun _ => ?_
  refine kl fun _ => ?_
  refine kl fun _ => ?_
  refine kl fun _ => ?_
  refine kl fun _ => ?_
  refine kl fun _ => ?_
  exact keeps_ret _

theorem p106 {R : sProp 𝕄} [CanStore c R arg18] [CanLoad c R arg4] [CanLoad c R arg6] [CanLoad c R arg26] (v37) (v38) (v611) (v618) : Keeps (defs₀ (F := F)) c R (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v37 v38 v611 v618) := by
  unfold k0_part106
  refine kl fun _ => ?_
  refine kl fun _ => ?_
  refine kl fun _ => ?_
  refine kl fun _ => ?_
  refine kl fun _ => ?_
  refine ks fun _ => ?_
  refine kl fun _ => ?_
  exact keeps_ret _

theorem p107 {R : sProp 𝕄} [CanLoad c R arg6] [CanLoad c R arg24] : Keeps (defs₀ (F := F)) c R (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part107
  refine kl fun _ => ?_
  refine kl fun _ => ?_
  refine kl fun _ => ?_
  refine kl fun _ => ?_
  refine kl fun _ => ?_
  refine kl fun _ => ?_
  exact keeps_ret _

theorem p108 {R : sProp 𝕄} [CanLoad c R arg6] [CanLoad c R arg24] (v513) : Keeps (defs₀ (F := F)) c R (k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v513) := by
  unfold k0_part108
  refine kl fun _ => ?_
  refine kl fun _ => ?_
  refine kl fun _ => ?_
  refine kl fun _ => ?_
  refine kl fun _ => ?_
  refine kl fun _ => ?_
  exact keeps_ret _

theorem p110 {R : sProp 𝕄} [CanStore c R arg27] [CanLoad c R arg4] [CanLoad c R arg18] [CanLoad c R arg26] (v38) (v390) (v391) : Keeps (defs₀ (F := F)) c R (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part110
  refine kl fun _ => ?_
  refine kl fun _ => ?_
  refine kl fun _ => ?_
  refine kl fun _ => ?_
  refine ks fun _ => ?_
  exact keeps_ret _

theorem p111 {R : sProp 𝕄} [CanStore c R arg27] [CanLoad c R arg26] (v492) (v493) (v494) (v495) (v496) (v516) (v526) : Keeps (defs₀ (F := F)) c R (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v492 v493 v494 v495 v496 v516 v526) := by
  unfold k0_part111
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p112 {R : sProp 𝕄} [CanStore c R arg27] [CanLoad c R arg4] [CanLoad c R arg18] [CanLoad c R arg26] (v38) (v390) (v391) (v497) (v498) (v525) (v529) (v557) (v563) : Keeps (defs₀ (F := F)) c R (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v497 v498 v525 v529 v557 v563) := by
  unfold k0_part112
  refine kl fun _ => ?_
  refine kl fun _ => ?_
  refine kl fun _ => ?_
  refine kl fun _ => ?_
  refine ks fun _ => ?_
  refine kl fun _ => ?_
  exact keeps_ret _

theorem p113 {R : sProp 𝕄} [CanStore c R arg27] [CanLoad c R arg18] [CanLoad c R arg26] (v538) (v542) (v551) (v555) (v564) (v568) (v586) (v601) : Keeps (defs₀ (F := F)) c R (k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v538 v542 v551 v555 v564 v568 v586 v601) := by
  unfold k0_part113
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p114 {R : sProp 𝕄} [CanStore c R arg27] [CanLoad c R arg4] [CanLoad c R arg26] (v38) (v390) (v391) (v595) (v599) (v608) (v639) (c512_i32) : Keeps (defs₀ (F := F)) c R (k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v595 v599 v608 v639 c512_i32) := by
  unfold k0_part114
  refine kl fun _ => ?_
  refine kl fun _ => ?_
  refine kl fun _ => ?_
  refine ks fun _ => ?_
  refine kl fun _ => ?_
  refine kl fun _ => ?_
  refine ks fun _ => ?_
  exact keeps_ret _

theorem p115 {R : sProp 𝕄} [CanStore c R arg27] [CanLoad c R arg18] [CanLoad c R arg26] (v38) (v390) (v391) (v612) (v621) (v625) (v634) (v638) (v656) (v679) : Keeps (defs₀ (F := F)) c R (k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v612 v621 v625 v634 v638 v656 v679) := by
  unfold k0_part115
  refine kl fun _ => ?_
  refine kl fun _ => ?_
  refine ks fun _ => ?_
  refine kl fun _ => ?_
  refine kl fun _ => ?_
  refine ks fun _ => ?_
  refine kl fun _ => ?_
  exact keeps_ret _

theorem p116 {R : sProp 𝕄} [CanStore c R arg27] [CanLoad c R arg4] [CanLoad c R arg26] (v665) (v669) (v678) (v682) (v719) : Keeps (defs₀ (F := F)) c R (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v665 v669 v678 v682 v719) := by
  unfold k0_part116
  refine kl fun _ => ?_
  refine kl fun _ => ?_
  refine kl fun _ => ?_
  refine ks fun _ => ?_
  refine kl fun _ => ?_
  refine kl fun _ => ?_
  refine ks fun _ => ?_
  refine kl fun _ => ?_
  exact keeps_ret _

theorem p117 {R : sProp 𝕄} [CanStore c R arg27] [CanLoad c R arg4] [CanLoad c R arg18] [CanLoad c R arg26] (v38) (v390) (v391) (v691) (v695) (v704) (v708) (v726) (v754) : Keeps (defs₀ (F := F)) c R (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v691 v695 v704 v708 v726 v754) := by
  unfold k0_part117
  refine kl fun _ => ?_
  refine ks fun _ => ?_
  refine kl fun _ => ?_
  refine kl fun _ => ?_
  refine ks fun _ => ?_
  refine kl fun _ => ?_
  refine kl fun _ => ?_
  exact keeps_ret _

theorem p118 {R : sProp 𝕄} [CanStore c R arg27] [CanLoad c R arg26] (v735) (v739) (v748) (v752) (v761) (v793) (v794) : Keeps (defs₀ (F := F)) c R (k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v735 v739 v748 v752 v761 v793 v794) := by
  unfold k0_part118
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p119 {R : sProp 𝕄} [CanStore c R arg27] [CanLoad c R arg4] [CanLoad c R arg18] [CanLoad c R arg26] (v38) (v390) (v391) (v765) (v774) (v778) (v796) (v824) : Keeps (defs₀ (F := F)) c R (k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v765 v774 v778 v796 v824) := by
  unfold k0_part119
  refine kl fun _ => ?_
  refine kl fun _ => ?_
  refine ks fun _ => ?_
  refine kl fun _ => ?_
  refine kl fun _ => ?_
  refine kl fun _ => ?_
  refine kl fun _ => ?_
  exact keeps_ret _

theorem p120 {R : sProp 𝕄} [CanStore c R arg27] [CanLoad c R arg26] (v805) (v809) (v818) (v822) (v831) (v835) (v866) (v868) (v869) : Keeps (defs₀ (F := F)) c R (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v805 v809 v818 v822 v831 v835 v866 v868 v869) := by
  unfold k0_part120
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p121 {R : sProp 𝕄} [CanStore c R arg27] [CanLoad c R arg4] [CanLoad c R arg18] [CanLoad c R arg26] (v38) (v390) (v391) (v844) (v848) (v875) (v907) : Keeps (defs₀ (F := F)) c R (k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v844 v848 v875 v907) := by
  unfold k0_part121
  refine kl fun _ => ?_
  refine ks fun _ => ?_
  refine kl fun _ => ?_
  refine kl fun _ => ?_
  refine kl fun _ => ?_
  refine kl fun _ => ?_
  refine ks fun _ => ?_
  exact keeps_ret _

theorem p122 {R : sProp 𝕄} [CanStore c R arg27] [CanLoad c R arg26] (v879) (v888) (v892) (v901) (v905) (v936) (v946) : Keeps (defs₀ (F := F)) c R (k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v879 v888 v892 v901 v905 v936 v946) := by
  unfold k0_part122
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p123 {R : sProp 𝕄} [CanStore c R arg27] [CanLoad c R arg4] [CanLoad c R arg18] [CanLoad c R arg26] (v38) (v390) (v391) (v914) (v918) (v945) (v949) (v977) (v983) : Keeps (defs₀ (F := F)) c R (k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v914 v918 v945 v949 v977 v983) := by
  unfold k0_part123
  refine kl fun _ => ?_
  refine kl fun _ => ?_
  refine kl fun _ => ?_
  refine kl fun _ => ?_
  refine ks fun _ => ?_
  refine kl fun _ => ?_
  exact keeps_ret _

theorem p124 {R : sProp 𝕄} [CanStore c R arg27] [CanLoad c R arg21] [CanLoad c R arg26] (v958) (v962) (v971) (v975) (v984) (v988) (v1006) (v1021) : Keeps (defs₀ (F := F)) c R (k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v958 v962 v971 v975 v984 v988 v1006 v1021) := by
  unfold k0_part124
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p125 {R : sProp 𝕄} [CanStore c R arg27] [CanLoad c R arg4] [CanLoad c R arg18] [CanLoad c R arg26] (v38) (v390) (v391) : Keeps (defs₀ (F := F)) c R (k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part125
  refine kl fun _ => ?_
  refine kl fun _ => ?_
  refine kl fun _ => ?_
  refine kl fun _ => ?_
  refine ks fun _ => ?_
  exact keeps_ret _

theorem p126 {R : sProp 𝕄} [CanStore c R arg27] [CanLoad c R arg26] (v492) (v493) (v494) (v495) (v496) (v516) (v526) : Keeps (defs₀ (F := F)) c R (k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v492 v493 v494 v495 v496 v516 v526) := by
  unfold k0_part126
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p127 {R : sProp 𝕄} [CanStore c R arg27] [CanLoad c R arg4] [CanLoad c R arg18] [CanLoad c R arg26] (v38) (v390) (v391) (v497) (v498) (v525) (v529) (v557) (v563) : Keeps (defs₀ (F := F)) c R (k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v497 v498 v525 v529 v557 v563) := by
  unfold k0_part127
  refine kl fun _ => ?_
  refine kl fun _ => ?_
  refine kl fun _ => ?_
  refine kl fun _ => ?_
  refine ks fun _ => ?_
  refine kl fun _ => ?_
  exact keeps_ret _

theorem p128 {R : sProp 𝕄} [CanStore c R arg27] [CanLoad c R arg18] [CanLoad c R arg26] (v538) (v542) (v551) (v555) (v564) (v568) (v586) (v601) : Keeps (defs₀ (F := F)) c R (k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v538 v542 v551 v555 v564 v568 v586 v601) := by
  unfold k0_part128
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p129 {R : sProp 𝕄} [CanStore c R arg27] [CanLoad c R arg4] [CanLoad c R arg26] (v38) (v390) (v391) (v595) (v599) (v608) (v639) (c512_i32) : Keeps (defs₀ (F := F)) c R (k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v595 v599 v608 v639 c512_i32) := by
  unfold k0_part129
  refine kl fun _ => ?_
  refine kl fun _ => ?_
  refine kl fun _ => ?_
  refine ks fun _ => ?_
  refine kl fun _ => ?_
  refine kl fun _ => ?_
  refine ks fun _ => ?_
  exact keeps_ret _

theorem p130 {R : sProp 𝕄} [CanStore c R arg27] [CanLoad c R arg18] [CanLoad c R arg26] (v38) (v390) (v391) (v612) (v621) (v625) (v634) (v638) (v656) (v679) : Keeps (defs₀ (F := F)) c R (k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v612 v621 v625 v634 v638 v656 v679) := by
  unfold k0_part130
  refine kl fun _ => ?_
  refine kl fun _ => ?_
  refine ks fun _ => ?_
  refine kl fun _ => ?_
  refine kl fun _ => ?_
  refine ks fun _ => ?_
  refine kl fun _ => ?_
  exact keeps_ret _

theorem p131 {R : sProp 𝕄} [CanStore c R arg27] [CanLoad c R arg4] [CanLoad c R arg26] (v665) (v669) (v678) (v682) (v719) : Keeps (defs₀ (F := F)) c R (k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v665 v669 v678 v682 v719) := by
  unfold k0_part131
  refine kl fun _ => ?_
  refine kl fun _ => ?_
  refine kl fun _ => ?_
  refine ks fun _ => ?_
  refine kl fun _ => ?_
  refine kl fun _ => ?_
  refine ks fun _ => ?_
  refine kl fun _ => ?_
  exact keeps_ret _

theorem p132 {R : sProp 𝕄} [CanStore c R arg27] [CanLoad c R arg4] [CanLoad c R arg18] [CanLoad c R arg26] (v38) (v390) (v391) (v691) (v695) (v704) (v708) (v726) (v754) : Keeps (defs₀ (F := F)) c R (k0_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v691 v695 v704 v708 v726 v754) := by
  unfold k0_part132
  refine kl fun _ => ?_
  refine ks fun _ => ?_
  refine kl fun _ => ?_
  refine kl fun _ => ?_
  refine ks fun _ => ?_
  refine kl fun _ => ?_
  refine kl fun _ => ?_
  exact keeps_ret _

theorem p133 {R : sProp 𝕄} [CanStore c R arg27] [CanLoad c R arg26] (v735) (v739) (v748) (v752) (v761) (v793) (v794) : Keeps (defs₀ (F := F)) c R (k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v735 v739 v748 v752 v761 v793 v794) := by
  unfold k0_part133
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p134 {R : sProp 𝕄} [CanStore c R arg27] [CanLoad c R arg4] [CanLoad c R arg18] [CanLoad c R arg26] (v38) (v390) (v391) (v765) (v774) (v778) (v796) (v824) : Keeps (defs₀ (F := F)) c R (k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v765 v774 v778 v796 v824) := by
  unfold k0_part134
  refine kl fun _ => ?_
  refine kl fun _ => ?_
  refine ks fun _ => ?_
  refine kl fun _ => ?_
  refine kl fun _ => ?_
  refine kl fun _ => ?_
  refine kl fun _ => ?_
  exact keeps_ret _

theorem p135 {R : sProp 𝕄} [CanStore c R arg27] [CanLoad c R arg26] (v805) (v809) (v818) (v822) (v831) (v835) (v866) (v868) (v869) : Keeps (defs₀ (F := F)) c R (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v805 v809 v818 v822 v831 v835 v866 v868 v869) := by
  unfold k0_part135
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p136 {R : sProp 𝕄} [CanStore c R arg27] [CanLoad c R arg4] [CanLoad c R arg18] [CanLoad c R arg26] (v38) (v390) (v391) (v844) (v848) (v875) (v907) : Keeps (defs₀ (F := F)) c R (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v844 v848 v875 v907) := by
  unfold k0_part136
  refine kl fun _ => ?_
  refine ks fun _ => ?_
  refine kl fun _ => ?_
  refine kl fun _ => ?_
  refine kl fun _ => ?_
  refine kl fun _ => ?_
  refine ks fun _ => ?_
  exact keeps_ret _

theorem p137 {R : sProp 𝕄} [CanStore c R arg27] [CanLoad c R arg26] (v879) (v888) (v892) (v901) (v905) (v936) (v946) : Keeps (defs₀ (F := F)) c R (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v879 v888 v892 v901 v905 v936 v946) := by
  unfold k0_part137
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p138 {R : sProp 𝕄} [CanStore c R arg21] [CanStore c R arg27] [CanLoad c R arg4] [CanLoad c R arg18] [CanLoad c R arg26] (v38) (v390) (v391) : Keeps (defs₀ (F := F)) c R (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part138
  refine keeps_bind (p125 _ _ _) fun _ => ?_
  refine keeps_bind (p126 _ _ _ _ _ _ _) fun _ => ?_
  refine keeps_bind (p127 _ _ _ _ _ _ _ _ _) fun _ => ?_
  refine keeps_bind (p128 _ _ _ _ _ _ _ _) fun _ => ?_
  refine keeps_bind (p129 _ _ _ _ _ _ _ _) fun _ => ?_
  refine keeps_bind (p130 _ _ _ _ _ _ _ _ _ _) fun _ => ?_
  refine keeps_bind (p131 _ _ _ _ _) fun _ => ?_
  refine keeps_bind (p132 _ _ _ _ _ _ _ _ _) fun _ => ?_
  refine keeps_bind (p133 _ _ _ _ _ _ _) fun _ => ?_
  refine keeps_bind (p134 _ _ _ _ _ _ _ _) fun _ => ?_
  refine keeps_bind (p135 _ _ _ _ _ _ _ _ _) fun _ => ?_
  refine keeps_bind (p136 _ _ _ _ _ _ _) fun _ => ?_
  refine keeps_bind (p137 _ _ _ _ _ _ _) fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  exact keeps_ret _

theorem p139 {R : sProp 𝕄} [CanStore c R arg27] [CanLoad c R arg4] [CanLoad c R arg18] [CanLoad c R arg26] (v38) (v390) (v391) : Keeps (defs₀ (F := F)) c R (k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part139
  refine kl fun _ => ?_
  refine kl fun _ => ?_
  refine kl fun _ => ?_
  refine kl fun _ => ?_
  refine ks fun _ => ?_
  exact keeps_ret _

theorem p140 {R : sProp 𝕄} [CanStore c R arg27] [CanLoad c R arg26] (v490) (v491) (v492) (v493) (v494) (v514) (v524) : Keeps (defs₀ (F := F)) c R (k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v490 v491 v492 v493 v494 v514 v524) := by
  unfold k0_part140
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p141 {R : sProp 𝕄} [CanStore c R arg27] [CanLoad c R arg4] [CanLoad c R arg18] [CanLoad c R arg26] (v38) (v390) (v391) (v495) (v496) (v523) (v527) (v555) (v561) : Keeps (defs₀ (F := F)) c R (k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v495 v496 v523 v527 v555 v561) := by
  unfold k0_part141
  refine kl fun _ => ?_
  refine kl fun _ => ?_
  refine kl fun _ => ?_
  refine kl fun _ => ?_
  refine ks fun _ => ?_
  refine kl fun _ => ?_
  exact keeps_ret _

theorem p142 {R : sProp 𝕄} [CanStore c R arg27] [CanLoad c R arg18] [CanLoad c R arg26] (v536) (v540) (v549) (v553) (v562) (v566) (v584) (v599) : Keeps (defs₀ (F := F)) c R (k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v536 v540 v549 v553 v562 v566 v584 v599) := by
  unfold k0_part142
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p143 {R : sProp 𝕄} [CanStore c R arg27] [CanLoad c R arg4] [CanLoad c R arg26] (v38) (v390) (v391) (v593) (v597) (v606) (v637) (c512_i32) : Keeps (defs₀ (F := F)) c R (k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v593 v597 v606 v637 c512_i32) := by
  unfold k0_part143
  refine kl fun _ => ?_
  refine kl fun _ => ?_
  refine kl fun _ => ?_
  refine ks fun _ => ?_
  refine kl fun _ => ?_
  refine kl fun _ => ?_
  refine ks fun _ => ?_
  exact keeps_ret _

theorem p144 {R : sProp 𝕄} [CanStore c R arg27] [CanLoad c R arg18] [CanLoad c R arg26] (v38) (v390) (v391) (v610) (v619) (v623) (v632) (v636) (v654) (v677) : Keeps (defs₀ (F := F)) c R (k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v610 v619 v623 v632 v636 v654 v677) := by
  unfold k0_part144
  refine kl fun _ => ?_
  refine kl fun _ => ?_
  refine ks fun _ => ?_
  refine kl fun _ => ?_
  refine kl fun _ => ?_
  refine ks fun _ => ?_
  refine kl fun _ => ?_
  exact keeps_ret _

theorem p145 {R : sProp 𝕄} [CanStore c R arg27] [CanLoad c R arg4] [CanLoad c R arg26] (v663) (v667) (v676) (v680) (v717) : Keeps (defs₀ (F := F)) c R (k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v663 v667 v676 v680 v717) := by
  unfold k0_part145
  refine kl fun _ => ?_
  refine kl fun _ => ?_
  refine kl fun _ => ?_
  refine ks fun _ => ?_
  refine kl fun _ => ?_
  refine kl fun _ => ?_
  refine ks fun _ => ?_
  refine kl fun _ => ?_
  exact keeps_ret _

theorem p146 {R : sProp 𝕄} [CanStore c R arg27] [CanLoad c R arg4] [CanLoad c R arg18] [CanLoad c R arg26] (v38) (v390) (v391) (v689) (v693) (v702) (v706) (v724) (v752) : Keeps (defs₀ (F := F)) c R (k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v689 v693 v702 v706 v724 v752) := by
  unfold k0_part146
  refine kl fun _ => ?_
  refine ks fun _ => ?_
  refine kl fun _ => ?_
  refine kl fun _ => ?_
  refine ks fun _ => ?_
  refine kl fun _ => ?_
  refine kl fun _ => ?_
  exact keeps_ret _

theorem p147 {R : sProp 𝕄} [CanStore c R arg27] [CanLoad c R arg26] (v733) (v737) (v746) (v750) (v759) (v791) (v792) : Keeps (defs₀ (F := F)) c R (k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v733 v737 v746 v750 v759 v791 v792) := by
  unfold k0_part147
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p148 {R : sProp 𝕄} [CanStore c R arg27] [CanLoad c R arg4] [CanLoad c R arg18] [CanLoad c R arg26] (v38) (v390) (v391) (v763) (v772) (v776) (v794) (v822) : Keeps (defs₀ (F := F)) c R (k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v763 v772 v776 v794 v822) := by
  unfold k0_part148
  refine kl fun _ => ?_
  refine kl fun _ => ?_
  refine ks fun _ => ?_
  refine kl fun _ => ?_
  refine kl fun _ => ?_
  refine kl fun _ => ?_
  refine kl fun _ => ?_
  exact keeps_ret _

theorem p149 {R : sProp 𝕄} [CanStore c R arg27] [CanLoad c R arg26] (v803) (v807) (v816) (v820) (v829) (v833) (v864) (v866) (v867) : Keeps (defs₀ (F := F)) c R (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v803 v807 v816 v820 v829 v833 v864 v866 v867) := by
  unfold k0_part149
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p150 {R : sProp 𝕄} [CanStore c R arg21] [CanStore c R arg27] (v842) (v846) (v873) (v877) (v886) (v890) (v899) (v903) (v905) : Keeps (defs₀ (F := F)) c R (k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v842 v846 v873 v877 v886 v890 v899 v903 v905) := by
  unfold k0_part150
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  exact keeps_ret _

theorem p151 {R : sProp 𝕄} [CanStore c R arg27] [CanLoad c R arg4] [CanLoad c R arg18] [CanLoad c R arg26] (v38) (v390) (v391) : Keeps (defs₀ (F := F)) c R (k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part151
  refine kl fun _ => ?_
  refine kl fun _ => ?_
  refine kl fun _ => ?_
  refine kl fun _ => ?_
  refine ks fun _ => ?_
  exact keeps_ret _

theorem p152 {R : sProp 𝕄} [CanStore c R arg27] [CanLoad c R arg26] (v488) (v489) (v490) (v491) (v492) (v512) (v522) : Keeps (defs₀ (F := F)) c R (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v488 v489 v490 v491 v492 v512 v522) := by
  unfold k0_part152
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p153 {R : sProp 𝕄} [CanStore c R arg27] [CanLoad c R arg4] [CanLoad c R arg18] [CanLoad c R arg26] (v38) (v390) (v391) (v493) (v494) (v521) (v525) (v553) (v559) : Keeps (defs₀ (F := F)) c R (k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v493 v494 v521 v525 v553 v559) := by
  unfold k0_part153
  refine kl fun _ => ?_
  refine kl fun _ => ?_
  refine kl fun _ => ?_
  refine kl fun _ => ?_
  refine ks fun _ => ?_
  refine kl fun _ => ?_
  exact keeps_ret _

theorem p154 {R : sProp 𝕄} [CanStore c R arg27] [CanLoad c R arg18] [CanLoad c R arg26] (v534) (v538) (v547) (v551) (v560) (v564) (v582) (v597) : Keeps (defs₀ (F := F)) c R (k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v534 v538 v547 v551 v560 v564 v582 v597) := by
  unfold k0_part154
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

end Cert.KernelIdeal.Keep

end
-- ==== Proof.PartsKernelIdeal.P4.lean ====
/- The parts of the kernel body, each inside any resource that lets it load and store what it loads and stores. -/
module

public import proofs.«01_k».proof.KernelIdeal
public import proofs.«01_k».proof.Proof.Keeps

@[expose] public section

set_option synthInstance.maxSize 4096

noncomputable section

namespace Cert.KernelIdeal.Keep

open Idealize.ShloMosaic Idealize.ShloMosaic.TcCoe Idealize.ShloMosaic.Tactic
open Idealize.SL Idealize.SL.RA Idealize.SL.BI Idealize.SL.Sem
open Cert.Keep

variable {F : FTy → Type} [FloatOps F] [Named F] [Facts]

local notation "𝕄" => MT nD τ sig Unit (Elt F) ℕ (UR sig nD τ) ℕ

variable {c : Dev nD} {i : grid0.Coords} {arg2 : Memref sig .tc .smem S8 .f32} {harg2 : arg2.IsWhole} {arg3 : Memref sig .tc .vmem S1x1x1536x128 .bf16} {harg3 : arg3.IsWhole} {arg4 : Memref sig .tc .vmem S1x2048x384 .bf16} {harg4 : arg4.IsWhole} {arg5 : Memref sig .tc .vmem S1x16x256x128 .bf16} {harg5 : arg5.IsWhole} {arg6 : Memref sig .tc .vmem S1x1x8x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S1x16x1024 .f32} {harg9 : arg9.IsWhole} {arg10 : Memref sig .tc .vmem S1x16x2816 .f32} {harg10 : arg10.IsWhole} {arg11 : Memref sig .tc .vmem S1x16x2816 .f32} {harg11 : arg11.IsWhole} {arg12 : Memref sig .tc .vmem S1x32x1024 .f32} {harg12 : arg12.IsWhole} {arg13 : Memref sig .tc .vmem S1x1024x128 .bf16} {harg13 : arg13.IsWhole} {arg14 : Memref sig .tc .vmem S16x1024 .bf16} {harg14 : arg14.IsWhole} {arg15 : Memref sig .tc .vmem S16x2816 .bf16} {harg15 : arg15.IsWhole} {arg16 : Memref sig .tc .vmem S16x2816 .bf16} {harg16 : arg16.IsWhole} {arg17 : Memref sig .tc .vmem S32x1024 .bf16} {harg17 : arg17.IsWhole} {arg18 : Memref sig .tc .vmem S2048x128 .f32} {harg18 : arg18.IsWhole} {arg19 : Memref sig .tc .vmem S1x128 .f32} {harg19 : arg19.IsWhole} {arg20 : Memref sig .tc .vmem S1x128 .i32} {harg20 : arg20.IsWhole} {arg21 : Memref sig .tc .vmem S1x1024 .f32} {harg21 : arg21.IsWhole} {arg22 : Memref sig .tc .vmem S72x1024 .f32} {harg22 : arg22.IsWhole} {arg23 : Memref sig .tc .vmem S1024x128 .f32} {harg23 : arg23.IsWhole} {arg24 : Memref sig .tc .vmem S256x1024 .f32} {harg24 : arg24.IsWhole} {arg25 : Memref sig .tc .vmem S2048x1024 .bf16} {harg25 : arg25.IsWhole} {arg26 : Memref sig .tc .vmem S256x1024 .bf16} {harg26 : arg26.IsWhole} {arg27 : Memref sig .tc .vmem S2048x1024 .f32} {harg27 : arg27.IsWhole}

theorem p155 {R : sProp 𝕄} [CanStore c R arg27] [CanLoad c R arg4] [CanLoad c R arg26] (v38) (v390) (v391) (v591) (v595) (v604) (v635) (c512_i32) : Keeps (defs₀ (F := F)) c R (k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v591 v595 v604 v635 c512_i32) := by
  unfold k0_part155
  refine kl fun _ => ?_
  refine kl fun _ => ?_
  refine kl fun _ => ?_
  refine ks fun _ => ?_
  refine kl fun _ => ?_
  refine kl fun _ => ?_
  refine ks fun _ => ?_
  exact keeps_ret _

theorem p156 {R : sProp 𝕄} [CanStore c R arg27] [CanLoad c R arg18] [CanLoad c R arg26] (v38) (v390) (v391) (v608) (v617) (v621) (v630) (v634) (v652) (v675) : Keeps (defs₀ (F := F)) c R (k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v608 v617 v621 v630 v634 v652 v675) := by
  unfold k0_part156
  refine kl fun _ => ?_
  refine kl fun _ => ?_
  refine ks fun _ => ?_
  refine kl fun _ => ?_
  refine kl fun _ => ?_
  refine ks fun _ => ?_
  refine kl fun _ => ?_
  exact keeps_ret _

theorem p157 {R : sProp 𝕄} [CanStore c R arg27] [CanLoad c R arg4] [CanLoad c R arg26] (v661) (v665) (v674) (v678) (v715) : Keeps (defs₀ (F := F)) c R (k0_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v661 v665 v674 v678 v715) := by
  unfold k0_part157
  refine kl fun _ => ?_
  refine kl fun _ => ?_
  refine kl fun _ => ?_
  refine ks fun _ => ?_
  refine kl fun _ => ?_
  refine kl fun _ => ?_
  refine ks fun _ => ?_
  refine kl fun _ => ?_
  exact keeps_ret _

theorem p158 {R : sProp 𝕄} [CanStore c R arg27] [CanLoad c R arg4] [CanLoad c R arg18] [CanLoad c R arg26] (v38) (v390) (v391) (v687) (v691) (v700) (v704) (v722) (v750) : Keeps (defs₀ (F := F)) c R (k0_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v687 v691 v700 v704 v722 v750) := by
  unfold k0_part158
  refine kl fun _ => ?_
  refine ks fun _ => ?_
  refine kl fun _ => ?_
  refine kl fun _ => ?_
  refine ks fun _ => ?_
  refine kl fun _ => ?_
  refine kl fun _ => ?_
  exact keeps_ret _

theorem p159 {R : sProp 𝕄} [CanStore c R arg27] [CanLoad c R arg26] (v731) (v735) (v744) (v748) (v757) (v789) (v790) : Keeps (defs₀ (F := F)) c R (k0_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v731 v735 v744 v748 v757 v789 v790) := by
  unfold k0_part159
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p160 {R : sProp 𝕄} [CanStore c R arg21] [CanStore c R arg27] [CanLoad c R arg26] (v761) (v770) (v774) (v792) (v801) (v805) (v814) (v818) (v820) (v827) : Keeps (defs₀ (F := F)) c R (k0_part160 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v761 v770 v774 v792 v801 v805 v814 v818 v820 v827) := by
  unfold k0_part160
  refine kl fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  exact keeps_ret _

theorem p161 {R : sProp 𝕄} [CanStore c R arg27] [CanLoad c R arg4] [CanLoad c R arg18] [CanLoad c R arg26] (v38) (v390) (v391) : Keeps (defs₀ (F := F)) c R (k0_part161 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part161
  refine kl fun _ => ?_
  refine kl fun _ => ?_
  refine kl fun _ => ?_
  refine kl fun _ => ?_
  refine ks fun _ => ?_
  exact keeps_ret _

theorem p162 {R : sProp 𝕄} [CanStore c R arg27] [CanLoad c R arg26] (v486) (v487) (v488) (v489) (v490) (v510) (v520) : Keeps (defs₀ (F := F)) c R (k0_part162 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v486 v487 v488 v489 v490 v510 v520) := by
  unfold k0_part162
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p163 {R : sProp 𝕄} [CanStore c R arg27] [CanLoad c R arg4] [CanLoad c R arg18] [CanLoad c R arg26] (v38) (v390) (v391) (v491) (v492) (v519) (v523) (v551) (v557) : Keeps (defs₀ (F := F)) c R (k0_part163 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v491 v492 v519 v523 v551 v557) := by
  unfold k0_part163
  refine kl fun _ => ?_
  refine kl fun _ => ?_
  refine kl fun _ => ?_
  refine kl fun _ => ?_
  refine ks fun _ => ?_
  refine kl fun _ => ?_
  exact keeps_ret _

theorem p164 {R : sProp 𝕄} [CanStore c R arg27] [CanLoad c R arg18] [CanLoad c R arg26] (v532) (v536) (v545) (v549) (v558) (v562) (v580) (v595) : Keeps (defs₀ (F := F)) c R (k0_part164 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v532 v536 v545 v549 v558 v562 v580 v595) := by
  unfold k0_part164
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p165 {R : sProp 𝕄} [CanStore c R arg27] [CanLoad c R arg4] [CanLoad c R arg26] (v38) (v390) (v391) (v589) (v593) (v602) (v633) (c512_i32) : Keeps (defs₀ (F := F)) c R (k0_part165 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v589 v593 v602 v633 c512_i32) := by
  unfold k0_part165
  refine kl fun _ => ?_
  refine kl fun _ => ?_
  refine kl fun _ => ?_
  refine ks fun _ => ?_
  refine kl fun _ => ?_
  refine kl fun _ => ?_
  refine ks fun _ => ?_
  exact keeps_ret _

theorem p166 {R : sProp 𝕄} [CanStore c R arg27] [CanLoad c R arg18] [CanLoad c R arg26] (v38) (v390) (v391) (v606) (v615) (v619) (v628) (v632) (v650) (v673) : Keeps (defs₀ (F := F)) c R (k0_part166 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v606 v615 v619 v628 v632 v650 v673) := by
  unfold k0_part166
  refine kl fun _ => ?_
  refine kl fun _ => ?_
  refine ks fun _ => ?_
  refine kl fun _ => ?_
  refine kl fun _ => ?_
  refine ks fun _ => ?_
  refine kl fun _ => ?_
  exact keeps_ret _

theorem p167 {R : sProp 𝕄} [CanStore c R arg27] [CanLoad c R arg4] [CanLoad c R arg26] (v659) (v663) (v672) (v676) (v713) : Keeps (defs₀ (F := F)) c R (k0_part167 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v659 v663 v672 v676 v713) := by
  unfold k0_part167
  refine kl fun _ => ?_
  refine kl fun _ => ?_
  refine kl fun _ => ?_
  refine ks fun _ => ?_
  refine kl fun _ => ?_
  refine kl fun _ => ?_
  refine ks fun _ => ?_
  refine kl fun _ => ?_
  exact keeps_ret _

theorem p168 {R : sProp 𝕄} [CanStore c R arg21] [CanStore c R arg27] [CanLoad c R arg26] (v685) (v689) (v698) (v702) (v720) (v729) (v733) (v742) (v746) (v748) : Keeps (defs₀ (F := F)) c R (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v685 v689 v698 v702 v720 v729 v733 v742 v746 v748) := by
  unfold k0_part168
  refine kl fun _ => ?_
  refine ks fun _ => ?_
  refine kl fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  exact keeps_ret _

theorem p169 {R : sProp 𝕄} [CanStore c R arg27] [CanLoad c R arg4] [CanLoad c R arg18] [CanLoad c R arg26] (v38) (v390) (v391) : Keeps (defs₀ (F := F)) c R (k0_part169 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part169
  refine kl fun _ => ?_
  refine kl fun _ => ?_
  refine kl fun _ => ?_
  refine kl fun _ => ?_
  refine ks fun _ => ?_
  exact keeps_ret _

theorem p170 {R : sProp 𝕄} [CanStore c R arg27] [CanLoad c R arg26] (v484) (v485) (v486) (v487) (v488) (v508) (v518) : Keeps (defs₀ (F := F)) c R (k0_part170 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v484 v485 v486 v487 v488 v508 v518) := by
  unfold k0_part170
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p171 {R : sProp 𝕄} [CanStore c R arg27] [CanLoad c R arg4] [CanLoad c R arg18] [CanLoad c R arg26] (v38) (v390) (v391) (v489) (v490) (v517) (v521) (v549) (v555) : Keeps (defs₀ (F := F)) c R (k0_part171 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v489 v490 v517 v521 v549 v555) := by
  unfold k0_part171
  refine kl fun _ => ?_
  refine kl fun _ => ?_
  refine kl fun _ => ?_
  refine kl fun _ => ?_
  refine ks fun _ => ?_
  refine kl fun _ => ?_
  exact keeps_ret _

theorem p172 {R : sProp 𝕄} [CanStore c R arg27] [CanLoad c R arg18] [CanLoad c R arg26] (v530) (v534) (v543) (v547) (v556) (v560) (v578) (v593) : Keeps (defs₀ (F := F)) c R (k0_part172 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v530 v534 v543 v547 v556 v560 v578 v593) := by
  unfold k0_part172
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p173 {R : sProp 𝕄} [CanStore c R arg27] [CanLoad c R arg4] [CanLoad c R arg26] (v38) (v390) (v391) (v587) (v591) (v600) (v631) (c512_i32) : Keeps (defs₀ (F := F)) c R (k0_part173 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v587 v591 v600 v631 c512_i32) := by
  unfold k0_part173
  refine kl fun _ => ?_
  refine kl fun _ => ?_
  refine kl fun _ => ?_
  refine ks fun _ => ?_
  refine kl fun _ => ?_
  refine kl fun _ => ?_
  refine ks fun _ => ?_
  exact keeps_ret _

theorem p174 {R : sProp 𝕄} [CanStore c R arg21] [CanStore c R arg27] [CanLoad c R arg26] (v604) (v613) (v617) (v626) (v630) (v648) (v657) (v661) (v671) : Keeps (defs₀ (F := F)) c R (k0_part174 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v604 v613 v617 v626 v630 v648 v657 v661 v671) := by
  unfold k0_part174
  refine kl fun _ => ?_
  refine kl fun _ => ?_
  refine ks fun _ => ?_
  refine kl fun _ => ?_
  refine kl fun _ => ?_
  refine ks fun _ => ?_
  refine kl fun _ => ?_
  refine ks fun _ => ?_
  refine kl fun _ => ?_
  refine ks fun _ => ?_
  exact keeps_ret _

theorem p175 {R : sProp 𝕄} [CanStore c R arg27] [CanLoad c R arg4] [CanLoad c R arg18] [CanLoad c R arg26] (v38) (v390) (v391) : Keeps (defs₀ (F := F)) c R (k0_part175 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part175
  refine kl fun _ => ?_
  refine kl fun _ => ?_
  refine kl fun _ => ?_
  refine kl fun _ => ?_
  refine ks fun _ => ?_
  exact keeps_ret _

theorem p176 {R : sProp 𝕄} [CanStore c R arg27] [CanLoad c R arg26] (v482) (v483) (v484) (v485) (v486) (v506) (v516) : Keeps (defs₀ (F := F)) c R (k0_part176 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v482 v483 v484 v485 v486 v506 v516) := by
  unfold k0_part176
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p177 {R : sProp 𝕄} [CanStore c R arg27] [CanLoad c R arg4] [CanLoad c R arg18] [CanLoad c R arg26] (v38) (v390) (v391) (v487) (v488) (v515) (v519) (v547) (v553) : Keeps (defs₀ (F := F)) c R (k0_part177 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391 v487 v488 v515 v519 v547 v553) := by
  unfold k0_part177
  refine kl fun _ => ?_
  refine kl fun _ => ?_
  refine kl fun _ => ?_
  refine kl fun _ => ?_
  refine ks fun _ => ?_
  refine kl fun _ => ?_
  exact keeps_ret _

theorem p178 {R : sProp 𝕄} [CanStore c R arg27] [CanLoad c R arg21] [CanLoad c R arg26] (v528) (v532) (v541) (v545) (v554) (v558) (v576) (v591) : Keeps (defs₀ (F := F)) c R (k0_part178 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v528 v532 v541 v545 v554 v558 v576 v591) := by
  unfold k0_part178
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p179 {R : sProp 𝕄} [CanStore c R arg27] [CanLoad c R arg4] [CanLoad c R arg18] [CanLoad c R arg26] (v38) (v390) (v391) : Keeps (defs₀ (F := F)) c R (k0_part179 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v38 v390 v391) := by
  unfold k0_part179
  refine kl fun _ => ?_
  refine kl fun _ => ?_
  refine kl fun _ => ?_
  refine kl fun _ => ?_
  refine ks fun _ => ?_
  exact keeps_ret _

theorem p180 {R : sProp 𝕄} [CanStore c R arg27] [CanLoad c R arg26] (v480) (v481) (v482) (v483) (v484) (v504) (v514) : Keeps (defs₀ (F := F)) c R (k0_part180 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v480 v481 v482 v483 v484 v504 v514) := by
  unfold k0_part180
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p181 {R : sProp 𝕄} [CanLoad c R arg5] : Keeps (defs₀ (F := F)) c R (k0_part181 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part181
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  exact keeps_ret _

theorem p182 {R : sProp 𝕄} [CanStore c R arg22] [CanLoad c R arg5] [CanLoad c R arg25] (v491) (v493) (v495) (v497) (v499) (v501) (v503) (v505) (v507) (v509) : Keeps (defs₀ (F := F)) c R (k0_part182 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v491 v493 v495 v497 v499 v501 v503 v505 v507 v509) := by
  unfold k0_part182
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  refine ks fun _ => ?_
  refine kl fun _ => ?_
  exact keeps_ret _

theorem p183 {R : sProp 𝕄} [CanLoad c R arg5] : Keeps (defs₀ (F := F)) c R (k0_part183 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part183
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  exact keeps_ret _

theorem p184 {R : sProp 𝕄} [CanLoad c R arg5] : Keeps (defs₀ (F := F)) c R (k0_part184 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part184
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  exact keeps_ret _

theorem p185 {R : sProp 𝕄} [CanStore c R arg22] [CanLoad c R arg5] [CanLoad c R arg25] (v491) (v493) (v495) (v497) (v499) (v501) (v503) (v505) (v507) (v509) : Keeps (defs₀ (F := F)) c R (k0_part185 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v491 v493 v495 v497 v499 v501 v503 v505 v507 v509) := by
  unfold k0_part185
  refine kl fun _ => ?_
  refine kl fun _ => ?_
  refine kl fun _ => ?_
  refine kl fun _ => ?_
  refine kl fun _ => ?_
  refine kl fun _ => ?_
  refine kl fun _ => ?_
  refine ks fun _ => ?_
  refine kl fun _ => ?_
  refine kl fun _ => ?_
  refine kl fun _ => ?_
  exact keeps_ret _

theorem p186 {R : sProp 𝕄} [CanLoad c R arg5] : Keeps (defs₀ (F := F)) c R (k0_part186 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part186
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  exact keeps_ret _

theorem p187 {R : sProp 𝕄} [CanLoad c R arg5] : Keeps (defs₀ (F := F)) c R (k0_part187 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part187
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  exact keeps_ret _

theorem p188 {R : sProp 𝕄} [CanStore c R arg22] [CanLoad c R arg5] [CanLoad c R arg25] (v489) (v491) (v493) (v495) (v497) (v499) (v501) (v503) (v505) (v507) : Keeps (defs₀ (F := F)) c R (k0_part188 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v489 v491 v493 v495 v497 v499 v501 v503 v505 v507) := by
  unfold k0_part188
  refine kl fun _ => ?_
  refine kl fun _ => ?_
  refine kl fun _ => ?_
  refine kl fun _ => ?_
  refine kl fun _ => ?_
  refine ks fun _ => ?_
  refine kl fun _ => ?_
  refine kl fun _ => ?_
  refine kl fun _ => ?_
  refine kl fun _ => ?_
  refine kl fun _ => ?_
  exact keeps_ret _

theorem p189 {R : sProp 𝕄} [CanLoad c R arg5] : Keeps (defs₀ (F := F)) c R (k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part189
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  exact keeps_ret _

theorem p190 {R : sProp 𝕄} [CanStore c R arg22] [CanLoad c R arg5] [CanLoad c R arg25] (v487) (v489) (v491) (v493) (v495) (v497) (v499) (v501) (v503) (v505) : Keeps (defs₀ (F := F)) c R (k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v487 v489 v491 v493 v495 v497 v499 v501 v503 v505) := by
  unfold k0_part190
  refine kl fun _ => ?_
  refine kl fun _ => ?_
  refine kl fun _ => ?_
  refine ks fun _ => ?_
  refine kl fun _ => ?_
  refine kl fun _ => ?_
  refine kl fun _ => ?_
  refine kl fun _ => ?_
  refine kl fun _ => ?_
  refine kl fun _ => ?_
  refine kl fun _ => ?_
  exact keeps_ret _

theorem p191 {R : sProp 𝕄} [CanLoad c R arg5] [CanLoad c R arg25] : Keeps (defs₀ (F := F)) c R (k0_part191 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part191
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  exact keeps_ret _

theorem p192 {R : sProp 𝕄} [CanStore c R arg22] [CanLoad c R arg5] [CanLoad c R arg25] (v485) (v506) : Keeps (defs₀ (F := F)) c R (k0_part192 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v485 v506) := by
  unfold k0_part192
  refine kl fun _ => ?_
  refine ks fun _ => ?_
  refine kl fun _ => ?_
  refine kl fun _ => ?_
  refine kl fun _ => ?_
  refine kl fun _ => ?_
  refine kl fun _ => ?_
  refine kl fun _ => ?_
  refine kl fun _ => ?_
  refine kl fun _ => ?_
  refine kl fun _ => ?_
  exact keeps_ret _

theorem p193 {R : sProp 𝕄} [CanStore c R arg22] [CanLoad c R arg5] [CanLoad c R arg25] : Keeps (defs₀ (F := F)) c R (k0_part193 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part193
  refine kl fun _ => ?_
  refine kl fun _ => ?_
  refine kl fun _ => ?_
  refine kl fun _ => ?_
  refine kl fun _ => ?_
  refine kl fun _ => ?_
  refine kl fun _ => ?_
  refine kl fun _ => ?_
  refine ks fun _ => ?_
  refine kl fun _ => ?_
  exact keeps_ret _

theorem p194 {R : sProp 𝕄} [CanStore c R arg22] [CanLoad c R arg5] [CanLoad c R arg25] : Keeps (defs₀ (F := F)) c R (k0_part194 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part194
  refine kl fun _ => ?_
  refine kl fun _ => ?_
  refine kl fun _ => ?_
  refine kl fun _ => ?_
  refine kl fun _ => ?_
  refine kl fun _ => ?_
  refine ks fun _ => ?_
  refine kl fun _ => ?_
  refine kl fun _ => ?_
  refine kl fun _ => ?_
  exact keeps_ret _

theorem p195 {R : sProp 𝕄} [CanStore c R arg14] [CanStore c R arg15] [CanStore c R arg16] [CanStore c R arg17] [CanLoad c R arg9] [CanLoad c R arg10] [CanLoad c R arg11] [CanLoad c R arg12] : Keeps (defs₀ (F := F)) c R (k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part195
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p196 {R : sProp 𝕄} [CanLoad c R arg3] (arg1) (v16) (v17) (c2_i32_19) (v18) (v23) (v25) (v26) : Keeps (defs₀ (F := F)) c R (k0_part196 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v16 v17 c2_i32_19 v18 v23 v25 v26) := by
  unfold k0_part196
  refine kl fun _ => ?_
  exact keeps_ret _

theorem p197 {R : sProp 𝕄} [CanStore c R arg26] [CanLoad c R arg3] [CanLoad c R arg4] (v67) (v71) (v74) (c0_i32_32) : Keeps (defs₀ (F := F)) c R (k0_part197 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v67 v71 v74 c0_i32_32) := by
  unfold k0_part197
  refine kl fun _ => ?_
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  exact keeps_ret _

theorem p198 {R : sProp 𝕄} [CanStore c R arg26] [CanLoad c R arg3] [CanLoad c R arg4] : Keeps (defs₀ (F := F)) c R (k0_part198 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold k0_part198
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  refine kl fun _ => ?_
  refine ks fun _ => ?_
  refine kl fun _ => ?_
  exact keeps_ret _

theorem p199 {R : sProp 𝕄} [CanStore c R arg24] [CanLoad c R arg2] [CanLoad c R arg26] (v88) (v129) : Keeps (defs₀ (F := F)) c R (k0_part199 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v88 v129) := by
  unfold k0_part199
  refine kl fun _ => ?_
  refine kl fun _ => ?_
  refine ks fun _ => ?_
  refine kl fun _ => ?_
  refine kl fun _ => ?_
  refine kl fun _ => ?_
  refine kl fun _ => ?_
  exact keeps_ret _

theorem p200 {R : sProp 𝕄} [CanLoad c R arg2] [CanLoad c R arg5] (v69) (v88) (v145) (v155) (v165) (v175) : Keeps (defs₀ (F := F)) c R (k0_part200 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v69 v88 v145 v155 v165 v175) := by
  unfold k0_part200
  refine kl fun _ => ?_
  refine kl fun _ => ?_
  refine kl fun _ => ?_
  refine kl fun _ => ?_
  refine kl fun _ => ?_
  exact keeps_ret _

theorem p201 {R : sProp 𝕄} [CanStore c R arg23] [CanLoad c R arg5] (v39) (v138) (v141) (v148) (v151) (v158) (v161) (v168) (v171) (v216) (v219) : Keeps (defs₀ (F := F)) c R (k0_part201 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v39 v138 v141 v148 v151 v158 v161 v168 v171 v216 v219) := by
  unfold k0_part201
  refine kl fun _ => ?_
  refine kl fun _ => ?_
  refine ks fun _ => ?_
  refine kl fun _ => ?_
  refine ks fun _ => ?_
  refine kl fun _ => ?_
  refine ks fun _ => ?_
  exact keeps_ret _

theorem p202 {R : sProp 𝕄} [CanStore c R arg23] [CanLoad c R arg5] (v39) (v69) (v178) (v181) (v185) (v188) (v191) (v195) (v205) (v215) (v266) (v267) : Keeps (defs₀ (F := F)) c R (k0_part202 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v39 v69 v178 v181 v185 v188 v191 v195 v205 v215 v266 v267) := by
  unfold k0_part202
  refine kl fun _ => ?_
  refine ks fun _ => ?_
  refine kl fun _ => ?_
  refine kl fun _ => ?_
  refine kl fun _ => ?_
  refine ks fun _ => ?_
  refine kl fun _ => ?_
  exact keeps_ret _

theorem p206 {R : sProp 𝕄} [CanStore c R arg23] [CanLoad c R arg7] (v410) (v419) : Keeps (defs₀ (F := F)) c R (k0_part206 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v410 v419) := by
  unfold k0_part206
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine ks fun _ => ?_
  refine kl fun _ => ?_
  refine kl fun _ => ?_
  exact keeps_ret _

end Cert.KernelIdeal.Keep

end
-- ==== Proof.PartsKernelIdeal.Top.lean ====
/- The parts with the switches and the loops, and the whole body. -/
module

public import proofs.«01_k».proof.Proof.PartsKernelIdeal.P1
public import proofs.«01_k».proof.Proof.PartsKernelIdeal.P2
public import proofs.«01_k».proof.Proof.PartsKernelIdeal.P3
public import proofs.«01_k».proof.Proof.PartsKernelIdeal.P4

@[expose] public section

set_option synthInstance.maxSize 4096

noncomputable section

namespace Cert.KernelIdeal.Keep

open Idealize.ShloMosaic Idealize.ShloMosaic.TcCoe Idealize.ShloMosaic.Tactic
open Idealize.SL Idealize.SL.RA Idealize.SL.BI Idealize.SL.Sem
open Cert.Keep

variable {F : FTy → Type} [FloatOps F] [Named F] [Facts]

local notation "𝕄" => MT nD τ sig Unit (Elt F) ℕ (UR sig nD τ) ℕ

variable {c : Dev nD} {i : grid0.Coords} {arg2 : Memref sig .tc .smem S8 .f32} {harg2 : arg2.IsWhole} {arg3 : Memref sig .tc .vmem S1x1x1536x128 .bf16} {harg3 : arg3.IsWhole} {arg4 : Memref sig .tc .vmem S1x2048x384 .bf16} {harg4 : arg4.IsWhole} {arg5 : Memref sig .tc .vmem S1x16x256x128 .bf16} {harg5 : arg5.IsWhole} {arg6 : Memref sig .tc .vmem S1x1x8x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S1x16x1024 .f32} {harg9 : arg9.IsWhole} {arg10 : Memref sig .tc .vmem S1x16x2816 .f32} {harg10 : arg10.IsWhole} {arg11 : Memref sig .tc .vmem S1x16x2816 .f32} {harg11 : arg11.IsWhole} {arg12 : Memref sig .tc .vmem S1x32x1024 .f32} {harg12 : arg12.IsWhole} {arg13 : Memref sig .tc .vmem S1x1024x128 .bf16} {harg13 : arg13.IsWhole} {arg14 : Memref sig .tc .vmem S16x1024 .bf16} {harg14 : arg14.IsWhole} {arg15 : Memref sig .tc .vmem S16x2816 .bf16} {harg15 : arg15.IsWhole} {arg16 : Memref sig .tc .vmem S16x2816 .bf16} {harg16 : arg16.IsWhole} {arg17 : Memref sig .tc .vmem S32x1024 .bf16} {harg17 : arg17.IsWhole} {arg18 : Memref sig .tc .vmem S2048x128 .f32} {harg18 : arg18.IsWhole} {arg19 : Memref sig .tc .vmem S1x128 .f32} {harg19 : arg19.IsWhole} {arg20 : Memref sig .tc .vmem S1x128 .i32} {harg20 : arg20.IsWhole} {arg21 : Memref sig .tc .vmem S1x1024 .f32} {harg21 : arg21.IsWhole} {arg22 : Memref sig .tc .vmem S72x1024 .f32} {harg22 : arg22.IsWhole} {arg23 : Memref sig .tc .vmem S1024x128 .f32} {harg23 : arg23.IsWhole} {arg24 : Memref sig .tc .vmem S256x1024 .f32} {harg24 : arg24.IsWhole} {arg25 : Memref sig .tc .vmem S2048x1024 .bf16} {harg25 : arg25.IsWhole} {arg26 : Memref sig .tc .vmem S256x1024 .bf16} {harg26 : arg26.IsWhole} {arg27 : Memref sig .tc .vmem S2048x1024 .f32} {harg27 : arg27.IsWhole}

set_option maxHeartbeats 0 in
theorem p109 {R : sProp 𝕄} [CanStore c R arg19] [CanLoad c R arg18] (v34) (v338_0) : Keeps (defs₀ (F := F)) c R (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v34 v338_0) := by
  unfold k0_part109
  refine keeps_bind (keeps_for fun _ _ => ?_) fun _ => ?_
  · refine kl fun _ => ?_
    exact keeps_ret _
  refine keeps_bind (keeps_for fun _ _ => ?_) fun _ => ?_
  · refine kl fun _ => ?_
    exact keeps_ret _
  refine keeps_bind (keeps_for fun _ _ => ?_) fun _ => ?_
  · refine kl fun _ => ?_
    exact keeps_ret _
  refine keeps_bind (keeps_for fun _ _ => ?_) fun _ => ?_
  · refine kl fun _ => ?_
    exact keeps_ret _
  refine keeps_bind (keeps_for fun _ _ => ?_) fun _ => ?_
  · refine keeps_bind (keeps_for fun _ _ => ?_) fun _ => ?_
    · refine kl fun _ => ?_
      exact keeps_ret _
    refine keeps_bind (keeps_for fun _ _ => ?_) fun _ => ?_
    · refine kl fun _ => ?_
      exact keeps_ret _
    refine keeps_bind (keeps_for fun _ _ => ?_) fun _ => ?_
    · refine kl fun _ => ?_
      exact keeps_ret _
    refine keeps_bind (keeps_for fun _ _ => ?_) fun _ => ?_
    · refine kl fun _ => ?_
      exact keeps_ret _
    exact keeps_ret _
  refine kl fun _ => ?_
  refine ks fun _ => ?_
  exact keeps_ret _

set_option maxHeartbeats 0 in
theorem p203 {R : sProp 𝕄} [CanStore c R arg18] [CanStore c R arg19] [CanStore c R arg23] [CanLoad c R arg4] [CanLoad c R arg6] [CanLoad c R arg20] [CanLoad c R arg24] [CanLoad c R arg26] (arg1) (v34) (v37) (v38) (v198) (v201) (v208) (v211) (v285) (v306) : Keeps (defs₀ (F := F)) c R (k0_part203 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v34 v37 v38 v198 v201 v208 v211 v285 v306) := by
  unfold k0_part203
  refine ks fun _ => ?_
  refine kl fun _ => ?_
  refine ks fun _ => ?_
  refine kl fun _ => ?_
  refine ks fun _ => ?_
  extract_lets -underBinder -merge +onlyGivenNames _ _ _ _ _ _ _ _ j1
  have hj1 : ∀ r, Keeps (defs₀ (F := F)) c R (j1 r) := by
    intro r
    refine kl fun _ => ?_
    refine ks fun _ => ?_
    refine kl fun _ => ?_
    exact keeps_ret _
  clear_value j1
  refine keeps_dite (fun _ => ?_) (fun _ => ?_)
  · extract_lets -underBinder -merge +onlyGivenNames _ _ _ _ j2
    have hj2 : ∀ r, Keeps (defs₀ (F := F)) c R (j2 r) := by
      intro r
      exact keeps_bind (keeps_ret _) fun _ => hj1 _
    clear_value j2
    refine keeps_dite (fun _ => ?_) (fun _ => ?_)
    · extract_lets -underBinder -merge +onlyGivenNames _ _ _ _ j3
      have hj3 : ∀ r, Keeps (defs₀ (F := F)) c R (j3 r) := by
        intro r
        exact keeps_bind (keeps_ret _) fun _ => hj2 _
      clear_value j3
      refine keeps_dite (fun _ => ?_) (fun _ => ?_)
      · extract_lets -underBinder -merge +onlyGivenNames _ _ _ _ j4
        have hj4 : ∀ r, Keeps (defs₀ (F := F)) c R (j4 r) := by
          intro r
          exact keeps_bind (keeps_ret _) fun _ => hj3 _
        clear_value j4
        refine keeps_dite (fun _ => ?_) (fun _ => ?_)
        · extract_lets -underBinder -merge +onlyGivenNames _ _ _ _ j5
          have hj5 : ∀ r, Keeps (defs₀ (F := F)) c R (j5 r) := by
            intro r
            exact keeps_bind (keeps_ret _) fun _ => hj4 _
          clear_value j5
          refine keeps_dite (fun _ => ?_) (fun _ => ?_)
          · extract_lets -underBinder -merge +onlyGivenNames _ _ _ _ j6
            have hj6 : ∀ r, Keeps (defs₀ (F := F)) c R (j6 r) := by
              intro r
              exact keeps_bind (keeps_ret _) fun _ => hj5 _
            clear_value j6
            refine keeps_dite (fun _ => ?_) (fun _ => ?_)
            · extract_lets -underBinder -merge +onlyGivenNames _ _ _ _ j7
              have hj7 : ∀ r, Keeps (defs₀ (F := F)) c R (j7 r) := by
                intro r
                exact keeps_bind (keeps_ret _) fun _ => hj6 _
              clear_value j7
              refine keeps_dite (fun _ => ?_) (fun _ => ?_)
              · refine keeps_bind (p25 _ _) fun _ => ?_
                refine keeps_bind (keeps_for fun _ _ => ?_) fun _ => ?_
                · refine keeps_bind (p1 _ _ _ _ _) fun _ => ?_
                  refine keeps_bind (p2 _ _ _ _ _) fun _ => ?_
                  exact keeps_ret _
                exact keeps_bind (keeps_ret _) fun _ => hj7 _
              · refine keeps_bind (p27) fun _ => ?_
                refine keeps_bind (p28 _) fun _ => ?_
                refine keeps_bind (p29 _ _ _ _) fun _ => ?_
                refine keeps_bind (p30 _ _ _) fun _ => ?_
                refine keeps_bind (p31 _ _ _ _) fun _ => ?_
                refine keeps_bind (p32 _ _ _) fun _ => ?_
                refine keeps_bind (p33 _ _ _) fun _ => ?_
                refine keeps_bind (p34 _ _ _ _ _ _) fun _ => ?_
                refine keeps_bind (p35 _ _) fun _ => ?_
                refine keeps_bind (p36 _ _ _ _ _) fun _ => ?_
                refine keeps_bind (p37 _ _ _) fun _ => ?_
                refine keeps_bind (p38 _ _ _) fun _ => ?_
                refine keeps_bind (p39 _ _ _) fun _ => ?_
                refine keeps_bind (p40 _ _ _) fun _ => ?_
                refine keeps_bind (p41 _ _) fun _ => ?_
                refine keeps_bind (p42 _ _ _ _) fun _ => ?_
                refine keeps_bind (p43 _ _ _) fun _ => ?_
                refine keeps_bind (p44 _ _ _ _ _ _) fun _ => ?_
                refine keeps_bind (p45 _) fun _ => ?_
                refine keeps_bind (p46 _ _ _ _ _ _ _ _ _) fun _ => ?_
                exact keeps_bind (keeps_ret _) fun _ => hj7 _
            · refine keeps_bind (p48) fun _ => ?_
              refine keeps_bind (p49 _) fun _ => ?_
              refine keeps_bind (p50 _ _ _ _) fun _ => ?_
              refine keeps_bind (p51 _ _ _) fun _ => ?_
              refine keeps_bind (p52 _ _ _ _) fun _ => ?_
              refine keeps_bind (p53 _ _ _) fun _ => ?_
              refine keeps_bind (p54 _ _ _) fun _ => ?_
              refine keeps_bind (p55 _ _ _ _ _ _) fun _ => ?_
              refine keeps_bind (p56 _ _) fun _ => ?_
              refine keeps_bind (p57 _ _ _ _ _) fun _ => ?_
              refine keeps_bind (p58 _ _ _) fun _ => ?_
              refine keeps_bind (p59 _ _ _) fun _ => ?_
              refine keeps_bind (p60 _ _ _) fun _ => ?_
              refine keeps_bind (p61 _ _ _) fun _ => ?_
              refine keeps_bind (p62 _ _) fun _ => ?_
              refine keeps_bind (p63 _ _ _ _) fun _ => ?_
              refine keeps_bind (p64 _ _) fun _ => ?_
              refine keeps_bind (keeps_for fun _ _ => ?_) fun _ => ?_
              · refine keeps_bind (p47 _ _ _ _ _) fun _ => ?_
                refine kl fun _ => ?_
                refine kl fun _ => ?_
                refine kl fun _ => ?_
                exact keeps_ret _
              exact keeps_bind (keeps_ret _) fun _ => hj6 _
          · refine keeps_bind (p66) fun _ => ?_
            refine keeps_bind (p67 _) fun _ => ?_
            refine keeps_bind (p68 _ _ _ _) fun _ => ?_
            refine keeps_bind (p69 _ _ _) fun _ => ?_
            refine keeps_bind (p70 _ _ _ _) fun _ => ?_
            refine keeps_bind (p71 _ _ _) fun _ => ?_
            refine keeps_bind (p72 _ _ _) fun _ => ?_
            refine keeps_bind (p73 _ _ _ _ _ _) fun _ => ?_
            refine keeps_bind (p74 _ _) fun _ => ?_
            refine keeps_bind (p75 _ _ _ _ _) fun _ => ?_
            refine keeps_bind (p76 _ _ _) fun _ => ?_
            refine keeps_bind (p77 _ _ _) fun _ => ?_
            refine keeps_bind (p78 _ _ _) fun _ => ?_
            refine keeps_bind (p79 _) fun _ => ?_
            refine keeps_bind (keeps_for fun _ _ => ?_) fun _ => ?_
            · refine keeps_bind (p65 _ _ _ _ _) fun _ => ?_
              refine kl fun _ => ?_
              refine kl fun _ => ?_
              exact keeps_ret _
            exact keeps_bind (keeps_ret _) fun _ => hj5 _
        · refine keeps_bind (p81) fun _ => ?_
          refine keeps_bind (p82 _) fun _ => ?_
          refine keeps_bind (p83 _ _ _ _) fun _ => ?_
          refine keeps_bind (p84 _ _ _) fun _ => ?_
          refine keeps_bind (p85 _ _ _ _) fun _ => ?_
          refine keeps_bind (p86 _ _ _) fun _ => ?_
          refine keeps_bind (p87 _ _ _) fun _ => ?_
          refine keeps_bind (p88 _ _ _ _ _ _) fun _ => ?_
          refine keeps_bind (p89 _ _) fun _ => ?_
          refine keeps_bind (p90 _ _ _ _ _) fun _ => ?_
          refine keeps_bind (p91 _ _ _) fun _ => ?_
          refine keeps_bind (keeps_for fun _ _ => ?_) fun _ => ?_
          · refine keeps_bind (p80 _ _ _ _ _) fun _ => ?_
            refine kl fun _ => ?_
            exact keeps_ret _
          exact keeps_bind (keeps_ret _) fun _ => hj4 _
      · refine keeps_bind (p93) fun _ => ?_
        refine keeps_bind (p94 _) fun _ => ?_
        refine keeps_bind (p95 _ _ _ _) fun _ => ?_
        refine keeps_bind (p96 _ _ _) fun _ => ?_
        refine keeps_bind (p97 _ _ _ _) fun _ => ?_
        refine keeps_bind (p98 _ _ _) fun _ => ?_
        refine keeps_bind (p99 _ _ _) fun _ => ?_
        refine keeps_bind (p100 _ _ _ _ _ _) fun _ => ?_
        refine keeps_bind (keeps_for fun _ _ => ?_) fun _ => ?_
        · refine keeps_bind (p92 _ _ _ _ _) fun _ => ?_
          exact keeps_ret _
        exact keeps_bind (keeps_ret _) fun _ => hj3 _
    · refine keeps_bind (p102) fun _ => ?_
      refine keeps_bind (p103 _) fun _ => ?_
      refine keeps_bind (p104 _ _ _ _) fun _ => ?_
      refine keeps_bind (p105 _ _ _) fun _ => ?_
      refine keeps_bind (p106 _ _ _ _) fun _ => ?_
      refine kl fun _ => ?_
      refine keeps_bind (keeps_for fun _ _ => ?_) fun _ => ?_
      · refine keeps_bind (p101 _ _ _ _ _) fun _ => ?_
        exact keeps_ret _
      exact keeps_bind (keeps_ret _) fun _ => hj2 _
  · refine keeps_bind (p107) fun _ => ?_
    refine keeps_bind (p108 _) fun _ => ?_
    refine kl fun _ => ?_
    refine ks fun _ => ?_
    exact keeps_bind (keeps_ret _) fun _ => hj1 _

set_option maxHeartbeats 0 in
theorem p204 {R : sProp 𝕄} [CanStore c R arg19] [CanStore c R arg20] [CanStore c R arg26] [CanLoad c R arg3] [CanLoad c R arg18] (v34) (v38) (v338_0) (v338_1) (v347) : Keeps (defs₀ (F := F)) c R (k0_part204 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v34 v38 v338_0 v338_1 v347) := by
  unfold k0_part204
  refine ks fun _ => ?_
  refine kl fun _ => ?_
  refine kl fun _ => ?_
  refine ks fun _ => ?_
  extract_lets -underBinder -merge +onlyGivenNames _ _ _ j8
  have hj8 : ∀ r, Keeps (defs₀ (F := F)) c R (j8 r) := by
    intro r
    exact keeps_ret _
  clear_value j8
  refine keeps_ite ?_ ?_
  · refine keeps_bind (p109 _ _) fun _ => ?_
    refine keeps_bind (keeps_for fun _ _ => ?_) fun _ => ?_
    · refine kl fun _ => ?_
      exact keeps_ret _
    refine keeps_bind (keeps_for fun _ _ => ?_) fun _ => ?_
    · refine kl fun _ => ?_
      exact keeps_ret _
    refine kl fun _ => ?_
    refine ks fun _ => ?_
    exact hj8 _
  · exact hj8 _

set_option maxHeartbeats 0 in
theorem p205 {R : sProp 𝕄} [CanStore c R arg21] [CanStore c R arg22] [CanStore c R arg23] [CanStore c R arg25] [CanStore c R arg27] [CanLoad c R arg4] [CanLoad c R arg5] [CanLoad c R arg18] [CanLoad c R arg19] [CanLoad c R arg20] [CanLoad c R arg26] (v34) (v38) : Keeps (defs₀ (F := F)) c R (k0_part205 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v34 v38) := by
  unfold k0_part205
  refine kl fun _ => ?_
  refine kl fun _ => ?_
  extract_lets -underBinder -merge +onlyGivenNames _ _ _ _ _ _ _ _ j9
  have hj9 : ∀ r, Keeps (defs₀ (F := F)) c R (j9 r) := by
    intro r
    refine keeps_bind (keeps_for fun _ _ => ?_) fun _ => ?_
    · refine kl fun _ => ?_
      refine kl fun _ => ?_
      refine kl fun _ => ?_
      refine ks fun _ => ?_
      exact keeps_ret _
    refine keeps_bind (keeps_for fun _ _ => ?_) fun _ => ?_
    · refine kl fun _ => ?_
      refine kl fun _ => ?_
      refine kl fun _ => ?_
      refine ks fun _ => ?_
      exact keeps_ret _
    extract_lets -underBinder -merge +onlyGivenNames _ _ _ _ _ _ _ _ j10
    have hj10 : ∀ r, Keeps (defs₀ (F := F)) c R (j10 r) := by
      intro r
      refine kl fun _ => ?_
      refine kl fun _ => ?_
      refine kl fun _ => ?_
      refine ks fun _ => ?_
      refine kl fun _ => ?_
      refine ks fun _ => ?_
      exact keeps_ret _
    clear_value j10
    refine keeps_dite (fun _ => ?_) (fun _ => ?_)
    · extract_lets -underBinder -merge +onlyGivenNames _ _ _ _ j11
      have hj11 : ∀ r, Keeps (defs₀ (F := F)) c R (j11 r) := by
        intro r
        exact hj10 _
      clear_value j11
      refine keeps_dite (fun _ => ?_) (fun _ => ?_)
      · extract_lets -underBinder -merge +onlyGivenNames _ _ _ _ j12
        have hj12 : ∀ r, Keeps (defs₀ (F := F)) c R (j12 r) := by
          intro r
          exact hj11 _
        clear_value j12
        refine keeps_dite (fun _ => ?_) (fun _ => ?_)
        · extract_lets -underBinder -merge +onlyGivenNames _ _ _ _ j13
          have hj13 : ∀ r, Keeps (defs₀ (F := F)) c R (j13 r) := by
            intro r
            exact hj12 _
          clear_value j13
          refine keeps_dite (fun _ => ?_) (fun _ => ?_)
          · extract_lets -underBinder -merge +onlyGivenNames _ _ _ _ j14
            have hj14 : ∀ r, Keeps (defs₀ (F := F)) c R (j14 r) := by
              intro r
              exact hj13 _
            clear_value j14
            refine keeps_dite (fun _ => ?_) (fun _ => ?_)
            · extract_lets -underBinder -merge +onlyGivenNames _ _ _ _ j15
              have hj15 : ∀ r, Keeps (defs₀ (F := F)) c R (j15 r) := by
                intro r
                exact hj14 _
              clear_value j15
              refine keeps_dite (fun _ => ?_) (fun _ => ?_)
              · extract_lets -underBinder -merge +onlyGivenNames _ _ _ _ j16
                have hj16 : ∀ r, Keeps (defs₀ (F := F)) c R (j16 r) := by
                  intro r
                  exact hj15 _
                clear_value j16
                refine keeps_dite (fun _ => ?_) (fun _ => ?_)
                · refine keeps_bind (p181) fun _ => ?_
                  refine keeps_bind (p182 _ _ _ _ _ _ _ _ _ _) fun _ => ?_
                  refine keeps_bind (p183) fun _ => ?_
                  refine kl fun _ => ?_
                  refine kl fun _ => ?_
                  refine kl fun _ => ?_
                  refine kl fun _ => ?_
                  refine kl fun _ => ?_
                  refine kl fun _ => ?_
                  refine kl fun _ => ?_
                  refine ks fun _ => ?_
                  exact hj16 _
                · refine keeps_bind (p184) fun _ => ?_
                  refine keeps_bind (p185 _ _ _ _ _ _ _ _ _ _) fun _ => ?_
                  refine keeps_bind (p186) fun _ => ?_
                  refine kl fun _ => ?_
                  refine kl fun _ => ?_
                  refine kl fun _ => ?_
                  refine ks fun _ => ?_
                  exact hj16 _
              · refine keeps_bind (p187) fun _ => ?_
                refine keeps_bind (p188 _ _ _ _ _ _ _ _ _ _) fun _ => ?_
                refine kl fun _ => ?_
                refine kl fun _ => ?_
                refine kl fun _ => ?_
                refine kl fun _ => ?_
                refine kl fun _ => ?_
                refine kl fun _ => ?_
                refine kl fun _ => ?_
                refine kl fun _ => ?_
                refine kl fun _ => ?_
                refine ks fun _ => ?_
                exact hj15 _
            · refine keeps_bind (p189) fun _ => ?_
              refine keeps_bind (p190 _ _ _ _ _ _ _ _ _ _) fun _ => ?_
              refine kl fun _ => ?_
              refine kl fun _ => ?_
              refine kl fun _ => ?_
              refine kl fun _ => ?_
              refine kl fun _ => ?_
              refine ks fun _ => ?_
              exact hj14 _
          · refine keeps_bind (p191) fun _ => ?_
            refine keeps_bind (p192 _ _) fun _ => ?_
            refine kl fun _ => ?_
            refine ks fun _ => ?_
            exact hj13 _
        · refine keeps_bind (p193) fun _ => ?_
          refine kl fun _ => ?_
          refine kl fun _ => ?_
          refine kl fun _ => ?_
          refine kl fun _ => ?_
          refine kl fun _ => ?_
          refine kl fun _ => ?_
          refine kl fun _ => ?_
          refine ks fun _ => ?_
          exact hj12 _
      · refine keeps_bind (p194) fun _ => ?_
        refine kl fun _ => ?_
        refine kl fun _ => ?_
        refine kl fun _ => ?_
        refine ks fun _ => ?_
        exact hj11 _
    · refine kl fun _ => ?_
      refine kl fun _ => ?_
      refine kl fun _ => ?_
      refine kl fun _ => ?_
      refine ks fun _ => ?_
      refine kl fun _ => ?_
      refine kl fun _ => ?_
      refine kl fun _ => ?_
      refine kl fun _ => ?_
      refine ks fun _ => ?_
      exact hj10 _
  clear_value j9
  refine keeps_dite (fun _ => ?_) (fun _ => ?_)
  · extract_lets -underBinder -merge +onlyGivenNames _ _ _ _ j17
    have hj17 : ∀ r, Keeps (defs₀ (F := F)) c R (j17 r) := by
      intro r
      exact hj9 _
    clear_value j17
    refine keeps_dite (fun _ => ?_) (fun _ => ?_)
    · extract_lets -underBinder -merge +onlyGivenNames _ _ _ _ j18
      have hj18 : ∀ r, Keeps (defs₀ (F := F)) c R (j18 r) := by
        intro r
        exact hj17 _
      clear_value j18
      refine keeps_dite (fun _ => ?_) (fun _ => ?_)
      · extract_lets -underBinder -merge +onlyGivenNames _ _ _ _ j19
        have hj19 : ∀ r, Keeps (defs₀ (F := F)) c R (j19 r) := by
          intro r
          exact hj18 _
        clear_value j19
        refine keeps_dite (fun _ => ?_) (fun _ => ?_)
        · extract_lets -underBinder -merge +onlyGivenNames _ _ _ _ j20
          have hj20 : ∀ r, Keeps (defs₀ (F := F)) c R (j20 r) := by
            intro r
            exact hj19 _
          clear_value j20
          refine keeps_dite (fun _ => ?_) (fun _ => ?_)
          · extract_lets -underBinder -merge +onlyGivenNames _ _ _ _ j21
            have hj21 : ∀ r, Keeps (defs₀ (F := F)) c R (j21 r) := by
              intro r
              exact hj20 _
            clear_value j21
            refine keeps_dite (fun _ => ?_) (fun _ => ?_)
            · extract_lets -underBinder -merge +onlyGivenNames _ _ _ _ j22
              have hj22 : ∀ r, Keeps (defs₀ (F := F)) c R (j22 r) := by
                intro r
                exact hj21 _
              clear_value j22
              refine keeps_dite (fun _ => ?_) (fun _ => ?_)
              · refine keeps_bind (p110 _ _ _) fun _ => ?_
                refine keeps_bind (p111 _ _ _ _ _ _ _) fun _ => ?_
                refine keeps_bind (p112 _ _ _ _ _ _ _ _ _) fun _ => ?_
                refine keeps_bind (p113 _ _ _ _ _ _ _ _) fun _ => ?_
                refine keeps_bind (p114 _ _ _ _ _ _ _ _) fun _ => ?_
                refine keeps_bind (p115 _ _ _ _ _ _ _ _ _ _) fun _ => ?_
                refine keeps_bind (p116 _ _ _ _ _) fun _ => ?_
                refine keeps_bind (p117 _ _ _ _ _ _ _ _ _) fun _ => ?_
                refine keeps_bind (p118 _ _ _ _ _ _ _) fun _ => ?_
                refine keeps_bind (p119 _ _ _ _ _ _ _ _) fun _ => ?_
                refine keeps_bind (p120 _ _ _ _ _ _ _ _ _) fun _ => ?_
                refine keeps_bind (p121 _ _ _ _ _ _ _) fun _ => ?_
                refine keeps_bind (p122 _ _ _ _ _ _ _) fun _ => ?_
                refine keeps_bind (p123 _ _ _ _ _ _ _ _ _) fun _ => ?_
                refine keeps_bind (p124 _ _ _ _ _ _ _ _) fun _ => ?_
                refine ks fun _ => ?_
                refine kl fun _ => ?_
                refine ks fun _ => ?_
                refine kl fun _ => ?_
                refine ks fun _ => ?_
                refine kl fun _ => ?_
                refine ks fun _ => ?_
                refine kl fun _ => ?_
                refine ks fun _ => ?_
                refine kl fun _ => ?_
                refine ks fun _ => ?_
                refine kl fun _ => ?_
                refine ks fun _ => ?_
                refine kl fun _ => ?_
                refine ks fun _ => ?_
                exact hj22 _
              · refine keeps_bind (p138 _ _ _) fun _ => ?_
                refine ks fun _ => ?_
                refine kl fun _ => ?_
                refine ks fun _ => ?_
                exact hj22 _
            · refine keeps_bind (p139 _ _ _) fun _ => ?_
              refine keeps_bind (p140 _ _ _ _ _ _ _) fun _ => ?_
              refine keeps_bind (p141 _ _ _ _ _ _ _ _ _) fun _ => ?_
              refine keeps_bind (p142 _ _ _ _ _ _ _ _) fun _ => ?_
              refine keeps_bind (p143 _ _ _ _ _ _ _ _) fun _ => ?_
              refine keeps_bind (p144 _ _ _ _ _ _ _ _ _ _) fun _ => ?_
              refine keeps_bind (p145 _ _ _ _ _) fun _ => ?_
              refine keeps_bind (p146 _ _ _ _ _ _ _ _ _) fun _ => ?_
              refine keeps_bind (p147 _ _ _ _ _ _ _) fun _ => ?_
              refine keeps_bind (p148 _ _ _ _ _ _ _ _) fun _ => ?_
              refine keeps_bind (p149 _ _ _ _ _ _ _ _ _) fun _ => ?_
              refine keeps_bind (p150 _ _ _ _ _ _ _ _ _) fun _ => ?_
              refine kl fun _ => ?_
              refine ks fun _ => ?_
              exact hj21 _
          · refine keeps_bind (p151 _ _ _) fun _ => ?_
            refine keeps_bind (p152 _ _ _ _ _ _ _) fun _ => ?_
            refine keeps_bind (p153 _ _ _ _ _ _ _ _ _) fun _ => ?_
            refine keeps_bind (p154 _ _ _ _ _ _ _ _) fun _ => ?_
            refine keeps_bind (p155 _ _ _ _ _ _ _ _) fun _ => ?_
            refine keeps_bind (p156 _ _ _ _ _ _ _ _ _ _) fun _ => ?_
            refine keeps_bind (p157 _ _ _ _ _) fun _ => ?_
            refine keeps_bind (p158 _ _ _ _ _ _ _ _ _) fun _ => ?_
            refine keeps_bind (p159 _ _ _ _ _ _ _) fun _ => ?_
            refine keeps_bind (p160 _ _ _ _ _ _ _ _ _ _) fun _ => ?_
            refine ks fun _ => ?_
            refine kl fun _ => ?_
            refine ks fun _ => ?_
            refine kl fun _ => ?_
            refine ks fun _ => ?_
            exact hj20 _
        · refine keeps_bind (p161 _ _ _) fun _ => ?_
          refine keeps_bind (p162 _ _ _ _ _ _ _) fun _ => ?_
          refine keeps_bind (p163 _ _ _ _ _ _ _ _ _) fun _ => ?_
          refine keeps_bind (p164 _ _ _ _ _ _ _ _) fun _ => ?_
          refine keeps_bind (p165 _ _ _ _ _ _ _ _) fun _ => ?_
          refine keeps_bind (p166 _ _ _ _ _ _ _ _ _ _) fun _ => ?_
          refine keeps_bind (p167 _ _ _ _ _) fun _ => ?_
          refine keeps_bind (p168 _ _ _ _ _ _ _ _ _ _) fun _ => ?_
          refine kl fun _ => ?_
          refine ks fun _ => ?_
          refine kl fun _ => ?_
          refine ks fun _ => ?_
          refine kl fun _ => ?_
          refine ks fun _ => ?_
          refine kl fun _ => ?_
          refine ks fun _ => ?_
          exact hj19 _
      · refine keeps_bind (p169 _ _ _) fun _ => ?_
        refine keeps_bind (p170 _ _ _ _ _ _ _) fun _ => ?_
        refine keeps_bind (p171 _ _ _ _ _ _ _ _ _) fun _ => ?_
        refine keeps_bind (p172 _ _ _ _ _ _ _ _) fun _ => ?_
        refine keeps_bind (p173 _ _ _ _ _ _ _ _) fun _ => ?_
        refine keeps_bind (p174 _ _ _ _ _ _ _ _ _) fun _ => ?_
        refine kl fun _ => ?_
        refine ks fun _ => ?_
        refine kl fun _ => ?_
        refine ks fun _ => ?_
        refine kl fun _ => ?_
        refine ks fun _ => ?_
        refine kl fun _ => ?_
        refine ks fun _ => ?_
        refine kl fun _ => ?_
        refine ks fun _ => ?_
        refine kl fun _ => ?_
        refine ks fun _ => ?_
        exact hj18 _
    · refine keeps_bind (p175 _ _ _) fun _ => ?_
      refine keeps_bind (p176 _ _ _ _ _ _ _) fun _ => ?_
      refine keeps_bind (p177 _ _ _ _ _ _ _ _ _) fun _ => ?_
      refine keeps_bind (p178 _ _ _ _ _ _ _ _) fun _ => ?_
      refine ks fun _ => ?_
      refine kl fun _ => ?_
      refine ks fun _ => ?_
      refine kl fun _ => ?_
      refine ks fun _ => ?_
      refine kl fun _ => ?_
      refine ks fun _ => ?_
      refine kl fun _ => ?_
      refine ks fun _ => ?_
      refine kl fun _ => ?_
      refine ks fun _ => ?_
      refine kl fun _ => ?_
      refine ks fun _ => ?_
      refine kl fun _ => ?_
      refine ks fun _ => ?_
      exact hj17 _
  · refine keeps_bind (p179 _ _ _) fun _ => ?_
    refine keeps_bind (p180 _ _ _ _ _ _ _) fun _ => ?_
    refine kl fun _ => ?_
    refine ks fun _ => ?_
    refine kl fun _ => ?_
    refine ks fun _ => ?_
    refine kl fun _ => ?_
    refine ks fun _ => ?_
    refine kl fun _ => ?_
    refine ks fun _ => ?_
    refine kl fun _ => ?_
    refine ks fun _ => ?_
    refine kl fun _ => ?_
    refine ks fun _ => ?_
    refine kl fun _ => ?_
    refine ks fun _ => ?_
    refine kl fun _ => ?_
    refine ks fun _ => ?_
    exact hj9 _

theorem body {R : sProp 𝕄} [CanStore c R arg13] [CanStore c R arg14] [CanStore c R arg15] [CanStore c R arg16] [CanStore c R arg17] [CanStore c R arg18] [CanStore c R arg19] [CanStore c R arg20] [CanStore c R arg21] [CanStore c R arg22] [CanStore c R arg23] [CanStore c R arg24] [CanStore c R arg25] [CanStore c R arg26] [CanStore c R arg27] [CanLoad c R arg2] [CanLoad c R arg3] [CanLoad c R arg4] [CanLoad c R arg5] [CanLoad c R arg6] [CanLoad c R arg7] [CanLoad c R arg8] [CanLoad c R arg9] [CanLoad c R arg10] [CanLoad c R arg11] [CanLoad c R arg12] : Keeps (defs₀ (F := F)) c R (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  unfold cc0_attention
  refine keeps_bind (p195) fun _ => ?_
  refine keeps_bind (p196 _ _ _ _ _ _ _ _) fun _ => ?_
  refine keeps_bind (p197 _ _ _ _) fun _ => ?_
  refine keeps_bind (p198) fun _ => ?_
  refine keeps_bind (p199 _ _) fun _ => ?_
  refine keeps_bind (p200 _ _ _ _ _ _) fun _ => ?_
  refine keeps_bind (p201 _ _ _ _ _ _ _ _ _ _ _) fun _ => ?_
  refine keeps_bind (p202 _ _ _ _ _ _ _ _ _ _ _ _) fun _ => ?_
  refine keeps_bind (p203 _ _ _ _ _ _ _ _ _ _) fun _ => ?_
  refine keeps_bind (p204 _ _ _ _ _) fun _ => ?_
  refine keeps_bind (p205 _ _) fun _ => ?_
  refine keeps_bind (p206 _ _) fun _ => ?_
  refine kl fun _ => ?_
  refine ks fun _ => ?_
  refine kl fun _ => ?_
  refine kl fun _ => ?_
  refine kl fun _ => ?_
  refine ks fun _ => ?_
  exact keeps_ret _

end Cert.KernelIdeal.Keep

end
-- ==== Proof.NarrowKernelIdeal.lean ====
/- The kernel body with the four weight blocks that it narrows at the contents it leaves there. -/
module

public import proofs.«01_k».proof.Proof.PartsKernelIdeal.Top
public import Idealize.ShloMosaic.Lib.Pipeline.ValueKit

@[expose] public section

set_option synthInstance.maxSize 4096

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ₀ : Labels}

local notation "𝕄" => MT nD τ sig Unit Val ℕ (UR sig nD τ) ℕ

variable {defs₀ : Defs nD τ sig Val Λ₀} {c : Dev nD}

/-- The memref holds `X` inside `R`. -/
class ReadsAt (c : Dev nD) (R : sProp 𝕄) {sp : CoreSpace} {s : Shape} {e : EltTy} (m : Memref sig .tc sp s e)
    (X : outParam (s.Idx → Val e)) : Prop where
  out : R ⊢ iprop(owns (c : Thread nD τ) m fullShare X ∗ (owns (c : Thread nD τ) m fullShare X -∗ R))

/-- Once the memref holds `Y`, the resource `R` is `R'`. -/
class PutsAt (c : Dev nD) (R : sProp 𝕄) {sp : CoreSpace} {s : Shape} {e : EltTy} (m : Memref sig .tc sp s e)
    (Y : s.Idx → Val e) (R' : outParam (sProp 𝕄)) : Prop where
  out : R ⊢ iprop(∃ X, owns (c : Thread nD τ) m fullShare X ∗ (owns (c : Thread nD τ) m fullShare Y -∗ R'))

section Rules

/-- A write through the rectangle that is the whole shape leaves what was written. -/
theorem read_write_full {κ : Kind} {sp : Space} {s : Shape} {e : EltTy} (v : View sig κ sp s e) (f : v.ty.Contents Val) {off : Fin s.rank → ℕ}
    (h : ∀ a, off a = 0) (inb : ∀ a, off a + s.size a ≤ s.size a) (w : s.Idx → Val e) :
    v.read Val ((v.slice (Rect.unit off s.size inb)).write Val f w Finset.univ) = w :=
  (View.ld_unit_zero (funext h) inb _).symm.trans (View.read_write_univ (v := v.slice (Rect.unit off s.size inb)) f w)

/-- A load of a whole memref gives what it holds. -/
theorem reads_load {α : Type} {R : sProp 𝕄} {sp : CoreSpace} {s : Shape} {e : EltTy} {m : Memref sig .tc sp s e} {X : s.Idx → Val e}
    [hm : ReadsAt c R m X] {off : Fin s.rank → ℕ} {inb : ∀ a, off a + s.size a ≤ s.size a}
    {hl : m.view.LoadsAt (Rect.unit off s.size inb).toLoadRect}
    {k : ((Rect.unit off s.size inb).toLoadRect.shape.Idx → Val e) → Prog (TpuEff nD τ sig Val Λ₀ .tc) α} {Q : α → sProp 𝕄}
    (h : ∀ a, off a = 0) (hk : Runs defs₀ c R (k X) Q) :
    Runs defs₀ c R (Prog.lift (.load m (Rect.unit off s.size inb).toLoadRect hl) >>= k) Q := by
  refine Runs.bind (Q := fun x => iprop(⌜x = X⌝ ∗ R)) ?_ fun x => ?_
  · unfold Runs
    refine hm.out.trans ?_
    unfold owns
    iintro ⟨⟨%f, %hf, H⟩, Hk⟩
    iapply (wp_load Variants.none (c : Thread nD τ) none Set.univ (m := m) (r := (Rect.unit off s.size inb).toLoadRect) (hl := hl) (k := fun x => .ret x)
      (m.view.setOn_subset_set (Rect.unit off s.size inb).toLoadRect.set)) $$ H
    iintro H
    iapply (le_wp_ret _ _ _ _ _)
    isplitr
    · ipureintro
      exact (View.readAt_eq_ld m.view f (Rect.unit off s.size inb)).trans ((View.ld_unit_zero (funext h) inb _).trans hf)
    · iapply Hk
      iexists f
      isplitr
      · ipureintro; exact hf
      · iexact H
  · unfold Runs at *
    iintro ⟨%hx, H⟩
    rw [hx]
    iapply hk
    iexact H

/-- A load whose value is not used. -/
theorem load_any {α : Type} {R : sProp 𝕄} {sp : CoreSpace} {s : Shape} {e : EltTy} {m : Memref sig .tc sp s e} [CanLoad c R m] {r : LoadRect s}
    {hl : m.view.LoadsAt r} {k : (r.shape.Idx → Val e) → Prog (TpuEff nD τ sig Val Λ₀ .tc) α} {Q : α → sProp 𝕄} (hk : ∀ v, Runs defs₀ c R (k v) Q) :
    Runs defs₀ c R (Prog.lift (.load m r hl) >>= k) Q := Runs.bind keeps_load hk

/-- A store of a whole memref leaves what was stored. -/
theorem puts_store {α : Type} {R R' : sProp 𝕄} {sp : CoreSpace} {s : Shape} {e : EltTy} {m : Memref sig .tc sp s e} {w : s.Idx → Val e}
    [hm : PutsAt c R m w R'] {off : Fin s.rank → ℕ} {inb : ∀ a, off a + s.size a ≤ s.size a}
    {hx : (m.access (Rect.unit off s.size inb)).Stores Finset.univ} {hu : (Finset.univ : Finset (Rect.unit off s.size inb).shape.Idx) = Finset.univ ∨ ∀ a, (Rect.unit off s.size inb).stride a = 1}
    {k : PUnit → Prog (TpuEff nD τ sig Val Λ₀ .tc) α} {Q : α → sProp 𝕄}
    (h : ∀ a, off a = 0) (hk : Runs defs₀ c R' (k ⟨⟩) Q) :
    Runs defs₀ c R (Prog.lift (.store m (Rect.unit off s.size inb) w Finset.univ hx hu) >>= k) Q := by
  refine Runs.bind (Q := fun _ => R') ?_ fun _ => hk
  unfold Runs
  refine hm.out.trans ?_
  iintro ⟨%X, H, Hk⟩
  unfold owns
  icases H with ⟨%f, %hf, H⟩
  iapply (wp_store Variants.none (c : Thread nD τ) none Set.univ (m := m) (r := Rect.unit off s.size inb) (w := w) (Mk := Finset.univ) (hx := hx) (hm := hu)
    (k := fun x => .ret x) (S := m.view.set) (((m.access (Rect.unit off s.size inb)).setOn_subset_set Finset.univ).trans (m.view.set_slice_subset _))) $$ H
  iintro H
  iapply (le_wp_ret _ _ _ _ _)
  iapply Hk
  iexists ((m.access (Rect.unit off s.size inb)).write Val f w Finset.univ)
  isplitr
  · ipureintro; exact read_write_full m.view f h inb w
  · iexact H

end Rules

instance {sp : CoreSpace} {s : Shape} {e : EltTy} {m : Memref sig .tc sp s e} {X : s.Idx → Val e} :
    ReadsAt c (owns (c : Thread nD τ) m fullShare X : sProp 𝕄) m X where
  out := by
    iintro H
    isplitl [H]
    · iexact H
    iintro H
    iexact H

instance {A B : sProp 𝕄} {sp : CoreSpace} {s : Shape} {e : EltTy} {m : Memref sig .tc sp s e} {X : s.Idx → Val e} [h : ReadsAt c B m X] :
    ReadsAt c (iprop(A ∗ B) : sProp 𝕄) m X where
  out := (Laws.sep_mono .rfl h.out).trans (by
    iintro ⟨HA, H, Hk⟩
    isplitl [H]
    · iexact H
    iintro H
    isplitl [HA]
    · iexact HA
    iapply Hk
    iexact H)

instance {A B : sProp 𝕄} {sp : CoreSpace} {s : Shape} {e : EltTy} {m : Memref sig .tc sp s e} {X : s.Idx → Val e} [h : ReadsAt c A m X] :
    ReadsAt c (iprop(A ∗ B) : sProp 𝕄) m X where
  out := (Laws.sep_mono h.out .rfl).trans (by
    iintro ⟨⟨H, Hk⟩, HB⟩
    isplitl [H]
    · iexact H
    iintro H
    isplitl [H Hk]
    · iapply Hk
      iexact H
    iexact HB)

instance {sp : CoreSpace} {s : Shape} {e : EltTy} {m : Memref sig .tc sp s e} {Y : s.Idx → Val e} :
    PutsAt c (Held c m : sProp 𝕄) m Y (owns (c : Thread nD τ) m fullShare Y) where
  out := by
    unfold Held
    iintro ⟨%X, H⟩
    iexists X
    isplitl [H]
    · iexact H
    iintro H
    iexact H

instance {A B B' : sProp 𝕄} {sp : CoreSpace} {s : Shape} {e : EltTy} {m : Memref sig .tc sp s e} {Y : s.Idx → Val e} [h : PutsAt c B m Y B'] :
    PutsAt c (iprop(A ∗ B) : sProp 𝕄) m Y (iprop(A ∗ B')) where
  out := (Laws.sep_mono .rfl h.out).trans (by
    iintro ⟨HA, %X, H, Hk⟩
    iexists X
    isplitl [H]
    · iexact H
    iintro H
    isplitl [HA]
    · iexact HA
    iapply Hk
    iexact H)

instance {A A' B : sProp 𝕄} {sp : CoreSpace} {s : Shape} {e : EltTy} {m : Memref sig .tc sp s e} {Y : s.Idx → Val e} [h : PutsAt c A m Y A'] :
    PutsAt c (iprop(A ∗ B) : sProp 𝕄) m Y (iprop(A' ∗ B)) where
  out := (Laws.sep_mono h.out .rfl).trans (by
    iintro ⟨⟨%X, H, Hk⟩, HB⟩
    iexists X
    isplitl [H]
    · iexact H
    iintro H
    isplitl [H Hk]
    · iapply Hk
      iexact H
    iexact HB)

end Cert.Keep

namespace Cert.KernelIdeal.Keep

open Idealize.ShloMosaic Idealize.ShloMosaic.TcCoe Idealize.ShloMosaic.Tactic
open Idealize.SL Idealize.SL.RA Idealize.SL.BI Idealize.SL.Sem
open Cert.Keep
open Cert.KernelIdeal.Facts₀ Cert.KernelIdeal.Facts

variable {F : FTy → Type} [FloatOps F] [Named F] [Facts]

local notation "𝕄" => MT nD τ sig Unit (Elt F) ℕ (UR sig nD τ) ℕ

/-- A block of the output projection's weight, narrowed. -/
def narrowOut (X : S1x16x1024.Idx → Elt F .f32) : S16x1024.Idx → Elt F .bf16 :=
  truncf .bf16 (shapeCast S16x1024 X shapeCasts_S1x16x1024_S16x1024 : FVec F S16x1024 .f32) bitsLt_bf16_f32

/-- A block of a gate or up weight, narrowed. -/
def narrowGate (X : S1x16x2816.Idx → Elt F .f32) : S16x2816.Idx → Elt F .bf16 :=
  truncf .bf16 (shapeCast S16x2816 X shapeCasts_S1x16x2816_S16x2816 : FVec F S16x2816 .f32) bitsLt_bf16_f32

/-- A block of the down weight, narrowed. -/
def narrowDown (X : S1x32x1024.Idx → Elt F .f32) : S32x1024.Idx → Elt F .bf16 :=
  truncf .bf16 (shapeCast S32x1024 X shapeCasts_S1x32x1024_S32x1024 : FVec F S32x1024 .f32) bitsLt_bf16_f32

variable {c : Dev nD} {i : grid0.Coords} {arg2 : Memref sig .tc .smem S8 .f32} {harg2 : arg2.IsWhole} {arg3 : Memref sig .tc .vmem S1x1x1536x128 .bf16} {harg3 : arg3.IsWhole} {arg4 : Memref sig .tc .vmem S1x2048x384 .bf16} {harg4 : arg4.IsWhole} {arg5 : Memref sig .tc .vmem S1x16x256x128 .bf16} {harg5 : arg5.IsWhole} {arg6 : Memref sig .tc .vmem S1x1x8x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S1x16x1024 .f32} {harg9 : arg9.IsWhole} {arg10 : Memref sig .tc .vmem S1x16x2816 .f32} {harg10 : arg10.IsWhole} {arg11 : Memref sig .tc .vmem S1x16x2816 .f32} {harg11 : arg11.IsWhole} {arg12 : Memref sig .tc .vmem S1x32x1024 .f32} {harg12 : arg12.IsWhole} {arg13 : Memref sig .tc .vmem S1x1024x128 .bf16} {harg13 : arg13.IsWhole} {arg14 : Memref sig .tc .vmem S16x1024 .bf16} {harg14 : arg14.IsWhole} {arg15 : Memref sig .tc .vmem S16x2816 .bf16} {harg15 : arg15.IsWhole} {arg16 : Memref sig .tc .vmem S16x2816 .bf16} {harg16 : arg16.IsWhole} {arg17 : Memref sig .tc .vmem S32x1024 .bf16} {harg17 : arg17.IsWhole} {arg18 : Memref sig .tc .vmem S2048x128 .f32} {harg18 : arg18.IsWhole} {arg19 : Memref sig .tc .vmem S1x128 .f32} {harg19 : arg19.IsWhole} {arg20 : Memref sig .tc .vmem S1x128 .i32} {harg20 : arg20.IsWhole} {arg21 : Memref sig .tc .vmem S1x1024 .f32} {harg21 : arg21.IsWhole} {arg22 : Memref sig .tc .vmem S72x1024 .f32} {harg22 : arg22.IsWhole} {arg23 : Memref sig .tc .vmem S1024x128 .f32} {harg23 : arg23.IsWhole} {arg24 : Memref sig .tc .vmem S256x1024 .f32} {harg24 : arg24.IsWhole} {arg25 : Memref sig .tc .vmem S2048x1024 .bf16} {harg25 : arg25.IsWhole} {arg26 : Memref sig .tc .vmem S256x1024 .bf16} {harg26 : arg26.IsWhole} {arg27 : Memref sig .tc .vmem S2048x1024 .f32} {harg27 : arg27.IsWhole}

set_option maxHeartbeats 1000000 in
/-- The first part narrows the four blocks. -/
theorem p195_narrows {R R₁ R₂ R₃ R₄ : sProp 𝕄} {X9 : S1x16x1024.Idx → Elt F .f32} {X10 : S1x16x2816.Idx → Elt F .f32} {X11 : S1x16x2816.Idx → Elt F .f32} {X12 : S1x32x1024.Idx → Elt F .f32} [ReadsAt c R arg9 X9] [CanLoad c R arg14] [PutsAt c R arg14 (narrowOut X9) R₁] [ReadsAt c R₁ arg10 X10] [CanLoad c R₁ arg15] [PutsAt c R₁ arg15 (narrowGate X10) R₂] [ReadsAt c R₂ arg11 X11] [CanLoad c R₂ arg16] [PutsAt c R₂ arg16 (narrowGate X11) R₃] [ReadsAt c R₃ arg12 X12] [CanLoad c R₃ arg17] [PutsAt c R₃ arg17 (narrowDown X12) R₄] :
    Runs (defs₀ (F := F)) c R (k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) (fun _ => R₄) := by
  unfold k0_part195
  refine reads_load (by decide) ?_
  refine load_any fun _ => ?_
  refine puts_store (hm := (inferInstance : PutsAt c R arg14 (narrowOut X9) R₁)) (by decide) ?_
  refine reads_load (by decide) ?_
  refine load_any fun _ => ?_
  refine puts_store (hm := (inferInstance : PutsAt c R₁ arg15 (narrowGate X10) R₂)) (by decide) ?_
  refine reads_load (by decide) ?_
  refine load_any fun _ => ?_
  refine puts_store (hm := (inferInstance : PutsAt c R₂ arg16 (narrowGate X11) R₃)) (by decide) ?_
  refine reads_load (by decide) ?_
  refine load_any fun _ => ?_
  refine puts_store (hm := (inferInstance : PutsAt c R₃ arg17 (narrowDown X12) R₄)) (by decide) ?_
  exact Runs.ret .rfl

/-- The body narrows the four blocks and keeps the rest. -/
theorem body_narrows {R R₁ R₂ R₃ R₄ : sProp 𝕄} {X9 : S1x16x1024.Idx → Elt F .f32} {X10 : S1x16x2816.Idx → Elt F .f32} {X11 : S1x16x2816.Idx → Elt F .f32} {X12 : S1x32x1024.Idx → Elt F .f32} [ReadsAt c R arg9 X9] [CanLoad c R arg14] [PutsAt c R arg14 (narrowOut X9) R₁] [ReadsAt c R₁ arg10 X10] [CanLoad c R₁ arg15] [PutsAt c R₁ arg15 (narrowGate X10) R₂] [ReadsAt c R₂ arg11 X11] [CanLoad c R₂ arg16] [PutsAt c R₂ arg16 (narrowGate X11) R₃] [ReadsAt c R₃ arg12 X12] [CanLoad c R₃ arg17] [PutsAt c R₃ arg17 (narrowDown X12) R₄] [CanStore c R₄ arg13] [CanStore c R₄ arg18] [CanStore c R₄ arg19] [CanStore c R₄ arg20] [CanStore c R₄ arg21] [CanStore c R₄ arg22] [CanStore c R₄ arg23] [CanStore c R₄ arg24] [CanStore c R₄ arg25] [CanStore c R₄ arg26] [CanStore c R₄ arg27] [CanLoad c R₄ arg2] [CanLoad c R₄ arg3] [CanLoad c R₄ arg4] [CanLoad c R₄ arg5] [CanLoad c R₄ arg6] [CanLoad c R₄ arg7] [CanLoad c R₄ arg8] [CanLoad c R₄ arg9] [CanLoad c R₄ arg10] [CanLoad c R₄ arg11] [CanLoad c R₄ arg12] :
    Runs (defs₀ (F := F)) c R (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) (fun _ => R₄) := by
  unfold cc0_attention
  refine Runs.bind (p195_narrows) fun _ => ?_
  refine keeps_bind (p196 _ _ _ _ _ _ _ _) fun _ => ?_
  refine keeps_bind (p197 _ _ _ _) fun _ => ?_
  refine keeps_bind (p198) fun _ => ?_
  refine keeps_bind (p199 _ _) fun _ => ?_
  refine keeps_bind (p200 _ _ _ _ _ _) fun _ => ?_
  refine keeps_bind (p201 _ _ _ _ _ _ _ _ _ _ _) fun _ => ?_
  refine keeps_bind (p202 _ _ _ _ _ _ _ _ _ _ _ _) fun _ => ?_
  refine keeps_bind (p203 _ _ _ _ _ _ _ _ _ _) fun _ => ?_
  refine keeps_bind (p204 _ _ _ _ _) fun _ => ?_
  refine keeps_bind (p205 _ _) fun _ => ?_
  refine keeps_bind (p206 _ _) fun _ => ?_
  refine kl fun _ => ?_
  refine ks fun _ => ?_
  refine kl fun _ => ?_
  refine kl fun _ => ?_
  refine kl fun _ => ?_
  refine ks fun _ => ?_
  exact keeps_ret _

end Cert.KernelIdeal.Keep

end
-- ==== Proof.FrameKernelIdeal.lean ====
/- The frame of the attention call: its body keeps the staged inputs and narrows the four weight blocks, and the run ends at rest. -/
module

public import proofs.«01_k».proof.Proof.Gen.KernelIdeal.Frame
public import proofs.«01_k».proof.Proof.NarrowKernelIdeal

@[expose] public section

set_option synthInstance.maxSize 4096

noncomputable section

namespace Cert.KernelIdeal.Keep

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.KernelIdeal.Gen
open Idealize.ShloMosaic.Pipeline (Dat BodyObligation)
open Cert.Keep

variable {F : FTy → Type} [FloatOps F] [Named F] [∀ e, Nonempty (Elt F e)]

local notation "𝕄" => MT nD τ sig Unit (Elt F) ℕ (UR sig nD τ) ℕ

set_option synthInstance.maxHeartbeats 1000000
set_option maxHeartbeats 2000000

/-! ## The body as a triple -/

section Sep

theorem body_sep [Facts] {c : Dev nD} {i : grid0.Coords} {arg2 : Memref sig .tc .smem S8 .f32} {harg2 : arg2.IsWhole} {arg3 : Memref sig .tc .vmem S1x1x1536x128 .bf16} {harg3 : arg3.IsWhole} {arg4 : Memref sig .tc .vmem S1x2048x384 .bf16} {harg4 : arg4.IsWhole} {arg5 : Memref sig .tc .vmem S1x16x256x128 .bf16} {harg5 : arg5.IsWhole} {arg6 : Memref sig .tc .vmem S1x1x8x128 .f32} {harg6 : arg6.IsWhole} {arg7 : Memref sig .tc .vmem S512x128 .f32} {harg7 : arg7.IsWhole} {arg8 : Memref sig .tc .vmem S512x128 .f32} {harg8 : arg8.IsWhole} {arg9 : Memref sig .tc .vmem S1x16x1024 .f32} {harg9 : arg9.IsWhole} {arg10 : Memref sig .tc .vmem S1x16x2816 .f32} {harg10 : arg10.IsWhole} {arg11 : Memref sig .tc .vmem S1x16x2816 .f32} {harg11 : arg11.IsWhole} {arg12 : Memref sig .tc .vmem S1x32x1024 .f32} {harg12 : arg12.IsWhole} {arg13 : Memref sig .tc .vmem S1x1024x128 .bf16} {harg13 : arg13.IsWhole} {arg14 : Memref sig .tc .vmem S16x1024 .bf16} {harg14 : arg14.IsWhole} {arg15 : Memref sig .tc .vmem S16x2816 .bf16} {harg15 : arg15.IsWhole} {arg16 : Memref sig .tc .vmem S16x2816 .bf16} {harg16 : arg16.IsWhole} {arg17 : Memref sig .tc .vmem S32x1024 .bf16} {harg17 : arg17.IsWhole} {arg18 : Memref sig .tc .vmem S2048x128 .f32} {harg18 : arg18.IsWhole} {arg19 : Memref sig .tc .vmem S1x128 .f32} {harg19 : arg19.IsWhole} {arg20 : Memref sig .tc .vmem S1x128 .i32} {harg20 : arg20.IsWhole} {arg21 : Memref sig .tc .vmem S1x1024 .f32} {harg21 : arg21.IsWhole} {arg22 : Memref sig .tc .vmem S72x1024 .f32} {harg22 : arg22.IsWhole} {arg23 : Memref sig .tc .vmem S1024x128 .f32} {harg23 : arg23.IsWhole} {arg24 : Memref sig .tc .vmem S256x1024 .f32} {harg24 : arg24.IsWhole} {arg25 : Memref sig .tc .vmem S2048x1024 .bf16} {harg25 : arg25.IsWhole} {arg26 : Memref sig .tc .vmem S256x1024 .bf16} {harg26 : arg26.IsWhole} {arg27 : Memref sig .tc .vmem S2048x1024 .f32} {harg27 : arg27.IsWhole} {P P2 : sProp 𝕄} {X2 : S8.Idx → Elt F (.f32)} {X3 : S1x1x1536x128.Idx → Elt F (.bf16)} {X4 : S1x2048x384.Idx → Elt F (.bf16)} {X5 : S1x16x256x128.Idx → Elt F (.bf16)} {X6 : S1x1x8x128.Idx → Elt F (.f32)} {X7 : S512x128.Idx → Elt F (.f32)} {X8 : S512x128.Idx → Elt F (.f32)} {X9 : S1x16x1024.Idx → Elt F (.f32)} {X10 : S1x16x2816.Idx → Elt F (.f32)} {X11 : S1x16x2816.Idx → Elt F (.f32)} {X12 : S1x32x1024.Idx → Elt F (.f32)} :
    Runs (defs₀ (F := F)) c iprop(((Held c arg18 ∗ Held c arg19 ∗ Held c arg20 ∗ Held c arg21 ∗ Held c arg22 ∗ Held c arg23 ∗ Held c arg24 ∗ Held c arg25 ∗ Held c arg26 ∗ Held c arg27) ∗ P) ∗ P2 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ Held c arg13 ∗ Held c arg14 ∗ Held c arg15 ∗ Held c arg16 ∗ Held c arg17) (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
      (fun _ => iprop(((Held c arg18 ∗ Held c arg19 ∗ Held c arg20 ∗ Held c arg21 ∗ Held c arg22 ∗ Held c arg23 ∗ Held c arg24 ∗ Held c arg25 ∗ Held c arg26 ∗ Held c arg27) ∗ P) ∗ P2 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ Held c arg13 ∗ owns (c : Thread nD τ) arg14 fullShare (narrowOut X9) ∗ owns (c : Thread nD τ) arg15 fullShare (narrowGate X10) ∗ owns (c : Thread nD τ) arg16 fullShare (narrowGate X11) ∗ owns (c : Thread nD τ) arg17 fullShare (narrowDown X12))) :=
  body_narrows

end Sep

variable (m : (ℓ : Loc nD τ sig) → Buf (Elt F) ℓ) (ρ : Dev nD → PrngReg)

/-- The body at point `t` keeps the inputs' blocks, and leaves the weights' blocks narrowed. -/
theorem body_at (c : Dev nD) (t : Fin cfg0.N) (P P2 : sProp 𝕄) :
    Runs (defs₀ (F := F)) c iprop(((Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9)) ∗ P) ∗ P2 ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ Held c (win0_11.stage (cfg0.slots t 11)) ∗ Held c (win0_12.stage (cfg0.slots t 12)) ∗ Held c (win0_13.stage (cfg0.slots t 13)) ∗ Held c (win0_14.stage (cfg0.slots t 14)) ∗ Held c (win0_15.stage (cfg0.slots t 15)))
      (cc0_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _))
      (fun _ => iprop(((Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9)) ∗ P) ∗ P2 ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ Held c (win0_11.stage (cfg0.slots t 11)) ∗ owns (c : Thread nD τ) (win0_12.stage (cfg0.slots t 12)) fullShare (narrowOut (iblk m c 7 t)) ∗ owns (c : Thread nD τ) (win0_13.stage (cfg0.slots t 13)) fullShare (narrowGate (iblk m c 8 t)) ∗ owns (c : Thread nD τ) (win0_14.stage (cfg0.slots t 14)) fullShare (narrowGate (iblk m c 9 t)) ∗ owns (c : Thread nD τ) (win0_15.stage (cfg0.slots t 15)) fullShare (narrowDown (iblk m c 10 t)))) :=
  body_sep

/-- The body table's row at the point. -/
theorem row_at (t : Fin cfg0.N) : defs₀ (F := F) .tc cfg0.body (cfg0.bodyArgs t (cfg0.slots t)) = cc0_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) := by
  unfold defs₀; rw [Defs.onTc_tc]

/-- The attention result is not named here. -/
def forgets : Fin 16 → Bool := fun w => decide (w.val = 11)

/-- The proof data: the arrays at entry, the inputs' blocks left in place, the weights' blocks narrowed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) 11 t
    | ⟨12, _⟩ => narrowOut (iblk m c 7 t)
    | ⟨13, _⟩ => narrowGate (iblk m c 8 t)
    | ⟨14, _⟩ => narrowGate (iblk m c 9 t)
    | ⟨15, _⟩ => narrowDown (iblk m c 10 t)
    | ⟨n + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem phi_eq (c : Dev nD) :
    (Pipeline.ΦA spec0 c : sProp 𝕄) = iprop((Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9)) ∗ (∃ r, prngReg c r)) := by
  unfold Pipeline.ΦA; rw [scopedRest0_eq]; simp only [Held, owns_whole]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ Held c (win0_11.stage (cfg0.slots t 11)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ Held c (win0_11.stage (cfg0.slots t 11)) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t) ∗ owns (c : Thread nD τ) (win0_15.stage (cfg0.slots t 15)) fullShare ((dats m 0 c).after 15 t))

theorem before_12 (c : Dev nD) (t : Fin cfg0.N) :
    (∃ d, owns (c : Thread nD τ) (win0_12.stage (cfg0.slots t 12)) fullShare ((dats m 0 c).before 12 t d) : sProp 𝕄) ⊢ Held c (win0_12.stage (cfg0.slots t 12)) := by
  unfold Held
  iintro ⟨%d, H⟩
  iexists ((dats m 0 c).before 12 t d)
  iexact H

theorem before_13 (c : Dev nD) (t : Fin cfg0.N) :
    (∃ d, owns (c : Thread nD τ) (win0_13.stage (cfg0.slots t 13)) fullShare ((dats m 0 c).before 13 t d) : sProp 𝕄) ⊢ Held c (win0_13.stage (cfg0.slots t 13)) := by
  unfold Held
  iintro ⟨%d, H⟩
  iexists ((dats m 0 c).before 13 t d)
  iexact H

theorem before_14 (c : Dev nD) (t : Fin cfg0.N) :
    (∃ d, owns (c : Thread nD τ) (win0_14.stage (cfg0.slots t 14)) fullShare ((dats m 0 c).before 14 t d) : sProp 𝕄) ⊢ Held c (win0_14.stage (cfg0.slots t 14)) := by
  unfold Held
  iintro ⟨%d, H⟩
  iexists ((dats m 0 c).before 14 t d)
  iexact H

theorem before_15 (c : Dev nD) (t : Fin cfg0.N) :
    (∃ d, owns (c : Thread nD τ) (win0_15.stage (cfg0.slots t 15)) fullShare ((dats m 0 c).before 15 t d) : sProp 𝕄) ⊢ Held c (win0_15.stage (cfg0.slots t 15)) := by
  unfold Held
  iintro ⟨%d, H⟩
  iexists ((dats m 0 c).before 15 t d)
  iexact H

theorem before_0 (c : Dev nD) (t : Fin cfg0.N) :
    (∃ d, owns (c : Thread nD τ) (win0_0.stage (cfg0.slots t 0)) fullShare ((dats m 0 c).before 0 t d) : sProp 𝕄) ⊢ owns (c : Thread nD τ) (win0_0.stage (cfg0.slots t 0)) fullShare (iblk m c 0 t) := by
  iintro ⟨%d, H⟩
  rw [before0_0_of m (dats m 0 c) (A_eq m c 0) (fun t => rfl) t d]
  iexact H

theorem before_1 (c : Dev nD) (t : Fin cfg0.N) :
    (∃ d, owns (c : Thread nD τ) (win0_1.stage (cfg0.slots t 1)) fullShare ((dats m 0 c).before 1 t d) : sProp 𝕄) ⊢ owns (c : Thread nD τ) (win0_1.stage (cfg0.slots t 1)) fullShare (iblk m c 1 t) := by
  iintro ⟨%d, H⟩
  rw [before0_1_of m (dats m 0 c) (A_eq m c 1) (fun t => rfl) t d]
  iexact H

theorem before_2 (c : Dev nD) (t : Fin cfg0.N) :
    (∃ d, owns (c : Thread nD τ) (win0_2.stage (cfg0.slots t 2)) fullShare ((dats m 0 c).before 2 t d) : sProp 𝕄) ⊢ owns (c : Thread nD τ) (win0_2.stage (cfg0.slots t 2)) fullShare (iblk m c 2 t) := by
  iintro ⟨%d, H⟩
  rw [before0_2_of m (dats m 0 c) (A_eq m c 2) (fun t => rfl) t d]
  iexact H

theorem before_3 (c : Dev nD) (t : Fin cfg0.N) :
    (∃ d, owns (c : Thread nD τ) (win0_3.stage (cfg0.slots t 3)) fullShare ((dats m 0 c).before 3 t d) : sProp 𝕄) ⊢ owns (c : Thread nD τ) (win0_3.stage (cfg0.slots t 3)) fullShare (iblk m c 3 t) := by
  iintro ⟨%d, H⟩
  rw [before0_3_of m (dats m 0 c) (A_eq m c 3) (fun t => rfl) t d]
  iexact H

theorem before_4 (c : Dev nD) (t : Fin cfg0.N) :
    (∃ d, owns (c : Thread nD τ) (win0_4.stage (cfg0.slots t 4)) fullShare ((dats m 0 c).before 4 t d) : sProp 𝕄) ⊢ owns (c : Thread nD τ) (win0_4.stage (cfg0.slots t 4)) fullShare (iblk m c 4 t) := by
  iintro ⟨%d, H⟩
  rw [before0_4_of m (dats m 0 c) (A_eq m c 4) (fun t => rfl) t d]
  iexact H

theorem before_5 (c : Dev nD) (t : Fin cfg0.N) :
    (∃ d, owns (c : Thread nD τ) (win0_5.stage (cfg0.slots t 5)) fullShare ((dats m 0 c).before 5 t d) : sProp 𝕄) ⊢ owns (c : Thread nD τ) (win0_5.stage (cfg0.slots t 5)) fullShare (iblk m c 5 t) := by
  iintro ⟨%d, H⟩
  rw [before0_5_of m (dats m 0 c) (A_eq m c 5) (fun t => rfl) t d]
  iexact H

theorem before_6 (c : Dev nD) (t : Fin cfg0.N) :
    (∃ d, owns (c : Thread nD τ) (win0_6.stage (cfg0.slots t 6)) fullShare ((dats m 0 c).before 6 t d) : sProp 𝕄) ⊢ owns (c : Thread nD τ) (win0_6.stage (cfg0.slots t 6)) fullShare (iblk m c 6 t) := by
  iintro ⟨%d, H⟩
  rw [before0_6_of m (dats m 0 c) (A_eq m c 6) (fun t => rfl) t d]
  iexact H

theorem before_7 (c : Dev nD) (t : Fin cfg0.N) :
    (∃ d, owns (c : Thread nD τ) (win0_7.stage (cfg0.slots t 7)) fullShare ((dats m 0 c).before 7 t d) : sProp 𝕄) ⊢ owns (c : Thread nD τ) (win0_7.stage (cfg0.slots t 7)) fullShare (iblk m c 7 t) := by
  iintro ⟨%d, H⟩
  rw [before0_7_of m (dats m 0 c) (A_eq m c 7) (fun t => rfl) t d]
  iexact H

theorem before_8 (c : Dev nD) (t : Fin cfg0.N) :
    (∃ d, owns (c : Thread nD τ) (win0_8.stage (cfg0.slots t 8)) fullShare ((dats m 0 c).before 8 t d) : sProp 𝕄) ⊢ owns (c : Thread nD τ) (win0_8.stage (cfg0.slots t 8)) fullShare (iblk m c 8 t) := by
  iintro ⟨%d, H⟩
  rw [before0_8_of m (dats m 0 c) (A_eq m c 8) (fun t => rfl) t d]
  iexact H

theorem before_9 (c : Dev nD) (t : Fin cfg0.N) :
    (∃ d, owns (c : Thread nD τ) (win0_9.stage (cfg0.slots t 9)) fullShare ((dats m 0 c).before 9 t d) : sProp 𝕄) ⊢ owns (c : Thread nD τ) (win0_9.stage (cfg0.slots t 9)) fullShare (iblk m c 9 t) := by
  iintro ⟨%d, H⟩
  rw [before0_9_of m (dats m 0 c) (A_eq m c 9) (fun t => rfl) t d]
  iexact H

theorem before_10 (c : Dev nD) (t : Fin cfg0.N) :
    (∃ d, owns (c : Thread nD τ) (win0_10.stage (cfg0.slots t 10)) fullShare ((dats m 0 c).before 10 t d) : sProp 𝕄) ⊢ owns (c : Thread nD τ) (win0_10.stage (cfg0.slots t 10)) fullShare (iblk m c 10 t) := by
  iintro ⟨%d, H⟩
  rw [before0_10_of m (dats m 0 c) (A_eq m c 10) (fun t => rfl) t d]
  iexact H

theorem sound_body (c : Dev nD) (t : Fin cfg0.N) :
    bodyPre m c t ⊢ wp frame (wpE (defs₀ (F := F)) Variants.none c none) Set.univ (cc0_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) (fun _ => bodyPost m c t) := by
  have h := (body_at m c t iprop(∃ r, prngReg c r) ((dats m 0 c).owesAt () t.castSucc)).out
  have hpost : bodyPost m c t = iprop(((Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9)) ∗ iprop(∃ r, prngReg c r)) ∗ (dats m 0 c).owesAt () t.castSucc ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ Held c (win0_11.stage (cfg0.slots t 11)) ∗ owns (c : Thread nD τ) (win0_12.stage (cfg0.slots t 12)) fullShare (narrowOut (iblk m c 7 t)) ∗ owns (c : Thread nD τ) (win0_13.stage (cfg0.slots t 13)) fullShare (narrowGate (iblk m c 8 t)) ∗ owns (c : Thread nD τ) (win0_14.stage (cfg0.slots t 14)) fullShare (narrowGate (iblk m c 9 t)) ∗ owns (c : Thread nD τ) (win0_15.stage (cfg0.slots t 15)) fullShare (narrowDown (iblk m c 10 t))) := by
    unfold bodyPost
    rw [show (dats m 0 c).Φ t.succ = Pipeline.ΦA spec0 c from rfl, phi_eq,
      show (dats m 0 c).owesAt () t.succ = (dats m 0 c).owesAt () t.castSucc from rfl]
    rfl
  rw [hpost]
  refine BIBase.Entails.trans ?_ h
  unfold bodyPre
  rw [show (dats m 0 c).Φ t.castSucc = Pipeline.ΦA spec0 c from rfl, phi_eq]
  refine Laws.sep_mono .rfl (Laws.sep_mono .rfl ?_)
  refine Laws.sep_mono (before_0 m c t) ?_
  refine Laws.sep_mono (before_1 m c t) ?_
  refine Laws.sep_mono (before_2 m c t) ?_
  refine Laws.sep_mono (before_3 m c t) ?_
  refine Laws.sep_mono (before_4 m c t) ?_
  refine Laws.sep_mono (before_5 m c t) ?_
  refine Laws.sep_mono (before_6 m c t) ?_
  refine Laws.sep_mono (before_7 m c t) ?_
  refine Laws.sep_mono (before_8 m c t) ?_
  refine Laws.sep_mono (before_9 m c t) ?_
  refine Laws.sep_mono (before_10 m c t) ?_
  refine Laws.sep_mono .rfl ?_
  refine Laws.sep_mono (before_12 m c t) ?_
  refine Laws.sep_mono (before_13 m c t) ?_
  refine Laws.sep_mono (before_14 m c t) ?_
  exact before_15 m c t

theorem body_obligation (c : Dev nD) :
    BodyObligation (dats (F := F) m 0 c) (defs₀ (F := F)) Variants.none () Set.univ forgets := fun t => by
  rw [bigSep_W0, bigSep_W0, row_at]
  exact triple_restated (sound_body m c t) rfl .rfl fun _ => .rfl

/-- The one buffer the line after the region writes. -/
theorem sfx_T : ∀ ops ∈ ([hostOps1] : List (List (HloOp τ sig (Elt F)))), ∀ op ∈ ops,
    ∀ b : Ref sig .tc, Proc.devRef .tc b ∈ op.writes → b ∈ ({main_v5} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  rw [Finset.mem_singleton]
  by_contra hne
  exact StableHlo.devRef_ne_of_ne hne hb

set_option backward.isDefEq.respectTransparency.types false in
/-- The call and the lines around it run to the end, with the arguments as they were, every counter at zero, and
    the four narrowed weights as the blocks leave them. -/
theorem run_narrows :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_v4_1) = (dats m 0 c).arrAt 12 cfg0.N
      ∧ r.2.mem ((c.tc : Thread nD τ).loc main_v4_2) = (dats m 0 c).arrAt 13 cfg0.N
      ∧ r.2.mem ((c.tc : Thread nD τ).loc main_v4_3) = (dats m 0 c).arrAt 14 cfg0.N
      ∧ r.2.mem ((c.tc : Thread nD τ).loc main_v4_4) = (dats m 0 c).arrAt 15 cfg0.N)
      ∧ r.2.sem = fun _ => 0) :=
  Pipeline.θ_run_frame_around_T_forget (Q' := _) cfgs (dats m) (0 : Fin 1) launch0 defs₀ Variants.none forgets {main_v5} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)
    (hQ' := fun r h => ⟨fun c => ⟨
      by
        have h0 := (h.1 c).1 0
        rw [Pipeline.RDat.ArrAt_in _ 0 rfl] at h0
        exact h0.trans ((A_eq m c 0).trans (V_main_arg0 m c)),
      by
        have h0 := (h.1 c).1 1
        rw [Pipeline.RDat.ArrAt_in _ 1 rfl] at h0
        exact h0.trans ((A_eq m c 1).trans (V_main_arg1 m c)),
      by
        have h0 := (h.1 c).1 2
        rw [Pipeline.RDat.ArrAt_in _ 2 rfl] at h0
        exact h0.trans ((A_eq m c 2).trans (V_main_arg2 m c)),
      by
        have h0 := (h.1 c).1 3
        rw [Pipeline.RDat.ArrAt_in _ 3 rfl] at h0
        exact h0.trans ((A_eq m c 3).trans (V_main_arg3 m c)),
      by
        have h0 := (h.1 c).1 4
        rw [Pipeline.RDat.ArrAt_in _ 4 rfl] at h0
        exact h0.trans ((A_eq m c 4).trans (V_main_arg4 m c)),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      by
        have h0 := (h.1 c).1 7
        rw [Pipeline.RDat.ArrAt_in _ 7 rfl] at h0
        exact h0.trans ((A_eq m c 7).trans (V_main_arg7 m c)),
      by
        have h0 := (h.1 c).1 8
        rw [Pipeline.RDat.ArrAt_in _ 8 rfl] at h0
        exact h0.trans ((A_eq m c 8).trans (V_main_arg8 m c)),
      by
        have h0 := (h.1 c).1 9
        rw [Pipeline.RDat.ArrAt_in _ 9 rfl] at h0
        exact h0.trans ((A_eq m c 9).trans (V_main_arg9 m c)),
      by
        have h0 := (h.1 c).1 10
        rw [Pipeline.RDat.ArrAt_in _ 10 rfl] at h0
        exact h0.trans ((A_eq m c 10).trans (V_main_arg10 m c)),
      (Dat.toRForget_arrAt_iff _ rfl _ _).mp ((h.1 c).1 12), (Dat.toRForget_arrAt_iff _ rfl _ _).mp ((h.1 c).1 13),
      (Dat.toRForget_arrAt_iff _ rfl _ _).mp ((h.1 c).1 14), (Dat.toRForget_arrAt_iff _ rfl _ _).mp ((h.1 c).1 15)⟩, h.2⟩)

/-- The call's frame. -/
theorem run_frame :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1⟩, h.2⟩) (run_narrows m ρ)

end Cert.KernelIdeal.Keep

end
-- ==== Proof.NarrowValue.lean ====
/- The four weights that the attention call narrows: what the run leaves of each is the layer's weight, rounded. -/
module

public import proofs.«01_k».proof.Proof.FrameKernelIdeal
public import proofs.«01_k».proof.Proof.Gen.ReferenceIdeal.Run
public import Idealize.ShloMosaic.Lib.Pipeline.ValueKit
public import Idealize.ShloMosaic.Lib.ValueLayout

@[expose] public section

noncomputable section

namespace Cert.KernelIdeal.Keep

open Idealize.ShloMosaic hiding ix2 ix3 eq_ix2
open Idealize.ShloMosaic.TcCoe Idealize.SL.Sem
open Idealize.ShloMosaic.ValueIdx (ix2 ix3 eq_ix2 shapeCast_1ab_ab_apply)
open Cert.KernelIdeal.Gen

variable {F : FTy → Type} [FloatOps F] [Named F] [∀ e, Nonempty (Elt F e)]
variable (m : (ℓ : Loc nD τ sig) → Buf (Elt F) ℓ)

/-- The first layer's weight, each entry rounded. -/
def layer {a b : ℕ} (x : FVec F ⟨3, ![2, a, b]⟩ .f32) : FVec F ⟨2, ![a, b]⟩ .bf16 :=
  fun i => FloatOps.truncf .bf16 bitsLt_bf16_f32 (x (ix3 0 (i 0) (i 1)))

/-- The slice and the cast of the reference, entry by entry. -/
theorem layer_of_slice {a b : ℕ} (x : FVec F ⟨3, ![2, a, b]⟩ .f32) (h : (⟨3, ![2, a, b]⟩ : Shape).Slices ![0, 0, 0] ⟨3, ![1, a, b]⟩)
    (h' : (⟨3, ![1, a, b]⟩ : Shape).ShapeCasts ⟨2, ![a, b]⟩) :
    truncf .bf16 (shapeCast ⟨2, ![a, b]⟩ (extractStridedSlice ⟨3, ![1, a, b]⟩ ![0, 0, 0] x h) h' : FVec F ⟨2, ![a, b]⟩ .f32) bitsLt_bf16_f32 = layer x := by
  funext i
  refine congrArg (FloatOps.truncf .bf16 bitsLt_bf16_f32) ?_
  rw [eq_ix2 i]
  refine (shapeCast_1ab_ab_apply _ _ _ _).trans ?_
  refine congrArg x (funext fun d => Fin.ext ?_)
  match d with
  | ⟨0, _⟩ => rfl
  | ⟨1, _⟩ => exact Nat.zero_add _
  | ⟨2, _⟩ => exact Nat.zero_add _

theorem idx7 : ∀ t : Fin cfg0.N, win0_7.index t (0 : Fin 3) = 0 ∧ win0_7.index t (1 : Fin 3) = win0_12.index t (0 : Fin 2)
    ∧ win0_7.index t (2 : Fin 3) = 0 ∧ win0_12.index t (1 : Fin 2) = 0 := (by decide +kernel : ∀ t : Fin grid0.N, _)

theorem final12 (c : Dev nD) : (dats m 0 c).arrAt 12 cfg0.N = layer (m ((c.tc : Thread nD τ).loc main_arg7)) := by
  refine (dats m 0 c).arrAt_eq_of_covers 12 _ (by decide +kernel) fun t _ y => ?_
  obtain ⟨e0, e1, e2, e3⟩ := idx7 t
  refine congrArg (FloatOps.truncf .bf16 bitsLt_bf16_f32) ?_
  obtain ⟨p, q, rfl⟩ : ∃ (p : Fin 16) (q : Fin 1024), y = ix2 p q := ⟨y 0, y 1, eq_ix2 y⟩
  refine (shapeCast_1ab_ab_apply _ _ _ _).trans ?_
  show V m c main_arg7 (((cfg0.win 7).blk t).view.emb (ix3 0 p q)) = _
  rw [V_main_arg7]
  refine congrArg (m ((c.tc : Thread nD τ).loc main_arg7)) (funext fun a => Fin.ext ?_)
  match a with
  | ⟨0, _⟩ => show win0_7.index t (0 : Fin 3) * 1 + 1 * 0 = 0; omega
  | ⟨1, _⟩ => show win0_7.index t (1 : Fin 3) * 16 + 1 * p.val = win0_12.index t (0 : Fin 2) * 16 + 1 * p.val; omega
  | ⟨2, _⟩ => show win0_7.index t (2 : Fin 3) * 1024 + 1 * q.val = win0_12.index t (1 : Fin 2) * 1024 + 1 * q.val; omega

theorem idx8 : ∀ t : Fin cfg0.N, win0_8.index t (0 : Fin 3) = 0 ∧ win0_8.index t (1 : Fin 3) = win0_13.index t (0 : Fin 2)
    ∧ win0_8.index t (2 : Fin 3) = 0 ∧ win0_13.index t (1 : Fin 2) = 0 := (by decide +kernel : ∀ t : Fin grid0.N, _)

theorem final13 (c : Dev nD) : (dats m 0 c).arrAt 13 cfg0.N = layer (m ((c.tc : Thread nD τ).loc main_arg8)) := by
  refine (dats m 0 c).arrAt_eq_of_covers 13 _ (by decide +kernel) fun t _ y => ?_
  obtain ⟨e0, e1, e2, e3⟩ := idx8 t
  refine congrArg (FloatOps.truncf .bf16 bitsLt_bf16_f32) ?_
  obtain ⟨p, q, rfl⟩ : ∃ (p : Fin 16) (q : Fin 2816), y = ix2 p q := ⟨y 0, y 1, eq_ix2 y⟩
  refine (shapeCast_1ab_ab_apply _ _ _ _).trans ?_
  show V m c main_arg8 (((cfg0.win 8).blk t).view.emb (ix3 0 p q)) = _
  rw [V_main_arg8]
  refine congrArg (m ((c.tc : Thread nD τ).loc main_arg8)) (funext fun a => Fin.ext ?_)
  match a with
  | ⟨0, _⟩ => show win0_8.index t (0 : Fin 3) * 1 + 1 * 0 = 0; omega
  | ⟨1, _⟩ => show win0_8.index t (1 : Fin 3) * 16 + 1 * p.val = win0_13.index t (0 : Fin 2) * 16 + 1 * p.val; omega
  | ⟨2, _⟩ => show win0_8.index t (2 : Fin 3) * 2816 + 1 * q.val = win0_13.index t (1 : Fin 2) * 2816 + 1 * q.val; omega

theorem idx9 : ∀ t : Fin cfg0.N, win0_9.index t (0 : Fin 3) = 0 ∧ win0_9.index t (1 : Fin 3) = win0_14.index t (0 : Fin 2)
    ∧ win0_9.index t (2 : Fin 3) = 0 ∧ win0_14.index t (1 : Fin 2) = 0 := (by decide +kernel : ∀ t : Fin grid0.N, _)

theorem final14 (c : Dev nD) : (dats m 0 c).arrAt 14 cfg0.N = layer (m ((c.tc : Thread nD τ).loc main_arg9)) := by
  refine (dats m 0 c).arrAt_eq_of_covers 14 _ (by decide +kernel) fun t _ y => ?_
  obtain ⟨e0, e1, e2, e3⟩ := idx9 t
  refine congrArg (FloatOps.truncf .bf16 bitsLt_bf16_f32) ?_
  obtain ⟨p, q, rfl⟩ : ∃ (p : Fin 16) (q : Fin 2816), y = ix2 p q := ⟨y 0, y 1, eq_ix2 y⟩
  refine (shapeCast_1ab_ab_apply _ _ _ _).trans ?_
  show V m c main_arg9 (((cfg0.win 9).blk t).view.emb (ix3 0 p q)) = _
  rw [V_main_arg9]
  refine congrArg (m ((c.tc : Thread nD τ).loc main_arg9)) (funext fun a => Fin.ext ?_)
  match a with
  | ⟨0, _⟩ => show win0_9.index t (0 : Fin 3) * 1 + 1 * 0 = 0; omega
  | ⟨1, _⟩ => show win0_9.index t (1 : Fin 3) * 16 + 1 * p.val = win0_14.index t (0 : Fin 2) * 16 + 1 * p.val; omega
  | ⟨2, _⟩ => show win0_9.index t (2 : Fin 3) * 2816 + 1 * q.val = win0_14.index t (1 : Fin 2) * 2816 + 1 * q.val; omega

theorem idx10 : ∀ t : Fin cfg0.N, win0_10.index t (0 : Fin 3) = 0 ∧ win0_10.index t (1 : Fin 3) = win0_15.index t (0 : Fin 2)
    ∧ win0_10.index t (2 : Fin 3) = 0 ∧ win0_15.index t (1 : Fin 2) = 0 := (by decide +kernel : ∀ t : Fin grid0.N, _)

theorem final15 (c : Dev nD) : (dats m 0 c).arrAt 15 cfg0.N = layer (m ((c.tc : Thread nD τ).loc main_arg10)) := by
  refine (dats m 0 c).arrAt_eq_of_covers 15 _ (by decide +kernel) fun t _ y => ?_
  obtain ⟨e0, e1, e2, e3⟩ := idx10 t
  refine congrArg (FloatOps.truncf .bf16 bitsLt_bf16_f32) ?_
  obtain ⟨p, q, rfl⟩ : ∃ (p : Fin 32) (q : Fin 1024), y = ix2 p q := ⟨y 0, y 1, eq_ix2 y⟩
  refine (shapeCast_1ab_ab_apply _ _ _ _).trans ?_
  show V m c main_arg10 (((cfg0.win 10).blk t).view.emb (ix3 0 p q)) = _
  rw [V_main_arg10]
  refine congrArg (m ((c.tc : Thread nD τ).loc main_arg10)) (funext fun a => Fin.ext ?_)
  match a with
  | ⟨0, _⟩ => show win0_10.index t (0 : Fin 3) * 1 + 1 * 0 = 0; omega
  | ⟨1, _⟩ => show win0_10.index t (1 : Fin 3) * 32 + 1 * p.val = win0_15.index t (0 : Fin 2) * 32 + 1 * p.val; omega
  | ⟨2, _⟩ => show win0_10.index t (2 : Fin 3) * 1024 + 1 * q.val = win0_15.index t (1 : Fin 2) * 1024 + 1 * q.val; omega

end Cert.KernelIdeal.Keep

end
-- ==== Proof.FfnRows.lean ====
/- The feed-forward block's payloads read one row at a time: what a half tile stores is one function of its row. -/
module

public import proofs.«01_k».proof.Proof.Gen.FfnIdeal.Value
public import Idealize.ShloMosaic.Lib.Pointwise

@[expose] public section

noncomputable section

namespace Cert.FfnIdeal.Rows

open Cert.FfnIdeal Cert.FfnIdeal.Gen Idealize.ShloMosaic Idealize.ShloMosaic.TcCoe

/-- A row of the model's width. -/
abbrev Row := Fin 1024 → EReal
/-- A row of the feed-forward width. -/
abbrev Wide := Fin 2816 → EReal

/-- The number of columns, as the printed constant. -/
def cols : EReal := Ideal.ofBits .f32 0x44800000#32
/-- The norm's small constant. -/
def eps : EReal := Ideal.ofBits .f32 0x3727C5AC#32
/-- The residual's factor. -/
def alpha : EReal := Ideal.ofBits .f32 0x3FB504F3#32

/-- A row's mean. -/
def mean (x : Row) : EReal := Ideal.div (∑ k : Fin 1024, x k) cols
/-- The layer norm of a row, at a column. -/
def norm (x g b : Row) : Row := fun j =>
  (x j - mean x) * Ideal.rsqrt (mean (fun k => (x k - mean x) * (x k - mean x)) + eps) * g j + b j
/-- A residual: the row scaled, and the update gated. -/
def resid (x gt u : Row) : Row := fun j => alpha * x j + (1 + gt j) * u j
/-- The first residual: the output projection of the heads' row. -/
def first (y x gt : Row) (wo : Fin 1024 → Row) : Row := resid x gt fun j => ∑ k : Fin 1024, y k * wo k j
/-- The modulated row. -/
def modul (x sc sh : Row) : Row := fun j => x j * (1 + sc j) + sh j
/-- One product with a wide matrix. -/
def wide (h : Row) (w : Fin 1024 → Wide) : Wide := fun j => ∑ k : Fin 1024, h k * w k j
/-- The gated unit. -/
def unit (g u : Wide) : Wide := fun j => g j * Ideal.div 1 (1 + Ideal.exp (0 - g j)) * u j
/-- The product back to the model's width. -/
def back (s : Wide) (w : Fin 2816 → Row) : Row := fun j => ∑ k : Fin 2816, s k * w k j
/-- The whole block, of one row. -/
def block (y x gt1 : Row) (wo : Fin 1024 → Row) (g1 b1 sc sh gt2 : Row) (wg wu : Fin 1024 → Wide) (wd : Fin 2816 → Row)
    (g2 b2 : Row) : Row :=
  norm (resid (norm (first y x gt1 wo) g1 b1) gt2
    (back (unit (wide (modul (norm (first y x gt1 wo) g1 b1) sc sh) wg) (wide (modul (norm (first y x gt1 wo) g1 b1) sc sh) wu)) wd)) g2 b2

/-! ## The first half tile -/

variable (v0 : Vec Ideal S1x1024x256 .bf16) (v2 : Vec Ideal S1024x1024 .bf16) (v8 : Vec Ideal S1x256x1024 .f32) (v12 : Vec Ideal S1x1x1024 .f32)
  (v19 v21 : Vec Ideal S1x1024 .f32)

theorem pay5_apply (r : Fin 256) (j : Fin 1024) :
    k0_pay5 v0 v2 v8 v12 (ix2 r j)
      = first (fun k => v0 (ix3 0 k r)) (fun k => v8 (ix3 0 r k)) (fun k => v12 (ix3 0 0 k)) (fun a b => v2 (ix2 a b)) j
        - mean (first (fun k => v0 (ix3 0 k r)) (fun k => v8 (ix3 0 r k)) (fun k => v12 (ix3 0 0 k)) (fun a b => v2 (ix2 a b))) := by
  unfold mean first resid cols alpha
  pointwise [k0_pay5, dot_S1024x256_S1024x1024_S256x1024_0_0_1_1_n_n]

theorem pay6_apply (r : Fin 256) :
    k0_pay6 v0 v2 v8 v12 (ix1 r) = ∑ k : Fin 1024, k0_pay5 v0 v2 v8 v12 (ix2 r k) * k0_pay5 v0 v2 v8 v12 (ix2 r k) := by
  pointwise [k0_pay6]

theorem pay7_apply (v20 v22 : FVec Ideal S1x1024 .f32) (v28 : FVec Ideal S256x1024 .f32) (v30 : FVec Ideal S256 .f32) (r : Fin 256) (j : Fin 1024) :
    k0_pay7 v20 v22 v28 v30 (ix2 r j)
      = v28 (ix2 r j) * Ideal.rsqrt (Ideal.div (v30 (ix1 r)) cols + eps) * v20 (ix2 0 j) + v22 (ix2 0 j) := by
  unfold cols eps
  pointwise [k0_pay7]

theorem pay8_apply (v20 v22 : FVec Ideal S1x1024 .f32) (v28 : FVec Ideal S256x1024 .f32) (v30 : FVec Ideal S256 .f32)
    (v43 v49 : Vec Ideal S1x1x1024 .f32) (r : Fin 256) (j : Fin 1024) :
    k0_pay8 v20 v22 v28 v30 v43 v49 (ix2 r j)
      = k0_pay7 v20 v22 v28 v30 (ix2 r j) * (1 + v43 (ix3 0 0 j)) + v49 (ix3 0 0 j) := by
  pointwise [k0_pay8]

theorem pay9_apply (v20 v22 : FVec Ideal S1x1024 .f32) (v28 : FVec Ideal S256x1024 .f32) (v30 : FVec Ideal S256 .f32)
    (v43 v49 : Vec Ideal S1x1x1024 .f32) (v54 : Vec Ideal S1024x2816 .bf16) (r : Fin 256) (j : Fin 2816) :
    k0_pay9 v20 v22 v28 v30 v43 v49 v54 (ix2 r j)
      = ∑ k : Fin 1024, k0_pay8 v20 v22 v28 v30 v43 v49 (ix2 r k) * v54 (ix2 k j) := by
  pointwise [k0_pay9, dot_S256x1024_S1024x2816_S256x2816_1_0_0_1_n_n]

theorem pay10_apply (v20 v22 : FVec Ideal S1x1024 .f32) (v28 : FVec Ideal S256x1024 .f32) (v30 : FVec Ideal S256 .f32)
    (v43 v49 : Vec Ideal S1x1x1024 .f32) (v54 : Vec Ideal S1024x2816 .bf16) (r : Fin 256) (j : Fin 2816) :
    k0_pay10 v20 v22 v28 v30 v43 v49 v54 (ix2 r j)
      = ∑ k : Fin 1024, k0_pay8 v20 v22 v28 v30 v43 v49 (ix2 r k) * v54 (ix2 k j) := by
  pointwise [k0_pay10, dot_S256x1024_S1024x2816_S256x2816_1_0_0_1_n_n]

theorem pay17_apply (v42 : FVec Ideal S256x1024 .f32) (v55 v57 : FVec Ideal S256x2816 .f32) (v118 : Vec Ideal S2816x1024 .bf16)
    (v134 : Vec Ideal S1x1x1024 .f32) (r : Fin 256) (j : Fin 1024) :
    k0_pay17 v42 v55 v57 v118 v134 (ix2 r j)
      = resid (fun k => v42 (ix2 r k)) (fun k => v134 (ix3 0 0 k))
          (back (unit (fun k => v55 (ix2 r k)) (fun k => v57 (ix2 r k))) (fun a b => v118 (ix2 a b))) j := by
  unfold resid back unit alpha
  pointwise [k0_pay17, dot_S256x2816_S2816x1024_S256x1024_1_0_0_1_n_n]

theorem pay20_apply (v140 : FVec Ideal S256x1024 .f32) (v142 v144 : FVec Ideal S1x1024 .f32) (r : Fin 256) (j : Fin 1024) :
    k0_pay20 v140 v142 v144 (ix3 0 r j)
      = norm (fun k => v140 (ix2 r k)) (fun k => v142 (ix2 0 k)) (fun k => v144 (ix2 0 k)) j := by
  unfold norm mean cols eps
  pointwise [k0_pay20]

/-! ## The second half tile -/

theorem pay2_apply (r : Fin 256) (j : Fin 1024) :
    k0_pay2 v0 v2 (ix2 r j) = ∑ k : Fin 1024, v0 (ix3 0 k r) * v2 (ix2 k j) := by
  pointwise [k0_pay2, dot_S1024x256_S1024x1024_S256x1024_0_0_1_1_n_n]

theorem pay11_apply (r : Fin 256) (j : Fin 1024) : k0_pay11 v8 (ix2 r j) = alpha * v8 (ix3 0 r j) := by
  unfold alpha
  pointwise [k0_pay11]

theorem pay12_apply (v7 : FVec Ideal S256x1024 .f32) (r : Fin 256) (j : Fin 1024) :
    k0_pay12 v7 v12 (ix2 r j) = (1 + v12 (ix3 0 0 j)) * v7 (ix2 r j) := by
  pointwise [k0_pay12]

theorem pay13_apply (v61 v67 : FVec Ideal S256x1024 .f32) (r : Fin 256) (j : Fin 1024) :
    k0_pay13 v61 v67 v19 v21 (ix2 r j)
      = norm (fun k => v61 (ix2 r k) + v67 (ix2 r k)) (fun k => v19 (ix2 0 k)) (fun k => v21 (ix2 0 k)) j := by
  unfold norm mean cols eps
  pointwise [k0_pay13]

theorem pay14_apply (v61 v67 : FVec Ideal S256x1024 .f32) (v93 v99 : Vec Ideal S1x1x1024 .f32) (r : Fin 256) (j : Fin 1024) :
    k0_pay14 v61 v67 v19 v21 v93 v99 (ix2 r j)
      = k0_pay13 v61 v67 v19 v21 (ix2 r j) * (1 + v93 (ix3 0 0 j)) + v99 (ix3 0 0 j) := by
  pointwise [k0_pay14]

theorem pay15_apply (v61 v67 : FVec Ideal S256x1024 .f32) (v93 v99 : Vec Ideal S1x1x1024 .f32) (v104 : Vec Ideal S1024x2816 .bf16)
    (r : Fin 256) (j : Fin 2816) :
    k0_pay15 v61 v67 v19 v21 v93 v99 v104 (ix2 r j)
      = ∑ k : Fin 1024, k0_pay14 v61 v67 v19 v21 v93 v99 (ix2 r k) * v104 (ix2 k j) := by
  pointwise [k0_pay15, dot_S256x1024_S1024x2816_S256x2816_1_0_0_1_n_n]

theorem pay16_apply (v103 : FVec Ideal S256x1024 .bf16) (v105 : FVec Ideal S256x2816 .f32) (v106 : Vec Ideal S1024x2816 .bf16)
    (v130 : Vec Ideal S2816x1024 .bf16) (r : Fin 256) (j : Fin 1024) :
    k0_pay16 v103 v105 v106 v130 (ix2 r j)
      = back (unit (fun k => v105 (ix2 r k)) (wide (fun k => v103 (ix2 r k)) (fun a b => v106 (ix2 a b)))) (fun a b => v130 (ix2 a b)) j := by
  unfold back unit wide
  pointwise [k0_pay16, dot_S256x1024_S1024x2816_S256x2816_1_0_0_1_n_n, dot_S256x2816_S2816x1024_S256x1024_1_0_0_1_n_n]

theorem pay21_apply (v92 v131 : FVec Ideal S256x1024 .f32) (v170 : Vec Ideal S1x1x1024 .f32) (r : Fin 256) (j : Fin 1024) :
    k0_pay21 v92 v131 v170 (ix2 r j)
      = resid (fun k => v92 (ix2 r k)) (fun k => v170 (ix3 0 0 k)) (fun k => v131 (ix2 r k)) j := by
  unfold resid alpha
  pointwise [k0_pay21]

theorem pay24_apply (v92 v131 : FVec Ideal S256x1024 .f32) (v170 : Vec Ideal S1x1x1024 .f32) (r : Fin 256) :
    k0_pay24 v92 v131 v170 (ix2 r 0) = mean (fun k => k0_pay21 v92 v131 v170 (ix2 r k)) := by
  unfold mean cols
  pointwise [k0_pay24]

theorem pay1_apply (v176 : FVec Ideal S256x1024 .f32) (v178 v180 : FVec Ideal S1x1024 .f32) (v184 : FVec Ideal S256x1 .f32) (r : Fin 256)
    (j : Fin 1024) (hm : v184 (ix2 r 0) = mean (fun k => v176 (ix2 r k))) :
    k0_pay1 v176 v178 v180 v184 (ix3 0 r j)
      = norm (fun k => v176 (ix2 r k)) (fun k => v178 (ix2 0 k)) (fun k => v180 (ix2 0 k)) j := by
  unfold norm
  rw [← hm]
  unfold mean cols eps
  pointwise [k0_pay1]

end Cert.FfnIdeal.Rows
end
-- ==== Proof.FfnBlock.lean ====
/- A block of the feed-forward call: both half tiles hold the same function of their rows. -/
module

public import proofs.«01_k».proof.Proof.FfnRows
public import Idealize.ShloMosaic.Lib.Pipeline.ValueKit

@[expose] public section

set_option maxRecDepth 16384

noncomputable section

namespace Cert.FfnIdeal.Rows

open Cert.FfnIdeal Cert.FfnIdeal.Gen Idealize.ShloMosaic Idealize.ShloMosaic.TcCoe

variable (y0 : Vec Ideal S1x1024x256 .bf16) (x1' : Vec Ideal S1x256x1024 .f32)
  (x2 : Vec Ideal S1x1x1024 .f32) (x3 : Vec Ideal S1024x1024 .bf16) (x4 x5 : Vec Ideal S1x1024 .f32)
  (x6 x7 x8 : Vec Ideal S1x1x1024 .f32) (x9 x10 : Vec Ideal S1024x2816 .bf16) (x11 : Vec Ideal S2816x1024 .bf16)
  (x12 x13 : Vec Ideal S1x1024 .f32)

/-- A row of the half tile. -/
def half (r : Fin 256) : Row :=
  block (fun k => y0 (ix3 0 k r)) (fun k => x1' (ix3 0 r k)) (fun k => x2 (ix3 0 0 k)) (fun a b => x3 (ix2 a b))
    (fun k => x4 (ix2 0 k)) (fun k => x5 (ix2 0 k)) (fun k => x6 (ix3 0 0 k)) (fun k => x7 (ix3 0 0 k)) (fun k => x8 (ix3 0 0 k))
    (fun a b => x9 (ix2 a b)) (fun a b => x10 (ix2 a b)) (fun a b => x11 (ix2 a b)) (fun k => x12 (ix2 0 k)) (fun k => x13 (ix2 0 k))

theorem pay3_eq (v : Vec Ideal S1x1024 .f32) (k : Fin 1024) : k0_pay3 v (ix2 0 k) = v (ix2 0 k) := by pointwise [k0_pay3]
theorem pay4_eq (v : Vec Ideal S1x1024 .f32) (k : Fin 1024) : k0_pay4 v (ix2 0 k) = v (ix2 0 k) := by pointwise [k0_pay4]
theorem pay18_eq (v : Vec Ideal S1x1024 .f32) (k : Fin 1024) : k0_pay18 v (ix2 0 k) = v (ix2 0 k) := by pointwise [k0_pay18]
theorem pay19_eq (v : Vec Ideal S1x1024 .f32) (k : Fin 1024) : k0_pay19 v (ix2 0 k) = v (ix2 0 k) := by pointwise [k0_pay19]
theorem pay22_eq (v : Vec Ideal S1x1024 .f32) (k : Fin 1024) : k0_pay22 v (ix2 0 k) = v (ix2 0 k) := by pointwise [k0_pay22]
theorem pay23_eq (v : Vec Ideal S1x1024 .f32) (k : Fin 1024) : k0_pay23 v (ix2 0 k) = v (ix2 0 k) := by pointwise [k0_pay23]

/-- The first half's first norm. -/
theorem low_norm (r : Fin 256) (j : Fin 1024) :
    k0_pay7 (k0_pay3 x4) (k0_pay4 x5) (k0_pay5 y0 x3 x1' x2) (k0_pay6 y0 x3 x1' x2) (ix2 r j)
      = norm (first (fun k => y0 (ix3 0 k r)) (fun k => x1' (ix3 0 r k)) (fun k => x2 (ix3 0 0 k)) (fun a b => x3 (ix2 a b)))
          (fun k => x4 (ix2 0 k)) (fun k => x5 (ix2 0 k)) j := by
  rw [pay7_apply, pay6_apply, pay3_eq, pay4_eq]
  simp only [pay5_apply]
  rfl

theorem low_apply (r : Fin 256) (j : Fin 1024) :
    k0_pay20 (k0_pay17 (k0_pay7 (k0_pay3 x4) (k0_pay4 x5) (k0_pay5 y0 x3 x1' x2) (k0_pay6 y0 x3 x1' x2))
        (k0_pay9 (k0_pay3 x4) (k0_pay4 x5) (k0_pay5 y0 x3 x1' x2) (k0_pay6 y0 x3 x1' x2) x6 x7 x9)
        (k0_pay10 (k0_pay3 x4) (k0_pay4 x5) (k0_pay5 y0 x3 x1' x2) (k0_pay6 y0 x3 x1' x2) x6 x7 x10) x11 x8)
      (k0_pay18 x12) (k0_pay19 x13) (ix3 0 r j)
      = half y0 x1' x2 x3 x4 x5 x6 x7 x8 x9 x10 x11 x12 x13 r j := by
  rw [pay20_apply]
  simp only [pay17_apply, pay18_eq, pay19_eq, pay9_apply, pay10_apply, pay8_apply, low_norm]
  rfl

/-- The second half's first norm. -/
theorem high_norm (r : Fin 256) (j : Fin 1024) :
    k0_pay13 (k0_pay11 x1') (k0_pay12 (k0_pay2 y0 x3) x2) x4 x5 (ix2 r j)
      = norm (first (fun k => y0 (ix3 0 k r)) (fun k => x1' (ix3 0 r k)) (fun k => x2 (ix3 0 0 k)) (fun a b => x3 (ix2 a b)))
          (fun k => x4 (ix2 0 k)) (fun k => x5 (ix2 0 k)) j := by
  rw [pay13_apply]
  simp only [pay11_apply, pay12_apply, pay2_apply]
  rfl

theorem high_apply (r : Fin 256) (j : Fin 1024) :
    k0_pay1 (k0_pay21 (k0_pay13 (k0_pay11 x1') (k0_pay12 (k0_pay2 y0 x3) x2) x4 x5)
        (k0_pay16 (k0_pay14 (k0_pay11 x1') (k0_pay12 (k0_pay2 y0 x3) x2) x4 x5 x6 x7)
          (k0_pay15 (k0_pay11 x1') (k0_pay12 (k0_pay2 y0 x3) x2) x4 x5 x6 x7 x9) x10 x11) x8)
      (k0_pay22 x12) (k0_pay23 x13)
      (k0_pay24 (k0_pay13 (k0_pay11 x1') (k0_pay12 (k0_pay2 y0 x3) x2) x4 x5)
        (k0_pay16 (k0_pay14 (k0_pay11 x1') (k0_pay12 (k0_pay2 y0 x3) x2) x4 x5 x6 x7)
          (k0_pay15 (k0_pay11 x1') (k0_pay12 (k0_pay2 y0 x3) x2) x4 x5 x6 x7 x9) x10 x11) x8) (ix3 0 r j)
      = half y0 x1' x2 x3 x4 x5 x6 x7 x8 x9 x10 x11 x12 x13 r j := by
  rw [pay1_apply _ _ _ _ _ _ (pay24_apply _ _ _ _)]
  simp only [pay21_apply, pay16_apply, pay22_eq, pay23_eq, pay15_apply, pay14_apply, high_norm]
  rfl

variable (x0 : Vec Ideal S1x1024x512 .bf16) (x1 : Vec Ideal S1x512x1024 .f32)

/-- A row of the whole block. -/
def row (r : Fin 512) : Row :=
  block (fun k => x0 (ix3 0 k r)) (fun k => x1 (ix3 0 r k)) (fun k => x2 (ix3 0 0 k)) (fun a b => x3 (ix2 a b))
    (fun k => x4 (ix2 0 k)) (fun k => x5 (ix2 0 k)) (fun k => x6 (ix3 0 0 k)) (fun k => x7 (ix3 0 0 k)) (fun k => x8 (ix3 0 0 k))
    (fun a b => x9 (ix2 a b)) (fun a b => x10 (ix2 a b)) (fun a b => x11 (ix2 a b)) (fun k => x12 (ix2 0 k)) (fun k => x13 (ix2 0 k))

theorem half_low (r : Fin 256) (s : Fin 512) (h : s.val = r.val) :
    half (View.ld x0 r0_0) (View.ld x1 r0_3) x2 x3 x4 x5 x6 x7 x8 x9 x10 x11 x12 x13 r
      = row x2 x3 x4 x5 x6 x7 x8 x9 x10 x11 x12 x13 x0 x1 s := by
  have e0 : ∀ k : Fin 1024, (View.ld x0 r0_0 : Vec Ideal S1x1024x256 .bf16) (ix3 0 k r) = x0 (ix3 0 k s) := fun k =>
    View.ld_unit_apply_of x0 _ _ _ _ _ fun a => by
      match a with
      | ⟨0, _⟩ => rfl
      | ⟨1, _⟩ => show k.val = 0 + k.val; omega
      | ⟨2, _⟩ => show s.val = 0 + r.val; omega
  have e1 : ∀ k : Fin 1024, (View.ld x1 r0_3 : Vec Ideal S1x256x1024 .f32) (ix3 0 r k) = x1 (ix3 0 s k) := fun k =>
    View.ld_unit_apply_of x1 _ _ _ _ _ fun a => by
      match a with
      | ⟨0, _⟩ => rfl
      | ⟨1, _⟩ => show s.val = 0 + r.val; omega
      | ⟨2, _⟩ => show k.val = 0 + k.val; omega
  unfold half row
  simp only [e0, e1]

theorem half_high (r : Fin 256) (s : Fin 512) (h : s.val = 256 + r.val) :
    half (View.ld x0 r0_2) (View.ld x1 r0_7) x2 x3 x4 x5 x6 x7 x8 x9 x10 x11 x12 x13 r
      = row x2 x3 x4 x5 x6 x7 x8 x9 x10 x11 x12 x13 x0 x1 s := by
  have e0 : ∀ k : Fin 1024, (View.ld x0 r0_2 : Vec Ideal S1x1024x256 .bf16) (ix3 0 k r) = x0 (ix3 0 k s) := fun k =>
    View.ld_unit_apply_of x0 _ _ _ _ _ fun a => by
      match a with
      | ⟨0, _⟩ => rfl
      | ⟨1, _⟩ => show k.val = 0 + k.val; omega
      | ⟨2, _⟩ => show s.val = 256 + r.val; omega
  have e1 : ∀ k : Fin 1024, (View.ld x1 r0_7 : Vec Ideal S1x256x1024 .f32) (ix3 0 r k) = x1 (ix3 0 s k) := fun k =>
    View.ld_unit_apply_of x1 _ _ _ _ _ fun a => by
      match a with
      | ⟨0, _⟩ => rfl
      | ⟨1, _⟩ => show s.val = 256 + r.val; omega
      | ⟨2, _⟩ => show k.val = 0 + k.val; omega
  unfold half row
  simp only [e0, e1]

theorem ld1 : View.ld x3 r0_1 = x3 := View.ld_unit_lit _ _ (by decide)
theorem ld4 (v : Vec Ideal S1x1x1024 .f32) : View.ld v r0_4 = v := View.ld_unit_lit _ _ (by decide)
theorem ld5 (v : Vec Ideal S1x1024 .f32) : View.ld v r0_5 = v := View.ld_unit_lit _ _ (by decide)
theorem ld6 (v : Vec Ideal S1024x2816 .bf16) : View.ld v r0_6 = v := View.ld_unit_lit _ _ (by decide)
theorem ld8 : View.ld x11 r0_8 = x11 := View.ld_unit_lit _ _ (by decide)

theorem off_high (r : Fin 512) (j : Fin 1024) (h : r.val < 256) : (ix3 0 r j : S1x512x1024.Idx) ∉ r0_7.set := fun hm => by
  have h1 := (Rect.mem_set_unit.mp hm (1 : Fin 3)).1
  have h2 : 256 ≤ r.val := h1
  omega

/-- What a point leaves in the result's buffer, at an index. -/
theorem out_apply (r : Fin 512) (j : Fin 1024) :
    out0_14 x0 x1 x2 x3 x4 x5 x6 x7 x8 x9 x10 x11 x12 x13 (ix3 0 r j)
      = row x2 x3 x4 x5 x6 x7 x8 x9 x10 x11 x12 x13 x0 x1 r j := by
  unfold out0_14 k0_pay31 k0_pay32 k0_pay25 k0_pay26 k0_pay27 k0_pay28 k0_pay29 k0_pay30
  rw [ld1 x3, ld4 x2, ld4 x6, ld4 x7, ld4 x8, ld5 x4, ld5 x5, ld5 x12, ld5 x13, ld6 x9, ld6 x10, ld8 x11]
  by_cases hr : 256 ≤ r.val
  · have hs : r.val - 256 < 256 := by have := r.isLt; omega
    have hi : (ix3 0 r j : S1x512x1024.Idx) = r0_7.emb (ix3 0 (⟨r.val - 256, hs⟩ : Fin 256) j) := by
      funext a; apply Fin.ext
      match a with
      | ⟨0, _⟩ => rfl
      | ⟨1, _⟩ => show r.val = 256 + 1 * (r.val - 256); omega
      | ⟨2, _⟩ => show j.val = 0 + 1 * j.val; omega
    rw [hi, View.canon_cons_emb]
    refine (high_apply ..).trans ?_
    exact congrFun (half_high x2 x3 x4 x5 x6 x7 x8 x9 x10 x11 x12 x13 x0 x1 ⟨r.val - 256, hs⟩ r (by show r.val = 256 + (r.val - 256); omega)) j
  · have hs : r.val < 256 := by omega
    have hi : (ix3 0 r j : S1x512x1024.Idx) = r0_3.emb (ix3 0 (⟨r.val, hs⟩ : Fin 256) j) := by
      funext a; apply Fin.ext
      match a with
      | ⟨0, _⟩ => rfl
      | ⟨1, _⟩ => show r.val = 0 + 1 * r.val; omega
      | ⟨2, _⟩ => show j.val = 0 + 1 * j.val; omega
    refine Eq.trans (View.canon_cons_of_not_mem _ _ ?_) ?_
    · exact off_high r j hs
    rw [hi, View.canon_cons_emb]
    refine (low_apply ..).trans ?_
    exact congrFun (half_low x2 x3 x4 x5 x6 x7 x8 x9 x10 x11 x12 x13 x0 x1 ⟨r.val, hs⟩ r rfl) j

end Cert.FfnIdeal.Rows
end
-- ==== Proof.FfnReference.lean ====
/- The feed-forward block's reference read one row at a time: the same function of a row. -/
module

public import proofs.«01_k».proof.Proof.FfnRows
public import proofs.«01_k».proof.Proof.Gen.FfnReferenceIdeal.Run

@[expose] public section

noncomputable section

namespace Cert.FfnReferenceIdeal.Rows

open Cert.FfnReferenceIdeal Cert.FfnReferenceIdeal.Gen Cert.FfnReferenceIdeal.Value Idealize.ShloMosaic Idealize.ShloMosaic.TcCoe
open Cert.FfnIdeal.Rows (Row Wide cols eps alpha mean norm resid first modul wide unit back block)

variable (V0 : Valuation τ sig (Elt Ideal))

/-- The arguments at their shapes. -/
abbrev a0 : FVec Ideal S8x1024x2048 .bf16 := V0 (Proc.devRef .tc main_arg0)
abbrev a1 : FVec Ideal S8x2048x1024 .f32 := V0 (Proc.devRef .tc main_arg1)
abbrev a2 : FVec Ideal S8x1x6144 .f32 := V0 (Proc.devRef .tc main_arg2)
abbrev a3 : FVec Ideal S1024x1024 .bf16 := V0 (Proc.devRef .tc main_arg3)
abbrev a4 : FVec Ideal S1024x2816 .bf16 := V0 (Proc.devRef .tc main_arg4)
abbrev a5 : FVec Ideal S1024x2816 .bf16 := V0 (Proc.devRef .tc main_arg5)
abbrev a6 : FVec Ideal S2816x1024 .bf16 := V0 (Proc.devRef .tc main_arg6)
abbrev a7 : FVec Ideal S1024 .f32 := V0 (Proc.devRef .tc main_arg7)
abbrev a8 : FVec Ideal S1024 .f32 := V0 (Proc.devRef .tc main_arg8)
abbrev a9 : FVec Ideal S1024 .f32 := V0 (Proc.devRef .tc main_arg9)
abbrev a10 : FVec Ideal S1024 .f32 := V0 (Proc.devRef .tc main_arg10)

/-- A row of the modulation, from a column on. -/
def mod (b : Fin 8) (o : ℕ) (h : o + 1024 ≤ 6144) : Row := fun j => a2 V0 (ix3 b 0 ⟨o + j.val, by have := j.isLt; omega⟩)

/-- The first residual's row. -/
def r1 (b : Fin 8) (r : Fin 2048) : Row :=
  first (fun k => a0 V0 (ix3 b k r)) (fun k => a1 V0 (ix3 b r k)) (mod V0 b 2048 (by decide)) (fun x y => a3 V0 (ix2 x y))

/-- The first norm's row. -/
def n1 (b : Fin 8) (r : Fin 2048) : Row := norm (r1 V0 b r) (fun k => a7 V0 (ix1 k)) (fun k => a8 V0 (ix1 k))

/-- The modulated row. -/
def h1 (b : Fin 8) (r : Fin 2048) : Row := modul (n1 V0 b r) (mod V0 b 4096 (by decide)) (mod V0 b 3072 (by decide))

/-- The second residual's row. -/
def r2 (b : Fin 8) (r : Fin 2048) : Row :=
  resid (n1 V0 b r) (mod V0 b 5120 (by decide))
    (back (unit (wide (h1 V0 b r) fun x y => a4 V0 (ix2 x y)) (wide (h1 V0 b r) fun x y => a5 V0 (ix2 x y))) fun x y => a6 V0 (ix2 x y))

theorem v19_apply (b : Fin 8) (r : Fin 2048) (j : Fin 1024) :
    (res_main_v19 V0 : FVec Ideal S8x2048x1024 .f32) (ix3 b r j) = r1 V0 b r j := by
  unfold r1 first resid alpha mod
  pointwise [res_main_v19, dot_S8x2048x1024_S1024x1024_S8x2048x1024_2_0_01_1_n_n]

theorem v23_apply (b : Fin 8) (r : Fin 2048) :
    (res_main_v23 V0 : FVec Ideal S8x2048x1 .f32) (ix3 b r 0) = mean (r1 V0 b r) := by
  unfold mean cols
  simp only [← v19_apply]
  pointwise [res_main_v23]

theorem v25_apply (b : Fin 8) (r : Fin 2048) (j : Fin 1024) :
    (res_main_v25 V0 : FVec Ideal S8x2048x1024 .f32) (ix3 b r j) = r1 V0 b r j - mean (r1 V0 b r) := by
  rw [← v19_apply, ← v23_apply]
  pointwise [res_main_v25]

theorem v43_apply (b : Fin 8) (r : Fin 2048) (j : Fin 1024) :
    (res_main_v43 V0 : FVec Ideal S8x2048x1024 .f32) (ix3 b r j) = n1 V0 b r j := by
  unfold n1 Cert.FfnIdeal.Rows.norm
  simp only [← v25_apply]
  unfold mean cols eps
  pointwise [res_main_v43, res_main_v25]

theorem v49_apply (b : Fin 8) (r : Fin 2048) (j : Fin 1024) :
    (res_main_v49 V0 : FVec Ideal S8x2048x1024 .f32) (ix3 b r j) = h1 V0 b r j := by
  unfold h1 modul mod
  simp only [← v43_apply]
  pointwise [res_main_v49]

theorem v50_apply (b : Fin 8) (r : Fin 2048) (j : Fin 2816) :
    (res_main_v50 V0 : FVec Ideal S8x2048x2816 .f32) (ix3 b r j) = wide (h1 V0 b r) (fun x y => a4 V0 (ix2 x y)) j := by
  unfold wide
  simp only [← v49_apply]
  pointwise [res_main_v50, dot_S8x2048x1024_S1024x2816_S8x2048x2816_2_0_01_1_n_n]

theorem v61_apply (b : Fin 8) (r : Fin 2048) (j : Fin 1024) :
    (res_main_v61 V0 : FVec Ideal S8x2048x1024 .f32) (ix3 b r j) = r2 V0 b r j := by
  unfold r2 resid back unit
  simp only [← v50_apply, ← v43_apply]
  unfold wide alpha mod
  simp only [← v49_apply, zero_sub]
  pointwise [res_main_v61, dot_S8x2048x1024_S1024x2816_S8x2048x2816_2_0_01_1_n_n, dot_S8x2048x2816_S2816x1024_S8x2048x1024_2_0_01_1_n_n]

theorem v65_apply (b : Fin 8) (r : Fin 2048) :
    (res_main_v65 V0 : FVec Ideal S8x2048x1 .f32) (ix3 b r 0) = mean (r2 V0 b r) := by
  unfold mean cols
  simp only [← v61_apply]
  pointwise [res_main_v65]

theorem v67_apply (b : Fin 8) (r : Fin 2048) (j : Fin 1024) :
    (res_main_v67 V0 : FVec Ideal S8x2048x1024 .f32) (ix3 b r j) = r2 V0 b r j - mean (r2 V0 b r) := by
  rw [← v61_apply, ← v65_apply]
  pointwise [res_main_v67]

/-- The result of the reference, as the run states it. -/
def result : FVec Ideal S8x2048x1024 .f32 :=
  addf (mulf (mulf (subf (res_main_v61 V0) (broadcastInDim S8x2048x1024 ![0, 1, 2] bcast_S8x2048x1_S8x2048x1024_0_1_2 (res_main_v65 V0))) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v67 V0) (res_main_v67 V0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 (V0 (Proc.devRef .tc main_arg9))))) (broadcastInDim S8x2048x1024 ![0, 1, 2] bcast_S1x1x1024_S8x2048x1024_0_1_2 (broadcastInDim S1x1x1024 ![2] bcast_S1024_S1x1x1024_2 (V0 (Proc.devRef .tc main_arg10))))

theorem result_apply (b : Fin 8) (r : Fin 2048) (j : Fin 1024) :
    result V0 (ix3 b r j) = norm (r2 V0 b r) (fun k => a9 V0 (ix1 k)) (fun k => a10 V0 (ix1 k)) j := by
  unfold Cert.FfnIdeal.Rows.norm
  simp only [← v67_apply]
  unfold mean cols eps
  pointwise [result, res_main_v67]

end Cert.FfnReferenceIdeal.Rows
end
-- ==== Proof.FfnValue.lean ====
/- The feed-forward call's result as one function of its arguments, and the reference's: the same. -/
module

public import proofs.«01_k».proof.Proof.FfnBlock
public import proofs.«01_k».proof.Proof.FfnReference

@[expose] public section

set_option maxRecDepth 16384

noncomputable section

namespace Cert.FfnIdeal.Rows

open Cert.FfnIdeal Cert.FfnIdeal.Gen Idealize.ShloMosaic Idealize.ShloMosaic.TcCoe Idealize.SL.Sem

variable (m : (ℓ : Loc nD τ sig) → Buf (Elt Ideal) ℓ) (ρ : Dev nD → PrngReg) (c : Dev nD)

/-! ## The arrays that the host prepares -/

theorem V_v2 : V m c main_v2 = extractStridedSlice S8x1x1024 ![0, 0, 2048] (m ((c : Thread nD τ).loc main_arg2)) slices_S8x1x6144_S8x1x1024_0_0_2048 := by
  show StableHlo.after hostOps0 (fun b => m (c, b)) (Proc.devRef .tc main_v2) = _
  after_results
theorem V_v3 : V m c main_v3 = extractStridedSlice S8x1x1024 ![0, 0, 3072] (m ((c : Thread nD τ).loc main_arg2)) slices_S8x1x6144_S8x1x1024_0_0_3072 := by
  show StableHlo.after hostOps0 (fun b => m (c, b)) (Proc.devRef .tc main_v3) = _
  after_results
theorem V_v4 : V m c main_v4 = extractStridedSlice S8x1x1024 ![0, 0, 4096] (m ((c : Thread nD τ).loc main_arg2)) slices_S8x1x6144_S8x1x1024_0_0_4096 := by
  show StableHlo.after hostOps0 (fun b => m (c, b)) (Proc.devRef .tc main_v4) = _
  after_results
theorem V_v5 : V m c main_v5 = extractStridedSlice S8x1x1024 ![0, 0, 5120] (m ((c : Thread nD τ).loc main_arg2)) slices_S8x1x6144_S8x1x1024_0_0_5120 := by
  show StableHlo.after hostOps0 (fun b => m (c, b)) (Proc.devRef .tc main_v5) = _
  after_results
theorem V_v6 : V m c main_v6 = shapeCast S1x1024 (m ((c : Thread nD τ).loc main_arg7)) shapeCasts_S1024_S1x1024 := by
  show StableHlo.after hostOps0 (fun b => m (c, b)) (Proc.devRef .tc main_v6) = _
  after_results
  rfl
theorem V_v7 : V m c main_v7 = shapeCast S1x1024 (m ((c : Thread nD τ).loc main_arg8)) shapeCasts_S1024_S1x1024 := by
  show StableHlo.after hostOps0 (fun b => m (c, b)) (Proc.devRef .tc main_v7) = _
  after_results
  rfl
theorem V_v8 : V m c main_v8 = shapeCast S1x1024 (m ((c : Thread nD τ).loc main_arg9)) shapeCasts_S1024_S1x1024 := by
  show StableHlo.after hostOps0 (fun b => m (c, b)) (Proc.devRef .tc main_v8) = _
  after_results
  rfl
theorem V_v9 : V m c main_v9 = shapeCast S1x1024 (m ((c : Thread nD τ).loc main_arg10)) shapeCasts_S1024_S1x1024 := by
  show StableHlo.after hostOps0 (fun b => m (c, b)) (Proc.devRef .tc main_v9) = _
  after_results
  rfl

/-! ## The blocks -/

theorem idx0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx14 : ∀ t : Fin cfg0.N, win0_14.index t (0 : Fin 3) = t.val / 4 ∧ win0_14.index t (1 : Fin 3) = t.val % 4 ∧ win0_14.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val / 4 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)

/-- The arguments at their shapes. -/
abbrev a0 : FVec Ideal S8x1024x2048 .bf16 := m ((c : Thread nD τ).loc main_arg0)
abbrev a1 : FVec Ideal S8x2048x1024 .f32 := m ((c : Thread nD τ).loc main_arg1)
abbrev a2 : FVec Ideal S8x1x6144 .f32 := m ((c : Thread nD τ).loc main_arg2)
abbrev a3 : FVec Ideal S1024x1024 .bf16 := m ((c : Thread nD τ).loc main_arg3)
abbrev a4 : FVec Ideal S1024x2816 .bf16 := m ((c : Thread nD τ).loc main_arg4)
abbrev a5 : FVec Ideal S1024x2816 .bf16 := m ((c : Thread nD τ).loc main_arg5)
abbrev a6 : FVec Ideal S2816x1024 .bf16 := m ((c : Thread nD τ).loc main_arg6)
abbrev a7 : FVec Ideal S1024 .f32 := m ((c : Thread nD τ).loc main_arg7)
abbrev a8 : FVec Ideal S1024 .f32 := m ((c : Thread nD τ).loc main_arg8)
abbrev a9 : FVec Ideal S1024 .f32 := m ((c : Thread nD τ).loc main_arg9)
abbrev a10 : FVec Ideal S1024 .f32 := m ((c : Thread nD τ).loc main_arg10)

/-- A row of the modulation, from a column on. -/
def mod (b : Fin 8) (o : ℕ) (h : o + 1024 ≤ 6144) : Row := fun j => a2 m c (ix3 b 0 ⟨o + j.val, by have := j.isLt; omega⟩)

section
variable (t : Fin cfg0.N) (b : Fin 8) (hb : b.val = t.val / 4)
include hb

theorem blk0 (k : Fin 1024) (r : Fin 512) (s : Fin 2048) (hs : s.val = 512 * (t.val % 4) + r.val) :
    (iblk m c 0 t : Vec Ideal S1x1024x512 .bf16) (ix3 0 k r) = a0 m c (ix3 b k s) := by
  obtain ⟨e0, e1, e2⟩ := idx0 t
  show V m c main_arg0 (((cfg0.win 0).blk t).view.emb (ix3 0 k r)) = _
  rw [V_main_arg0]
  refine congrArg (a0 m c) (funext fun a => Fin.ext ?_)
  match a with
  | ⟨0, _⟩ => show win0_0.index t (0 : Fin 3) * 1 + 1 * 0 = b.val; omega
  | ⟨1, _⟩ => show win0_0.index t (1 : Fin 3) * 1024 + 1 * k.val = k.val; omega
  | ⟨2, _⟩ => show win0_0.index t (2 : Fin 3) * 512 + 1 * r.val = s.val; omega

theorem blk1 (k : Fin 1024) (r : Fin 512) (s : Fin 2048) (hs : s.val = 512 * (t.val % 4) + r.val) :
    (iblk m c 1 t : Vec Ideal S1x512x1024 .f32) (ix3 0 r k) = a1 m c (ix3 b s k) := by
  obtain ⟨e0, e1, e2⟩ := idx1 t
  show V m c main_arg1 (((cfg0.win 1).blk t).view.emb (ix3 0 r k)) = _
  rw [V_main_arg1]
  refine congrArg (a1 m c) (funext fun a => Fin.ext ?_)
  match a with
  | ⟨0, _⟩ => show win0_1.index t (0 : Fin 3) * 1 + 1 * 0 = b.val; omega
  | ⟨1, _⟩ => show win0_1.index t (1 : Fin 3) * 512 + 1 * r.val = s.val; omega
  | ⟨2, _⟩ => show win0_1.index t (2 : Fin 3) * 1024 + 1 * k.val = k.val; omega

theorem blk2 (k : Fin 1024) : (iblk m c 2 t : Vec Ideal S1x1x1024 .f32) (ix3 0 0 k) = mod m c b 2048 (by decide) k := by
  obtain ⟨e0, e1, e2⟩ := idx2 t
  show V m c main_v2 (((cfg0.win 2).blk t).view.emb (ix3 0 0 k)) = _
  rw [V_v2]
  refine congrArg (a2 m c) (funext fun a => Fin.ext ?_)
  match a with
  | ⟨0, _⟩ => show 0 + (win0_2.index t (0 : Fin 3) * 1 + 1 * 0) = b.val; omega
  | ⟨1, _⟩ => show 0 + (win0_2.index t (1 : Fin 3) * 1 + 1 * 0) = 0; omega
  | ⟨2, _⟩ => show 2048 + (win0_2.index t (2 : Fin 3) * 1024 + 1 * k.val) = 2048 + k.val; omega

theorem blk6 (k : Fin 1024) : (iblk m c 6 t : Vec Ideal S1x1x1024 .f32) (ix3 0 0 k) = mod m c b 4096 (by decide) k := by
  obtain ⟨e0, e1, e2⟩ := idx6 t
  show V m c main_v4 (((cfg0.win 6).blk t).view.emb (ix3 0 0 k)) = _
  rw [V_v4]
  refine congrArg (a2 m c) (funext fun a => Fin.ext ?_)
  match a with
  | ⟨0, _⟩ => show 0 + (win0_6.index t (0 : Fin 3) * 1 + 1 * 0) = b.val; omega
  | ⟨1, _⟩ => show 0 + (win0_6.index t (1 : Fin 3) * 1 + 1 * 0) = 0; omega
  | ⟨2, _⟩ => show 4096 + (win0_6.index t (2 : Fin 3) * 1024 + 1 * k.val) = 4096 + k.val; omega

theorem blk7 (k : Fin 1024) : (iblk m c 7 t : Vec Ideal S1x1x1024 .f32) (ix3 0 0 k) = mod m c b 3072 (by decide) k := by
  obtain ⟨e0, e1, e2⟩ := idx7 t
  show V m c main_v3 (((cfg0.win 7).blk t).view.emb (ix3 0 0 k)) = _
  rw [V_v3]
  refine congrArg (a2 m c) (funext fun a => Fin.ext ?_)
  match a with
  | ⟨0, _⟩ => show 0 + (win0_7.index t (0 : Fin 3) * 1 + 1 * 0) = b.val; omega
  | ⟨1, _⟩ => show 0 + (win0_7.index t (1 : Fin 3) * 1 + 1 * 0) = 0; omega
  | ⟨2, _⟩ => show 3072 + (win0_7.index t (2 : Fin 3) * 1024 + 1 * k.val) = 3072 + k.val; omega

theorem blk8 (k : Fin 1024) : (iblk m c 8 t : Vec Ideal S1x1x1024 .f32) (ix3 0 0 k) = mod m c b 5120 (by decide) k := by
  obtain ⟨e0, e1, e2⟩ := idx8 t
  show V m c main_v5 (((cfg0.win 8).blk t).view.emb (ix3 0 0 k)) = _
  rw [V_v5]
  refine congrArg (a2 m c) (funext fun a => Fin.ext ?_)
  match a with
  | ⟨0, _⟩ => show 0 + (win0_8.index t (0 : Fin 3) * 1 + 1 * 0) = b.val; omega
  | ⟨1, _⟩ => show 0 + (win0_8.index t (1 : Fin 3) * 1 + 1 * 0) = 0; omega
  | ⟨2, _⟩ => show 5120 + (win0_8.index t (2 : Fin 3) * 1024 + 1 * k.val) = 5120 + k.val; omega

end

variable (t : Fin cfg0.N)

theorem emb3 (z : S1024x1024.Idx) : ((cfg0.win 3).blk t).view.emb z = z := by
  obtain ⟨e0, e1⟩ := idx3 t
  funext a; apply Fin.ext
  match a with
  | ⟨0, _⟩ => show win0_3.index t (0 : Fin 2) * 1024 + 1 * (z 0).val = (z 0).val; omega
  | ⟨1, _⟩ => show win0_3.index t (1 : Fin 2) * 1024 + 1 * (z 1).val = (z 1).val; omega

theorem emb4 (z : S1x1024.Idx) : ((cfg0.win 4).blk t).view.emb z = z := by
  obtain ⟨e0, e1⟩ := idx4 t
  funext a; apply Fin.ext
  match a with
  | ⟨0, _⟩ => show win0_4.index t (0 : Fin 2) * 1 + 1 * (z 0).val = (z 0).val; omega
  | ⟨1, _⟩ => show win0_4.index t (1 : Fin 2) * 1024 + 1 * (z 1).val = (z 1).val; omega

theorem emb5 (z : S1x1024.Idx) : ((cfg0.win 5).blk t).view.emb z = z := by
  obtain ⟨e0, e1⟩ := idx5 t
  funext a; apply Fin.ext
  match a with
  | ⟨0, _⟩ => show win0_5.index t (0 : Fin 2) * 1 + 1 * (z 0).val = (z 0).val; omega
  | ⟨1, _⟩ => show win0_5.index t (1 : Fin 2) * 1024 + 1 * (z 1).val = (z 1).val; omega

theorem emb12 (z : S1x1024.Idx) : ((cfg0.win 12).blk t).view.emb z = z := by
  obtain ⟨e0, e1⟩ := idx12 t
  funext a; apply Fin.ext
  match a with
  | ⟨0, _⟩ => show win0_12.index t (0 : Fin 2) * 1 + 1 * (z 0).val = (z 0).val; omega
  | ⟨1, _⟩ => show win0_12.index t (1 : Fin 2) * 1024 + 1 * (z 1).val = (z 1).val; omega

theorem emb13 (z : S1x1024.Idx) : ((cfg0.win 13).blk t).view.emb z = z := by
  obtain ⟨e0, e1⟩ := idx13 t
  funext a; apply Fin.ext
  match a with
  | ⟨0, _⟩ => show win0_13.index t (0 : Fin 2) * 1 + 1 * (z 0).val = (z 0).val; omega
  | ⟨1, _⟩ => show win0_13.index t (1 : Fin 2) * 1024 + 1 * (z 1).val = (z 1).val; omega

theorem emb9 (z : S1024x2816.Idx) : ((cfg0.win 9).blk t).view.emb z = z := by
  obtain ⟨e0, e1⟩ := idx9 t
  funext a; apply Fin.ext
  match a with
  | ⟨0, _⟩ => show win0_9.index t (0 : Fin 2) * 1024 + 1 * (z 0).val = (z 0).val; omega
  | ⟨1, _⟩ => show win0_9.index t (1 : Fin 2) * 2816 + 1 * (z 1).val = (z 1).val; omega

theorem emb10 (z : S1024x2816.Idx) : ((cfg0.win 10).blk t).view.emb z = z := by
  obtain ⟨e0, e1⟩ := idx10 t
  funext a; apply Fin.ext
  match a with
  | ⟨0, _⟩ => show win0_10.index t (0 : Fin 2) * 1024 + 1 * (z 0).val = (z 0).val; omega
  | ⟨1, _⟩ => show win0_10.index t (1 : Fin 2) * 2816 + 1 * (z 1).val = (z 1).val; omega

theorem emb11 (z : S2816x1024.Idx) : ((cfg0.win 11).blk t).view.emb z = z := by
  obtain ⟨e0, e1⟩ := idx11 t
  funext a; apply Fin.ext
  match a with
  | ⟨0, _⟩ => show win0_11.index t (0 : Fin 2) * 2816 + 1 * (z 0).val = (z 0).val; omega
  | ⟨1, _⟩ => show win0_11.index t (1 : Fin 2) * 1024 + 1 * (z 1).val = (z 1).val; omega

/-- A vector laid as one row. -/
theorem cast_row (x : FVec Ideal S1024 .f32) (k : Fin 1024) : shapeCast S1x1024 x shapeCasts_S1024_S1x1024 (ix2 0 k) = x (ix1 k) := by
  pointwise []

theorem blk3 : (iblk m c 3 t : Vec Ideal S1024x1024 .bf16) = a3 m c := by
  funext z
  show V m c main_arg3 (((cfg0.win 3).blk t).view.emb z) = _
  rw [emb3, V_main_arg3]

theorem blk9 : (iblk m c 9 t : Vec Ideal S1024x2816 .bf16) = a4 m c := by
  funext z
  show V m c main_arg4 (((cfg0.win 9).blk t).view.emb z) = _
  rw [emb9, V_main_arg4]

theorem blk10 : (iblk m c 10 t : Vec Ideal S1024x2816 .bf16) = a5 m c := by
  funext z
  show V m c main_arg5 (((cfg0.win 10).blk t).view.emb z) = _
  rw [emb10, V_main_arg5]

theorem blk11 : (iblk m c 11 t : Vec Ideal S2816x1024 .bf16) = a6 m c := by
  funext z
  show V m c main_arg6 (((cfg0.win 11).blk t).view.emb z) = _
  rw [emb11, V_main_arg6]

theorem blk4 (k : Fin 1024) : (iblk m c 4 t : Vec Ideal S1x1024 .f32) (ix2 0 k) = a7 m c (ix1 k) := by
  show V m c main_v6 (((cfg0.win 4).blk t).view.emb (ix2 0 k)) = _
  rw [emb4, V_v6]
  exact cast_row (a7 m c) k

theorem blk5 (k : Fin 1024) : (iblk m c 5 t : Vec Ideal S1x1024 .f32) (ix2 0 k) = a8 m c (ix1 k) := by
  show V m c main_v7 (((cfg0.win 5).blk t).view.emb (ix2 0 k)) = _
  rw [emb5, V_v7]
  exact cast_row (a8 m c) k

theorem blk12 (k : Fin 1024) : (iblk m c 12 t : Vec Ideal S1x1024 .f32) (ix2 0 k) = a9 m c (ix1 k) := by
  show V m c main_v8 (((cfg0.win 12).blk t).view.emb (ix2 0 k)) = _
  rw [emb12, V_v8]
  exact cast_row (a9 m c) k

theorem blk13 (k : Fin 1024) : (iblk m c 13 t : Vec Ideal S1x1024 .f32) (ix2 0 k) = a10 m c (ix1 k) := by
  show V m c main_v9 (((cfg0.win 13).blk t).view.emb (ix2 0 k)) = _
  rw [emb13, V_v9]
  exact cast_row (a10 m c) k

/-! ## The result -/

/-- The result at an index, of the arguments. -/
def value (b : Fin 8) (s : Fin 2048) : Row :=
  block (fun k => a0 m c (ix3 b k s)) (fun k => a1 m c (ix3 b s k)) (mod m c b 2048 (by decide)) (fun x y => a3 m c (ix2 x y))
    (fun k => a7 m c (ix1 k)) (fun k => a8 m c (ix1 k)) (mod m c b 4096 (by decide)) (mod m c b 3072 (by decide))
    (mod m c b 5120 (by decide)) (fun x y => a4 m c (ix2 x y)) (fun x y => a5 m c (ix2 x y)) (fun x y => a6 m c (ix2 x y))
    (fun k => a9 m c (ix1 k)) (fun k => a10 m c (ix1 k))

/-- The result array after the run, at an index. -/
theorem final_apply (b : Fin 8) (s : Fin 2048) (j : Fin 1024) :
    ((dats m 0 c).arrAt 14 cfg0.N : FVec Ideal S8x2048x1024 .f32) (ix3 b s j) = value m c b s j := by
  have hN : cfg0.N = 32 := by decide
  have hlt : b.val * 4 + s.val / 512 < cfg0.N := by have := b.isLt; have := s.isLt; omega
  obtain ⟨t, ht⟩ : ∃ t : Fin cfg0.N, t.val = b.val * 4 + s.val / 512 := ⟨⟨_, hlt⟩, rfl⟩
  have hb : b.val = t.val / 4 := by have := s.isLt; omega
  obtain ⟨r, hr⟩ : ∃ r : Fin 512, r.val = s.val % 512 := ⟨⟨_, Nat.mod_lt _ (by decide)⟩, rfl⟩
  have hs : s.val = 512 * (t.val % 4) + r.val := by have := s.isLt; omega
  obtain ⟨e0, e1, e2⟩ := idx14 t
  have hi : (ix3 b s j : S8x2048x1024.Idx) = ((cfg0.win 14).blk t).view.emb (ix3 0 r j : S1x512x1024.Idx) := by
    funext a; apply Fin.ext
    match a with
    | ⟨0, _⟩ => show b.val = win0_14.index t (0 : Fin 3) * 1 + 1 * 0; omega
    | ⟨1, _⟩ => show s.val = win0_14.index t (1 : Fin 3) * 512 + 1 * r.val; omega
    | ⟨2, _⟩ => show j.val = win0_14.index t (2 : Fin 3) * 1024 + 1 * j.val; omega
  have h := congrFun (Cert.FfnIdeal.Value.blocks14 m c t (flush0_14 t)) (ix3 0 r j : S1x512x1024.Idx)
  rw [Cert.FfnIdeal.Value.flushed14] at h
  rw [hi]
  refine h.trans ?_
  refine (out_apply (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 0 t) (iblk m c 1 t) r j).trans ?_
  unfold row value
  simp only [blk0 m c t b hb _ r s hs, blk1 m c t b hb _ r s hs, blk2 m c t b hb, blk6 m c t b hb, blk7 m c t b hb, blk8 m c t b hb,
    blk3 m c t, blk4 m c t, blk5 m c t, blk9 m c t, blk10 m c t, blk11 m c t, blk12 m c t, blk13 m c t]

/-- Any array with these elements is the result. -/
theorem final_eq (X : FVec Ideal S8x2048x1024 .f32) (h : ∀ b s j, X (ix3 b s j) = value m c b s j) :
    ((dats m 0 c).arrAt 14 cfg0.N : FVec Ideal S8x2048x1024 .f32) = X := by
  have key : ∀ i : S8x2048x1024.Idx, ((dats m 0 c).arrAt 14 cfg0.N : FVec Ideal S8x2048x1024 .f32) i = X i := fun i => by
    obtain ⟨b, s, j, rfl⟩ : ∃ (b : Fin 8) (s : Fin 2048) (j : Fin 1024), i = ix3 b s j :=
      ⟨i 0, i 1, i 2, funext fun a => by match a with | ⟨0, _⟩ => rfl | ⟨1, _⟩ => rfl | ⟨2, _⟩ => rfl⟩
    exact (final_apply m c b s j).trans (h b s j).symm
  exact funext key

/-- The reference's result has these elements, when its arguments are the call's. -/
theorem reference_apply (V0 : Valuation Cert.FfnReferenceIdeal.τ Cert.FfnReferenceIdeal.sig (Elt Ideal))
    (e0 : Cert.FfnReferenceIdeal.Rows.a0 V0 = a0 m c) (e1 : Cert.FfnReferenceIdeal.Rows.a1 V0 = a1 m c)
    (e2 : Cert.FfnReferenceIdeal.Rows.a2 V0 = a2 m c) (e3 : Cert.FfnReferenceIdeal.Rows.a3 V0 = a3 m c)
    (e4 : Cert.FfnReferenceIdeal.Rows.a4 V0 = a4 m c) (e5 : Cert.FfnReferenceIdeal.Rows.a5 V0 = a5 m c)
    (e6 : Cert.FfnReferenceIdeal.Rows.a6 V0 = a6 m c) (e7 : Cert.FfnReferenceIdeal.Rows.a7 V0 = a7 m c)
    (e8 : Cert.FfnReferenceIdeal.Rows.a8 V0 = a8 m c) (e9 : Cert.FfnReferenceIdeal.Rows.a9 V0 = a9 m c)
    (e10 : Cert.FfnReferenceIdeal.Rows.a10 V0 = a10 m c) (b : Fin 8) (s : Fin 2048) (j : Fin 1024) :
    Cert.FfnReferenceIdeal.Rows.result V0 (ix3 b s j) = value m c b s j := by
  rw [Cert.FfnReferenceIdeal.Rows.result_apply]
  unfold Cert.FfnReferenceIdeal.Rows.r2 Cert.FfnReferenceIdeal.Rows.h1 Cert.FfnReferenceIdeal.Rows.n1 Cert.FfnReferenceIdeal.Rows.r1
    Cert.FfnReferenceIdeal.Rows.mod
  rw [e0, e1, e2, e3, e4, e5, e6, e7, e8, e9, e10]
  rfl

end Cert.FfnIdeal.Rows
end
-- ==== Proof.AdalnValue.lean ====
/- The modulation's call: each block it writes, and the reference, as one function of the arguments. -/
module

public import proofs.«01_k».proof.Proof.Gen.AdalnIdeal.Value
public import proofs.«01_k».proof.Proof.Gen.AdalnReferenceIdeal.Run
public import Idealize.ShloMosaic.Lib.Pointwise
public import Idealize.ShloMosaic.Lib.Pipeline.ValueKit

@[expose] public section

noncomputable section

namespace Cert.AdalnIdeal.Rows

open Cert.AdalnIdeal Cert.AdalnIdeal.Gen Idealize.ShloMosaic Idealize.ShloMosaic.TcCoe Idealize.SL.Sem

/-- The gated condition. -/
def act (x : EReal) : EReal := x * Ideal.div 1 (1 + Ideal.exp (0 - x))

theorem pay1_apply (v0 : Vec Ideal S8x1024 .f32) (v10 : Vec Ideal S1x1024x1024 .f32) (v14 : Vec Ideal S1x1x1024 .f32) (b : Fin 8) (j : Fin 1024) :
    k0_pay1 v0 v10 v14 (ix3 0 b j) = (∑ k : Fin 1024, act (v0 (ix2 b k)) * v10 (ix3 0 k j)) + v14 (ix3 0 0 j) := by
  unfold act
  pointwise [k0_pay1, dot_S8x1024_S1024x1024_S8x1024_1_0_0_1_n_n]

variable (m : (ℓ : Loc nD τ sig) → Buf (Elt Ideal) ℓ) (c : Dev nD)

/-- The arguments at their shapes. -/
abbrev a0 : FVec Ideal S8x1024 .f32 := m ((c : Thread nD τ).loc main_arg0)
abbrev a1 : FVec Ideal S2x1024x6144 .f32 := m ((c : Thread nD τ).loc main_arg1)
abbrev a2 : FVec Ideal S2x6144 .f32 := m ((c : Thread nD τ).loc main_arg2)

theorem V_v0 : V m c main_v0 = shapeCast S2x1x6144 (m ((c : Thread nD τ).loc main_arg2)) shapeCasts_S2x6144_S2x1x6144 := by
  show StableHlo.after hostOps0 (fun b => m (c, b)) (Proc.devRef .tc main_v0) = _
  after_results
  rfl

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = t.val / 6 ∧ win0_1.index t (1 : Fin 3) = 0 ∧ win0_1.index t (2 : Fin 3) = t.val % 6 :=
  (by decide +kernel : ∀ t : Fin grid0.N, _)
theorem idx2 : ∀ t : Fin cfg0.N, win0_2.index t (0 : Fin 3) = t.val / 6 ∧ win0_2.index t (1 : Fin 3) = 0 ∧ win0_2.index t (2 : Fin 3) = t.val % 6 :=
  (by decide +kernel : ∀ t : Fin grid0.N, _)
theorem idx3 : ∀ t : Fin cfg0.N, win0_3.index t (0 : Fin 3) = t.val / 6 ∧ win0_3.index t (1 : Fin 3) = 0 ∧ win0_3.index t (2 : Fin 3) = t.val % 6 :=
  (by decide +kernel : ∀ t : Fin grid0.N, _)

/-- A matrix laid with a unit axis in the middle. -/
theorem cast_mid (x : FVec Ideal S2x6144 .f32) (l : Fin 2) (e : Fin 6144) :
    shapeCast S2x1x6144 x shapeCasts_S2x6144_S2x1x6144 (ix3 l 0 e) = x (ix2 l e) := by
  pointwise []

theorem blk0 (t : Fin cfg0.N) (b : Fin 8) (k : Fin 1024) : (iblk m c 0 t : Vec Ideal S8x1024 .f32) (ix2 b k) = a0 m c (ix2 b k) := by
  obtain ⟨e0, e1⟩ := idx0 t
  show V m c main_arg0 (((cfg0.win 0).blk t).view.emb (ix2 b k)) = _
  rw [V_main_arg0]
  refine congrArg (a0 m c) (funext fun a => Fin.ext ?_)
  match a with
  | ⟨0, _⟩ => show win0_0.index t (0 : Fin 2) * 8 + 1 * b.val = b.val; omega
  | ⟨1, _⟩ => show win0_0.index t (1 : Fin 2) * 1024 + 1 * k.val = k.val; omega

section
variable (t : Fin cfg0.N) (l : Fin 2) (hl : l.val = t.val / 6) (j : Fin 1024) (e : Fin 6144) (he : e.val = 1024 * (t.val % 6) + j.val)
include hl he

theorem blk1 (k : Fin 1024) : (iblk m c 1 t : Vec Ideal S1x1024x1024 .f32) (ix3 0 k j) = a1 m c (ix3 l k e) := by
  obtain ⟨e0, e1, e2⟩ := idx1 t
  show V m c main_arg1 (((cfg0.win 1).blk t).view.emb (ix3 0 k j)) = _
  rw [V_main_arg1]
  refine congrArg (a1 m c) (funext fun a => Fin.ext ?_)
  match a with
  | ⟨0, _⟩ => show win0_1.index t (0 : Fin 3) * 1 + 1 * 0 = l.val; omega
  | ⟨1, _⟩ => show win0_1.index t (1 : Fin 3) * 1024 + 1 * k.val = k.val; omega
  | ⟨2, _⟩ => show win0_1.index t (2 : Fin 3) * 1024 + 1 * j.val = e.val; omega

theorem blk2 : (iblk m c 2 t : Vec Ideal S1x1x1024 .f32) (ix3 0 0 j) = a2 m c (ix2 l e) := by
  obtain ⟨e0, e1, e2⟩ := idx2 t
  show V m c main_v0 (((cfg0.win 2).blk t).view.emb (ix3 0 0 j)) = _
  rw [V_v0]
  refine Eq.trans (congrArg (shapeCast S2x1x6144 (a2 m c) shapeCasts_S2x6144_S2x1x6144) (funext fun a => Fin.ext ?_)) (cast_mid (a2 m c) l e)
  match a with
  | ⟨0, _⟩ => show win0_2.index t (0 : Fin 3) * 1 + 1 * 0 = l.val; omega
  | ⟨1, _⟩ => show win0_2.index t (1 : Fin 3) * 1 + 1 * 0 = 0; omega
  | ⟨2, _⟩ => show win0_2.index t (2 : Fin 3) * 1024 + 1 * j.val = e.val; omega

end

/-- The modulation at an index, of the arguments. -/
def value (l : Fin 2) (b : Fin 8) (e : Fin 6144) : EReal :=
  (∑ k : Fin 1024, act (a0 m c (ix2 b k)) * a1 m c (ix3 l k e)) + a2 m c (ix2 l e)

theorem out_apply (x0 : Vec Ideal S8x1024 .f32) (x1 : Vec Ideal S1x1024x1024 .f32) (x2 : Vec Ideal S1x1x1024 .f32) (b : Fin 8) (j : Fin 1024) :
    out0_3 x0 x1 x2 (ix3 0 b j) = (∑ k : Fin 1024, act (x0 (ix2 b k)) * x1 (ix3 0 k j)) + x2 (ix3 0 0 j) := by
  unfold out0_3
  rw [show View.ld x0 r0_0 = x0 from View.ld_unit_lit _ _ (by decide), show View.ld x1 r0_1 = x1 from View.ld_unit_lit _ _ (by decide),
    show View.ld x2 r0_2 = x2 from View.ld_unit_lit _ _ (by decide)]
  have hi : (ix3 0 b j : S1x8x1024.Idx) = r0_3.emb (ix3 0 b j) := by
    funext a; apply Fin.ext
    match a with
    | ⟨0, _⟩ => rfl
    | ⟨1, _⟩ => show b.val = 0 + 1 * b.val; omega
    | ⟨2, _⟩ => show j.val = 0 + 1 * j.val; omega
  rw [hi, View.canon_cons_emb]
  exact pay1_apply x0 x1 x2 b j

/-- The result array after the run, at an index. -/
theorem final_apply (l : Fin 2) (b : Fin 8) (e : Fin 6144) :
    ((dats m 0 c).arrAt 3 cfg0.N : FVec Ideal S2x8x6144 .f32) (ix3 l b e) = value m c l b e := by
  have hN : cfg0.N = 12 := by decide
  have hlt : l.val * 6 + e.val / 1024 < cfg0.N := by have := l.isLt; have := e.isLt; omega
  obtain ⟨t, ht⟩ : ∃ t : Fin cfg0.N, t.val = l.val * 6 + e.val / 1024 := ⟨⟨_, hlt⟩, rfl⟩
  have hl : l.val = t.val / 6 := by have := e.isLt; omega
  obtain ⟨j, hj⟩ : ∃ j : Fin 1024, j.val = e.val % 1024 := ⟨⟨_, Nat.mod_lt _ (by decide)⟩, rfl⟩
  have he : e.val = 1024 * (t.val % 6) + j.val := by have := e.isLt; omega
  obtain ⟨e0, e1, e2⟩ := idx3 t
  have hi : (ix3 l b e : S2x8x6144.Idx) = ((cfg0.win 3).blk t).view.emb (ix3 0 b j : S1x8x1024.Idx) := by
    funext a; apply Fin.ext
    match a with
    | ⟨0, _⟩ => show l.val = win0_3.index t (0 : Fin 3) * 1 + 1 * 0; omega
    | ⟨1, _⟩ => show b.val = win0_3.index t (1 : Fin 3) * 8 + 1 * b.val; omega
    | ⟨2, _⟩ => show e.val = win0_3.index t (2 : Fin 3) * 1024 + 1 * j.val; omega
  have h := congrFun (Cert.AdalnIdeal.Value.blocks3 m c t (flush0_3 t)) (ix3 0 b j : S1x8x1024.Idx)
  rw [Cert.AdalnIdeal.Value.flushed3] at h
  rw [hi]
  refine h.trans ?_
  refine (out_apply (iblk m c 0 t) (iblk m c 1 t) (iblk m c 2 t) b j).trans ?_
  unfold value
  simp only [blk0 m c t, blk1 m c t l hl j e he, blk2 m c t l hl j e he]

/-- Any array with these elements is the result. -/
theorem final_eq (X : FVec Ideal S2x8x6144 .f32) (h : ∀ l b e, X (ix3 l b e) = value m c l b e) :
    ((dats m 0 c).arrAt 3 cfg0.N : FVec Ideal S2x8x6144 .f32) = X := by
  have key : ∀ i : S2x8x6144.Idx, ((dats m 0 c).arrAt 3 cfg0.N : FVec Ideal S2x8x6144 .f32) i = X i := fun i => by
    obtain ⟨l, b, e, rfl⟩ : ∃ (l : Fin 2) (b : Fin 8) (e : Fin 6144), i = ix3 l b e :=
      ⟨i 0, i 1, i 2, funext fun a => by match a with | ⟨0, _⟩ => rfl | ⟨1, _⟩ => rfl | ⟨2, _⟩ => rfl⟩
    exact (final_apply m c l b e).trans (h l b e).symm
  exact funext key

end Cert.AdalnIdeal.Rows

namespace Cert.AdalnReferenceIdeal.Rows

open Cert.AdalnReferenceIdeal Cert.AdalnReferenceIdeal.Gen Idealize.ShloMosaic
open Cert.AdalnIdeal.Rows (act)

/-- The reference's result, as its run states it. -/
def result (a0 : FVec Ideal S8x1024 .f32) (a1 : FVec Ideal S2x1024x6144 .f32) (a2 : FVec Ideal S2x6144 .f32) : FVec Ideal S2x8x6144 .f32 :=
  addf (transpose S2x8x6144 [0, 2, 1] (Host.dotGeneral dot_S2x1024x6144_S8x1024_S2x6144x8_1_1_02_0_n_n none a1 (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0)))))) transposes_S2x6144x8_S2x8x6144_0_2_1) (broadcastInDim S2x8x6144 ![0, 1, 2] bcast_S2x1x6144_S2x8x6144_0_1_2 (broadcastInDim S2x1x6144 ![0, 2] bcast_S2x6144_S2x1x6144_0_2 a2))

theorem result_apply (a0 : FVec Ideal S8x1024 .f32) (a1 : FVec Ideal S2x1024x6144 .f32) (a2 : FVec Ideal S2x6144 .f32)
    (l : Fin 2) (b : Fin 8) (e : Fin 6144) :
    result a0 a1 a2 (ix3 l b e) = (∑ k : Fin 1024, act (a0 (ix2 b k)) * a1 (ix3 l k e)) + a2 (ix2 l e) := by
  unfold act
  simp only [zero_sub, mul_comm _ (a1 _)]
  pointwise [result, dot_S2x1024x6144_S8x1024_S2x6144x8_1_1_02_0_n_n]

end Cert.AdalnReferenceIdeal.Rows
end
-- ==== Proof.lean ====
/- The proof of the claims: the frames of the attention, feed-forward and modulation calls, at any floats and over the extended
   reals, the weights that the attention call narrows, and the values of the other two calls. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Ffn.Frame
public import proofs.«01_k».proof.Proof.Gen.FfnIdeal.Value
public import proofs.«01_k».proof.Proof.Gen.FfnReferenceIdeal.Run
public import proofs.«01_k».proof.Proof.Gen.Adaln.Frame
public import proofs.«01_k».proof.Proof.Gen.AdalnIdeal.Value
public import proofs.«01_k».proof.Proof.Gen.AdalnReferenceIdeal.Run
public import proofs.«01_k».proof.Proof.FrameKernel
public import proofs.«01_k».proof.Proof.FrameKernelIdeal
public import proofs.«01_k».proof.Proof.NarrowValue
public import proofs.«01_k».proof.Proof.FfnValue
public import proofs.«01_k».proof.Proof.AdalnValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

/-- The attention call runs to the end and leaves its arguments and counters. -/
theorem frame_p : Cert.quiescent_Kernel := fun m ρ _ => Cert.Kernel.Keep.run_frame m ρ

theorem frame_pi : Cert.quiescent_KernelIdeal := fun m ρ _ => Cert.KernelIdeal.Keep.run_frame m ρ

theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The one named constant of the attention call. -/
theorem preserves : Cert.preserves_Kernel_KernelIdeal :=
  IdealRules.named_const.statement Cert.KernelIdeal.κ "mask" .f32 0xF149F2CA#32 ⊥ rfl

theorem mask_facts : Cert.On_weights.Facts where
  bcast_S_S8x512x2048 := by decide
  bcast_S_S1024x1024 := by decide
  bcast_S_S1024x2816 := by decide
  bcast_S_S2816x1024 := by decide

section Weights

local instance : Cert.On_weights.Facts := mask_facts

/-- The attention call narrows the layer's four weights as the reference does. -/
theorem algebraic : Cert.algebraic_KernelIdeal_ReferenceIdeal_on_weights := by
  intro m ρ m' ρ' _ hagree
  refine ⟨fun c => m' ((c.tc : Thread Cert.ReferenceIdeal.nD Cert.ReferenceIdeal.τ).loc Cert.ReferenceIdeal.main_v84),
    fun c => Cert.KernelIdeal.Keep.layer (F := Ideal) (a := 1024) (b := 1024) (m ((c.tc : Thread Cert.KernelIdeal.nD Cert.KernelIdeal.τ).loc Cert.KernelIdeal.main_arg7)),
    fun c => Cert.KernelIdeal.Keep.layer (F := Ideal) (a := 1024) (b := 2816) (m ((c.tc : Thread Cert.KernelIdeal.nD Cert.KernelIdeal.τ).loc Cert.KernelIdeal.main_arg8)),
    fun c => Cert.KernelIdeal.Keep.layer (F := Ideal) (a := 1024) (b := 2816) (m ((c.tc : Thread Cert.KernelIdeal.nD Cert.KernelIdeal.τ).loc Cert.KernelIdeal.main_arg9)),
    fun c => Cert.KernelIdeal.Keep.layer (F := Ideal) (a := 2816) (b := 1024) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Keep.run_narrows (F := Ideal) m ρ)
    obtain ⟨h0, h1, h2, h3, h4, h5, h6, h7, h8, h9, h10, w1, w2, w3, w4⟩ := h.1 c
    exact ⟨fun i hi => absurd (show (0#1 : BitVec 1) = 1#1 from hi) (by decide),
      fun i _ => congrFun (w1.trans (Cert.KernelIdeal.Keep.final12 m c)) i,
      fun i _ => congrFun (w2.trans (Cert.KernelIdeal.Keep.final13 m c)) i,
      fun i _ => congrFun (w3.trans (Cert.KernelIdeal.Keep.final14 m c)) i,
      fun i _ => congrFun (w4.trans (Cert.KernelIdeal.Keep.final15 m c)) i,
      h0, h1, h2, h3, h4, h5, h6, h7, h8, h9, h10⟩
  · refine (θ_run Cert.ReferenceIdeal.defs _ _).mono (fun r h c => ?_) (Cert.ReferenceIdeal.Value.run (F := Ideal) m' ρ')
    obtain ⟨_, w1, w2, w3, w4, hargs⟩ := h c
    obtain ⟨_, _, _, _, _, _, _, e7, e8, e9, e10⟩ := hagree c
    exact ⟨fun i hi => absurd (show (0#1 : BitVec 1) = 1#1 from hi) (by decide),
      fun i _ => congrFun (w1.trans ((Cert.KernelIdeal.Keep.layer_of_slice _ _ _).trans (congrArg Cert.KernelIdeal.Keep.layer e7))) i,
      fun i _ => congrFun (w2.trans ((Cert.KernelIdeal.Keep.layer_of_slice _ _ _).trans (congrArg Cert.KernelIdeal.Keep.layer e8))) i,
      fun i _ => congrFun (w3.trans ((Cert.KernelIdeal.Keep.layer_of_slice _ _ _).trans (congrArg Cert.KernelIdeal.Keep.layer e9))) i,
      fun i _ => congrFun (w4.trans ((Cert.KernelIdeal.Keep.layer_of_slice _ _ _).trans (congrArg Cert.KernelIdeal.Keep.layer e10))) i,
      hargs⟩

end Weights

theorem frame_p2 : Cert.quiescent_Ffn := fun m ρ _ => Cert.Ffn.Gen.frame m ρ

theorem frame_pi2 : Cert.quiescent_FfnIdeal := fun m ρ _ => Cert.FfnIdeal.Gen.frame m ρ

theorem frame_ri2 : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The feed-forward call ends with the reference's array. -/
theorem algebraic2 : Cert.algebraic_FfnIdeal_FfnReferenceIdeal := by
  intro m ρ m' ρ' _ hagree
  refine ⟨_, Cert.FfnIdeal.Value.run_blocks (F := Ideal) m ρ, ?_⟩
  refine (θ_run Cert.FfnReferenceIdeal.defs _ _).mono (fun _ h c => ⟨(h c).1.trans ?_, (h c).2⟩)
    (Cert.FfnReferenceIdeal.Value.run (F := Ideal) m' ρ')
  obtain ⟨e0, e1, e2, e3, e4, e5, e6, e7, e8, e9, e10⟩ := hagree c
  exact (Cert.FfnIdeal.Rows.final_eq m c (Cert.FfnReferenceIdeal.Rows.result (launchContents m' c))
    (Cert.FfnIdeal.Rows.reference_apply m c (launchContents m' c) e0 e1 e2 e3 e4 e5 e6 e7 e8 e9 e10)).symm

theorem frame_p3 : Cert.quiescent_Adaln := fun m ρ _ => Cert.Adaln.Gen.frame m ρ

theorem frame_pi3 : Cert.quiescent_AdalnIdeal := fun m ρ _ => Cert.AdalnIdeal.Gen.frame m ρ

theorem frame_ri3 : Cert.quiescent_AdalnReferenceIdeal := fun m ρ _ =>
  (θ_run Cert.AdalnReferenceIdeal.defs _ _).mono (fun r h => ⟨fun c => (h c).2, sem_eq_zero_of_no_sems (by decide) r.2⟩)
    (Cert.AdalnReferenceIdeal.Value.run (F := Ideal) m ρ)

/-- The modulation's call ends with the reference's array. -/
theorem algebraic3 : Cert.algebraic_AdalnIdeal_AdalnReferenceIdeal := by
  intro m ρ m' ρ' _ hagree
  refine ⟨_, Cert.AdalnIdeal.Value.run_blocks (F := Ideal) m ρ, ?_⟩
  refine (θ_run Cert.AdalnReferenceIdeal.defs _ _).mono (fun _ h c => ⟨(h c).1.trans ?_, (h c).2⟩)
    (Cert.AdalnReferenceIdeal.Value.run (F := Ideal) m' ρ')
  obtain ⟨e0, e1, e2⟩ := hagree c
  rw [e0, e1, e2]
  exact (Cert.AdalnIdeal.Rows.final_eq m c _ fun l b e =>
    Cert.AdalnReferenceIdeal.Rows.result_apply (Cert.AdalnIdeal.Rows.a0 m c) (Cert.AdalnIdeal.Rows.a1 m c) (Cert.AdalnIdeal.Rows.a2 m c) l b e).symm

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Adaln.Gen.facts, Cert.AdalnIdeal.Gen.facts, Cert.AdalnReferenceIdeal.Gen.facts, mask_facts,
    frame_p, frame_pi, frame_ri, frame_p2, frame_pi2, frame_ri2, frame_p3, frame_pi3, frame_ri3, preserves, algebraic,
    trivial, algebraic2, trivial, algebraic3⟩

end Cert.Proof

end
